-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite [hPre_finite : Cert.Pre_finite.Facts] (m : (ℓ : Loc Cert.FfnIdeal.nD Cert.FfnIdeal.τ Cert.FfnIdeal.sig) → Buf (Elt Ideal) ℓ) : Prop :=
  ∀ c : Dev Cert.FfnIdeal.nD,
    (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite [hPre_finite : Cert.Pre_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Half (m : (ℓ : Loc Cert.Half.nD Cert.Half.τ Cert.Half.sig) → Buf (Elt Bits) ℓ) : Prop :=
  True

def Pre_HalfIdeal (m : (ℓ : Loc Cert.HalfIdeal.nD Cert.HalfIdeal.τ Cert.HalfIdeal.sig) → Buf (Elt Ideal) ℓ) : Prop :=
  True

def Pre_HalfRefIdeal (m : (ℓ : Loc Cert.HalfRefIdeal.nD Cert.HalfRefIdeal.τ Cert.HalfRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_finite [hFfnIdeal : Cert.FfnIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_finite [hFfnRefIdeal : Cert.FfnRefIdeal.Facts] [hPre_finite : Cert.Pre_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_Half [hHalf : Cert.Half.Facts] : Prop :=
  ∀ (m : (ℓ : Loc Cert.Half.nD Cert.Half.τ Cert.Half.sig) → Buf (Elt Bits) ℓ) (g : Dev Cert.Half.nD → PrngReg), Pre_Half m →
    θ_run (Cert.Half.defs (F := Bits)) (onTc (τ := Cert.Half.τ) (Cert.Half.main (F := Bits))) ⟨m, fun _ => 0, g⟩ (fun r => (∀ c : Dev Cert.Half.nD,
      r.2.mem ((c.tc : Thread Cert.Half.nD Cert.Half.τ).loc Cert.Half.main_arg0) = m ((c.tc : Thread Cert.Half.nD Cert.Half.τ).loc Cert.Half.main_arg0)
      ∧ r.2.mem ((c.tc : Thread Cert.Half.nD Cert.Half.τ).loc Cert.Half.main_arg1) = m ((c.tc : Thread Cert.Half.nD Cert.Half.τ).loc Cert.Half.main_arg1))
      ∧ r.2.sem = fun _ => 0)

def quiescent_HalfIdeal [hHalfIdeal : Cert.HalfIdeal.Facts] : Prop :=
  ∀ (m : (ℓ : Loc Cert.HalfIdeal.nD Cert.HalfIdeal.τ Cert.HalfIdeal.sig) → Buf (Elt Ideal) ℓ) (g : Dev Cert.HalfIdeal.nD → PrngReg), Pre_HalfIdeal m →
    θ_run (Cert.HalfIdeal.defs (F := Ideal)) (onTc (τ := Cert.HalfIdeal.τ) (Cert.HalfIdeal.main (F := Ideal))) ⟨m, fun _ => 0, g⟩ (fun r => (∀ c : Dev Cert.HalfIdeal.nD,
      r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
      ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1))
      ∧ r.2.sem = fun _ => 0)

def quiescent_HalfRefIdeal [hHalfRefIdeal : Cert.HalfRefIdeal.Facts] : Prop :=
  ∀ (m : (ℓ : Loc Cert.HalfRefIdeal.nD Cert.HalfRefIdeal.τ Cert.HalfRefIdeal.sig) → Buf (Elt Ideal) ℓ) (g : Dev Cert.HalfRefIdeal.nD → PrngReg), Pre_HalfRefIdeal m →
    θ_run (Cert.HalfRefIdeal.defs (F := Ideal)) (onTc (τ := Cert.HalfRefIdeal.τ) (Cert.HalfRefIdeal.main (F := Ideal))) ⟨m, fun _ => 0, g⟩ (fun r => (∀ c : Dev Cert.HalfRefIdeal.nD,
      r.2.mem ((c.tc : Thread Cert.HalfRefIdeal.nD Cert.HalfRefIdeal.τ).loc Cert.HalfRefIdeal.main_arg0) = m ((c.tc : Thread Cert.HalfRefIdeal.nD Cert.HalfRefIdeal.τ).loc Cert.HalfRefIdeal.main_arg0)
      ∧ r.2.mem ((c.tc : Thread Cert.HalfRefIdeal.nD Cert.HalfRefIdeal.τ).loc Cert.HalfRefIdeal.main_arg1) = m ((c.tc : Thread Cert.HalfRefIdeal.nD Cert.HalfRefIdeal.τ).loc Cert.HalfRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6)
      ∧ r.2.mem ((c.tc : Thread Cert.Norm.nD Cert.Norm.τ).loc Cert.Norm.main_arg7) = m ((c.tc : Thread Cert.Norm.nD Cert.Norm.τ).loc Cert.Norm.main_arg7)
      ∧ r.2.mem ((c.tc : Thread Cert.Norm.nD Cert.Norm.τ).loc Cert.Norm.main_arg8) = m ((c.tc : Thread Cert.Norm.nD Cert.Norm.τ).loc Cert.Norm.main_arg8))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
      ∧ r.2.mem ((c.tc : Thread Cert.NormIdeal.nD Cert.NormIdeal.τ).loc Cert.NormIdeal.main_arg8) = m ((c.tc : Thread Cert.NormIdeal.nD Cert.NormIdeal.τ).loc Cert.NormIdeal.main_arg8))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6)
      ∧ r.2.mem ((c.tc : Thread Cert.NormRefIdeal.nD Cert.NormRefIdeal.τ).loc Cert.NormRefIdeal.main_arg7) = m ((c.tc : Thread Cert.NormRefIdeal.nD Cert.NormRefIdeal.τ).loc Cert.NormRefIdeal.main_arg7)
      ∧ r.2.mem ((c.tc : Thread Cert.NormRefIdeal.nD Cert.NormRefIdeal.τ).loc Cert.NormRefIdeal.main_arg8) = m ((c.tc : Thread Cert.NormRefIdeal.nD Cert.NormRefIdeal.τ).loc Cert.NormRefIdeal.main_arg8))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)) (v2 : (c : Dev Cert.KernelIdeal.nD) → Buf (Elt Ideal) ((c.tc : Thread Cert.KernelIdeal.nD Cert.KernelIdeal.τ).loc Cert.KernelIdeal.main_v51_2)) (v3 : (c : Dev Cert.KernelIdeal.nD) → Buf (Elt Ideal) ((c.tc : Thread Cert.KernelIdeal.nD Cert.KernelIdeal.τ).loc Cert.KernelIdeal.main_v51_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_v51_2) = v2 c
          ∧ r.2.mem ((c.tc : Thread Cert.KernelIdeal.nD Cert.KernelIdeal.τ).loc Cert.KernelIdeal.main_v51_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_v145) = v2 c
          ∧ r.2.mem ((c.tc : Thread Cert.ReferenceIdeal.nD Cert.ReferenceIdeal.τ).loc Cert.ReferenceIdeal.main_v152) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnRefIdeal_pre_finite [hFfnIdeal : Cert.FfnIdeal.Facts] [hFfnRefIdeal : Cert.FfnRefIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v7)) (v1 : (c : Dev Cert.FfnIdeal.nD) → Buf (Elt Ideal) ((c.tc : Thread Cert.FfnIdeal.nD Cert.FfnIdeal.τ).loc Cert.FfnIdeal.main_v10_0)) (v2 : (c : Dev Cert.FfnIdeal.nD) → Buf (Elt Ideal) ((c.tc : Thread Cert.FfnIdeal.nD Cert.FfnIdeal.τ).loc Cert.FfnIdeal.main_v12)) (v3 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_v10_0) = v1 c
          ∧ r.2.mem ((c.tc : Thread Cert.FfnIdeal.nD Cert.FfnIdeal.τ).loc Cert.FfnIdeal.main_v12) = v2 c
          ∧ r.2.mem ((c.tc : Thread Cert.FfnIdeal.nD Cert.FfnIdeal.τ).loc Cert.FfnIdeal.main_v8) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v18) = v0 c
          ∧ r.2.mem ((c.tc : Thread Cert.FfnRefIdeal.nD Cert.FfnRefIdeal.τ).loc Cert.FfnRefIdeal.main_v15) = v1 c
          ∧ r.2.mem ((c.tc : Thread Cert.FfnRefIdeal.nD Cert.FfnRefIdeal.τ).loc Cert.FfnRefIdeal.main_v20) = v2 c
          ∧ r.2.mem ((c.tc : Thread Cert.FfnRefIdeal.nD Cert.FfnRefIdeal.τ).loc Cert.FfnRefIdeal.main_v21) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v22)) (v1 : (c : Dev Cert.MixIdeal.nD) → Buf (Elt Ideal) ((c.tc : Thread Cert.MixIdeal.nD Cert.MixIdeal.τ).loc Cert.MixIdeal.main_v23)) (v2 : (c : Dev Cert.MixIdeal.nD) → Buf (Elt Ideal) ((c.tc : Thread Cert.MixIdeal.nD Cert.MixIdeal.τ).loc Cert.MixIdeal.main_v25)) (v3 : (c : Dev Cert.MixIdeal.nD) → Buf (Elt Ideal) ((c.tc : Thread Cert.MixIdeal.nD Cert.MixIdeal.τ).loc Cert.MixIdeal.main_v26)) (v4 : (c : Dev Cert.MixIdeal.nD) → Buf (Elt Ideal) ((c.tc : Thread Cert.MixIdeal.nD Cert.MixIdeal.τ).loc Cert.MixIdeal.main_v28)) (v5 : (c : Dev Cert.MixIdeal.nD) → Buf (Elt Ideal) ((c.tc : Thread Cert.MixIdeal.nD Cert.MixIdeal.τ).loc Cert.MixIdeal.main_v29)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v22) = v0 c
          ∧ r.2.mem ((c.tc : Thread Cert.MixIdeal.nD Cert.MixIdeal.τ).loc Cert.MixIdeal.main_v23) = v1 c
          ∧ r.2.mem ((c.tc : Thread Cert.MixIdeal.nD Cert.MixIdeal.τ).loc Cert.MixIdeal.main_v25) = v2 c
          ∧ r.2.mem ((c.tc : Thread Cert.MixIdeal.nD Cert.MixIdeal.τ).loc Cert.MixIdeal.main_v26) = v3 c
          ∧ r.2.mem ((c.tc : Thread Cert.MixIdeal.nD Cert.MixIdeal.τ).loc Cert.MixIdeal.main_v28) = v4 c
          ∧ r.2.mem ((c.tc : Thread Cert.MixIdeal.nD Cert.MixIdeal.τ).loc Cert.MixIdeal.main_v29) = v5 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v0) = v0 c
          ∧ r.2.mem ((c.tc : Thread Cert.MixRefIdeal.nD Cert.MixRefIdeal.τ).loc Cert.MixRefIdeal.main_v8) = v1 c
          ∧ r.2.mem ((c.tc : Thread Cert.MixRefIdeal.nD Cert.MixRefIdeal.τ).loc Cert.MixRefIdeal.main_v9) = v2 c
          ∧ r.2.mem ((c.tc : Thread Cert.MixRefIdeal.nD Cert.MixRefIdeal.τ).loc Cert.MixRefIdeal.main_v7) = v3 c
          ∧ r.2.mem ((c.tc : Thread Cert.MixRefIdeal.nD Cert.MixRefIdeal.τ).loc Cert.MixRefIdeal.main_v11) = v4 c
          ∧ r.2.mem ((c.tc : Thread Cert.MixRefIdeal.nD Cert.MixRefIdeal.τ).loc Cert.MixRefIdeal.main_v4) = v5 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_Half_HalfIdeal : Prop :=
  True

def algebraic_HalfIdeal_HalfRefIdeal [hHalfIdeal : Cert.HalfIdeal.Facts] [hHalfRefIdeal : Cert.HalfRefIdeal.Facts] : Prop :=
  ∀ (m : (ℓ : Loc Cert.HalfIdeal.nD Cert.HalfIdeal.τ Cert.HalfIdeal.sig) → Buf (Elt Ideal) ℓ) (g : Dev Cert.HalfIdeal.nD → PrngReg)
    (m' : (ℓ : Loc Cert.HalfRefIdeal.nD Cert.HalfRefIdeal.τ Cert.HalfRefIdeal.sig) → Buf (Elt Ideal) ℓ) (g' : Dev Cert.HalfRefIdeal.nD → PrngReg), Pre_HalfIdeal m →
    (∀ c : Dev Cert.HalfIdeal.nD,
      m' ((c.tc : Thread Cert.HalfRefIdeal.nD Cert.HalfRefIdeal.τ).loc Cert.HalfRefIdeal.main_arg0) = m ((c.tc : Thread Cert.HalfIdeal.nD Cert.HalfIdeal.τ).loc Cert.HalfIdeal.main_arg0)
      ∧ m' ((c.tc : Thread Cert.HalfRefIdeal.nD Cert.HalfRefIdeal.τ).loc Cert.HalfRefIdeal.main_arg1) = m ((c.tc : Thread Cert.HalfIdeal.nD Cert.HalfIdeal.τ).loc Cert.HalfIdeal.main_arg1)) →
    ∃ (v0 : (c : Dev Cert.HalfIdeal.nD) → Buf (Elt Ideal) ((c.tc : Thread Cert.HalfIdeal.nD Cert.HalfIdeal.τ).loc Cert.HalfIdeal.main_v3)) (v1 : (c : Dev Cert.HalfIdeal.nD) → Buf (Elt Ideal) ((c.tc : Thread Cert.HalfIdeal.nD Cert.HalfIdeal.τ).loc Cert.HalfIdeal.main_v4)),
      θ_run (Cert.HalfIdeal.defs (F := Ideal)) (onTc (τ := Cert.HalfIdeal.τ) (Cert.HalfIdeal.main (F := Ideal))) ⟨m, fun _ => 0, g⟩ (fun r => ∀ c : Dev Cert.HalfIdeal.nD,
          r.2.mem ((c.tc : Thread Cert.HalfIdeal.nD Cert.HalfIdeal.τ).loc Cert.HalfIdeal.main_v3) = v0 c
          ∧ r.2.mem ((c.tc : Thread Cert.HalfIdeal.nD Cert.HalfIdeal.τ).loc Cert.HalfIdeal.main_v4) = v1 c
          ∧ r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
          ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1))
      ∧ θ_run (Cert.HalfRefIdeal.defs (F := Ideal)) (onTc (τ := Cert.HalfRefIdeal.τ) (Cert.HalfRefIdeal.main (F := Ideal))) ⟨m', fun _ => 0, g'⟩ (fun r => ∀ c : Dev Cert.HalfRefIdeal.nD,
          r.2.mem ((c.tc : Thread Cert.HalfRefIdeal.nD Cert.HalfRefIdeal.τ).loc Cert.HalfRefIdeal.main_v9) = v0 c
          ∧ r.2.mem ((c.tc : Thread Cert.HalfRefIdeal.nD Cert.HalfRefIdeal.τ).loc Cert.HalfRefIdeal.main_v12) = v1 c
          ∧ r.2.mem ((c.tc : Thread Cert.HalfRefIdeal.nD Cert.HalfRefIdeal.τ).loc Cert.HalfRefIdeal.main_arg0) = m' ((c.tc : Thread Cert.HalfRefIdeal.nD Cert.HalfRefIdeal.τ).loc Cert.HalfRefIdeal.main_arg0)
          ∧ r.2.mem ((c.tc : Thread Cert.HalfRefIdeal.nD Cert.HalfRefIdeal.τ).loc Cert.HalfRefIdeal.main_arg1) = m' ((c.tc : Thread Cert.HalfRefIdeal.nD Cert.HalfRefIdeal.τ).loc Cert.HalfRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)
      ∧ m' ((c.tc : Thread Cert.NormRefIdeal.nD Cert.NormRefIdeal.τ).loc Cert.NormRefIdeal.main_arg7) = m ((c.tc : Thread Cert.NormIdeal.nD Cert.NormIdeal.τ).loc Cert.NormIdeal.main_arg7)
      ∧ m' ((c.tc : Thread Cert.NormRefIdeal.nD Cert.NormRefIdeal.τ).loc Cert.NormRefIdeal.main_arg8) = m ((c.tc : Thread Cert.NormIdeal.nD Cert.NormIdeal.τ).loc Cert.NormIdeal.main_arg8)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)) (v2 : (c : Dev Cert.NormIdeal.nD) → Buf (Elt Ideal) ((c.tc : Thread Cert.NormIdeal.nD Cert.NormIdeal.τ).loc Cert.NormIdeal.main_v1_2)) (v3 : (c : Dev Cert.NormIdeal.nD) → Buf (Elt Ideal) ((c.tc : Thread Cert.NormIdeal.nD Cert.NormIdeal.τ).loc Cert.NormIdeal.main_v3_0)) (v4 : (c : Dev Cert.NormIdeal.nD) → Buf (Elt Ideal) ((c.tc : Thread Cert.NormIdeal.nD Cert.NormIdeal.τ).loc Cert.NormIdeal.main_v3_1)) (v5 : (c : Dev Cert.NormIdeal.nD) → Buf (Elt Ideal) ((c.tc : Thread Cert.NormIdeal.nD Cert.NormIdeal.τ).loc Cert.NormIdeal.main_v3_2)) (v6 : (c : Dev Cert.NormIdeal.nD) → Buf (Elt Ideal) ((c.tc : Thread Cert.NormIdeal.nD Cert.NormIdeal.τ).loc Cert.NormIdeal.main_v3_3)) (v7 : (c : Dev Cert.NormIdeal.nD) → Buf (Elt Ideal) ((c.tc : Thread Cert.NormIdeal.nD Cert.NormIdeal.τ).loc Cert.NormIdeal.main_v0)) (v8 : (c : Dev Cert.NormIdeal.nD) → Buf (Elt Ideal) ((c.tc : Thread Cert.NormIdeal.nD Cert.NormIdeal.τ).loc Cert.NormIdeal.main_v2_0)) (v9 : (c : Dev Cert.NormIdeal.nD) → Buf (Elt Ideal) ((c.tc : Thread Cert.NormIdeal.nD Cert.NormIdeal.τ).loc Cert.NormIdeal.main_v2_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_v1_2) = v2 c
          ∧ r.2.mem ((c.tc : Thread Cert.NormIdeal.nD Cert.NormIdeal.τ).loc Cert.NormIdeal.main_v3_0) = v3 c
          ∧ r.2.mem ((c.tc : Thread Cert.NormIdeal.nD Cert.NormIdeal.τ).loc Cert.NormIdeal.main_v3_1) = v4 c
          ∧ r.2.mem ((c.tc : Thread Cert.NormIdeal.nD Cert.NormIdeal.τ).loc Cert.NormIdeal.main_v3_2) = v5 c
          ∧ r.2.mem ((c.tc : Thread Cert.NormIdeal.nD Cert.NormIdeal.τ).loc Cert.NormIdeal.main_v3_3) = v6 c
          ∧ r.2.mem ((c.tc : Thread Cert.NormIdeal.nD Cert.NormIdeal.τ).loc Cert.NormIdeal.main_v0) = v7 c
          ∧ r.2.mem ((c.tc : Thread Cert.NormIdeal.nD Cert.NormIdeal.τ).loc Cert.NormIdeal.main_v2_0) = v8 c
          ∧ r.2.mem ((c.tc : Thread Cert.NormIdeal.nD Cert.NormIdeal.τ).loc Cert.NormIdeal.main_v2_1) = v9 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
          ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
          ∧ r.2.mem ((c.tc : Thread Cert.NormIdeal.nD Cert.NormIdeal.τ).loc Cert.NormIdeal.main_arg8) = m ((c.tc : Thread Cert.NormIdeal.nD Cert.NormIdeal.τ).loc Cert.NormIdeal.main_arg8))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v37) = v0 c
          ∧ r.2.mem ((c.tc : Thread Cert.NormRefIdeal.nD Cert.NormRefIdeal.τ).loc Cert.NormRefIdeal.main_v117) = v1 c
          ∧ r.2.mem ((c.tc : Thread Cert.NormRefIdeal.nD Cert.NormRefIdeal.τ).loc Cert.NormRefIdeal.main_v118) = v2 c
          ∧ r.2.mem ((c.tc : Thread Cert.NormRefIdeal.nD Cert.NormRefIdeal.τ).loc Cert.NormRefIdeal.main_v114) = v3 c
          ∧ r.2.mem ((c.tc : Thread Cert.NormRefIdeal.nD Cert.NormRefIdeal.τ).loc Cert.NormRefIdeal.main_v94) = v4 c
          ∧ r.2.mem ((c.tc : Thread Cert.NormRefIdeal.nD Cert.NormRefIdeal.τ).loc Cert.NormRefIdeal.main_v119) = v5 c
          ∧ r.2.mem ((c.tc : Thread Cert.NormRefIdeal.nD Cert.NormRefIdeal.τ).loc Cert.NormRefIdeal.main_v120) = v6 c
          ∧ r.2.mem ((c.tc : Thread Cert.NormRefIdeal.nD Cert.NormRefIdeal.τ).loc Cert.NormRefIdeal.main_v121) = v7 c
          ∧ r.2.mem ((c.tc : Thread Cert.NormRefIdeal.nD Cert.NormRefIdeal.τ).loc Cert.NormRefIdeal.main_v122) = v8 c
          ∧ r.2.mem ((c.tc : Thread Cert.NormRefIdeal.nD Cert.NormRefIdeal.τ).loc Cert.NormRefIdeal.main_v124) = v9 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6)
          ∧ r.2.mem ((c.tc : Thread Cert.NormRefIdeal.nD Cert.NormRefIdeal.τ).loc Cert.NormRefIdeal.main_arg7) = m' ((c.tc : Thread Cert.NormRefIdeal.nD Cert.NormRefIdeal.τ).loc Cert.NormRefIdeal.main_arg7)
          ∧ r.2.mem ((c.tc : Thread Cert.NormRefIdeal.nD Cert.NormRefIdeal.τ).loc Cert.NormRefIdeal.main_arg8) = m' ((c.tc : Thread Cert.NormRefIdeal.nD Cert.NormRefIdeal.τ).loc Cert.NormRefIdeal.main_arg8))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v2)) (v1 : (c : Dev Cert.LossIdeal.nD) → Buf (Elt Ideal) ((c.tc : Thread Cert.LossIdeal.nD Cert.LossIdeal.τ).loc Cert.LossIdeal.main_v0_0)) (v2 : (c : Dev Cert.LossIdeal.nD) → Buf (Elt Ideal) ((c.tc : Thread Cert.LossIdeal.nD Cert.LossIdeal.τ).loc Cert.LossIdeal.main_v0_1)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2) = v0 c
          ∧ r.2.mem ((c.tc : Thread Cert.LossIdeal.nD Cert.LossIdeal.τ).loc Cert.LossIdeal.main_v0_0) = v1 c
          ∧ r.2.mem ((c.tc : Thread Cert.LossIdeal.nD Cert.LossIdeal.τ).loc Cert.LossIdeal.main_v0_1) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v25) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_v55) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hHalf : Cert.Half.Facts) (hHalfIdeal : Cert.HalfIdeal.Facts) (hHalfRefIdeal : Cert.HalfRefIdeal.Facts) (hNorm : Cert.Norm.Facts) (hNormIdeal : Cert.NormIdeal.Facts) (hNormRefIdeal : Cert.NormRefIdeal.Facts) (hLoss : Cert.Loss.Facts) (hLossIdeal : Cert.LossIdeal.Facts) (hLossRefIdeal : Cert.LossRefIdeal.Facts) (hPre_finite_scores : Cert.Pre_finite_scores.Facts) (hPre_finite : Cert.Pre_finite.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnIdeal_pre_finite (hFfnIdeal := hFfnIdeal) (hPre_finite := hPre_finite)
    ∧ quiescent_FfnRefIdeal (hFfnRefIdeal := hFfnRefIdeal)
    ∧ quiescent_FfnRefIdeal_pre_finite (hFfnRefIdeal := hFfnRefIdeal) (hPre_finite := hPre_finite)
    ∧ quiescent_Mix (hMix := hMix)
    ∧ quiescent_MixIdeal (hMixIdeal := hMixIdeal)
    ∧ quiescent_MixRefIdeal (hMixRefIdeal := hMixRefIdeal)
    ∧ quiescent_Half (hHalf := hHalf)
    ∧ quiescent_HalfIdeal (hHalfIdeal := hHalfIdeal)
    ∧ quiescent_HalfRefIdeal (hHalfRefIdeal := hHalfRefIdeal)
    ∧ quiescent_Norm (hNorm := hNorm)
    ∧ quiescent_NormIdeal (hNormIdeal := hNormIdeal)
    ∧ quiescent_NormRefIdeal (hNormRefIdeal := hNormRefIdeal)
    ∧ quiescent_Loss (hLoss := hLoss)
    ∧ quiescent_LossIdeal (hLossIdeal := hLossIdeal)
    ∧ quiescent_LossRefIdeal (hLossRefIdeal := hLossRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnRefIdeal_pre_finite (hFfnIdeal := hFfnIdeal) (hFfnRefIdeal := hFfnRefIdeal) (hPre_finite := hPre_finite)
    ∧ preserves_Mix_MixIdeal
    ∧ algebraic_MixIdeal_MixRefIdeal (hMixIdeal := hMixIdeal) (hMixRefIdeal := hMixRefIdeal)
    ∧ preserves_Half_HalfIdeal
    ∧ algebraic_HalfIdeal_HalfRefIdeal (hHalfIdeal := hHalfIdeal) (hHalfRefIdeal := hHalfRefIdeal)
    ∧ preserves_Norm_NormIdeal
    ∧ algebraic_NormIdeal_NormRefIdeal (hNormIdeal := hNormIdeal) (hNormRefIdeal := hNormRefIdeal)
    ∧ preserves_Loss_LossIdeal
    ∧ algebraic_LossIdeal_LossRefIdeal (hLossIdeal := hLossIdeal) (hLossRefIdeal := hLossRefIdeal)
-- ==== Pre_finite.lean ====
abbrev S2048x2048 : Shape := ⟨2, ![2048, 2048]⟩
abbrev S2048x11264 : Shape := ⟨2, ![2048, 11264]⟩
abbrev S5632x2048 : Shape := ⟨2, ![5632, 2048]⟩
abbrev S_ : Shape := ⟨0, ![]⟩

class Facts : Prop where
  bcast_S_S2048x2048 : S_.BroadcastsInDim S2048x2048 (![] : Fin 0 → Fin S2048x2048.rank)
  bcast_S_S2048x11264 : S_.BroadcastsInDim S2048x11264 (![] : Fin 0 → Fin S2048x11264.rank)
  bcast_S_S5632x2048 : S_.BroadcastsInDim S5632x2048 (![] : Fin 0 → Fin S5632x2048.rank)

variable [Facts]

def fn {F : FTy → Type} [FloatOps F] (main_arg0 : FVec F S2048x2048 .f32) (main_arg1 : FVec F S2048x11264 .f32) (main_arg2 : FVec F S5632x2048 .f32) (main_arg3 : FVec F S2048x2048 .f32) (main_arg4 : FVec F S2048x2048 .f32) : IVec S2048x2048 1 × IVec S2048x11264 1 × IVec S5632x2048 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x11264 .f32 := Host.absf main_arg1
  let main_cst_0 : FVec F S_ .f32 := constant S_ .f32 0x7F800000#32
  let main_v4 : FVec F S2048x11264 .f32 := broadcastInDim S2048x11264 ![] bcast_S_S2048x11264 main_cst_0
  let main_v5 : IVec S2048x11264 1 := cmpf .olt main_v3 main_v4
  let main_v6 : FVec F S5632x2048 .f32 := Host.absf main_arg2
  let main_cst_1 : FVec F S_ .f32 := constant S_ .f32 0x7F800000#32
  let main_v7 : FVec F S5632x2048 .f32 := broadcastInDim S5632x2048 ![] bcast_S_S5632x2048 main_cst_1
  let main_v8 : IVec S5632x2048 1 := cmpf .olt main_v6 main_v7
  let main_v9 : FVec F S2048x2048 .f32 := Host.absf main_arg4
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  (main_v2, main_v5, main_v8, main_v11)
-- ==== Pre_finite_scores.lean ====
abbrev S2048x5120 : Shape := ⟨2, ![2048, 5120]⟩
abbrev S16x15x31 : Shape := ⟨3, ![16, 15, 31]⟩
abbrev S2048x1024 : Shape := ⟨2, ![2048, 1024]⟩
abbrev S2048x2048 : Shape := ⟨2, ![2048, 2048]⟩
abbrev S_ : Shape := ⟨0, ![]⟩

class Facts : Prop where
  slices_S2048x5120_S2048x2048_0_2048 : S2048x5120.Slices ![0, 2048] S2048x2048
  bcast_S_S2048x2048 : S_.BroadcastsInDim S2048x2048 (![] : Fin 0 → Fin S2048x2048.rank)
  bcast_S_S16x15x31 : S_.BroadcastsInDim S16x15x31 (![] : Fin 0 → Fin S16x15x31.rank)

variable [Facts]

def fn {F : FTy → Type} [FloatOps F] (main_arg0 : FVec F S2048x5120 .f32) (main_arg1 : FVec F S16x15x31 .f32) (main_arg2 : FVec F S2048x1024 .f32) : IVec S2048x2048 1 × IVec S16x15x31 1 :=
  let main_v0 : FVec F S2048x2048 .f32 := (extractStridedSlice S2048x2048 ![0, 2048] · slices_S2048x5120_S2048x2048_0_2048) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S16x15x31 .f32 := Host.absf main_arg1
  let main_cst_0 : FVec F S_ .f32 := constant S_ .f32 0x7F800000#32
  let main_v5 : FVec F S16x15x31 .f32 := broadcastInDim S16x15x31 ![] bcast_S_S16x15x31 main_cst_0
  let main_v6 : IVec S16x15x31 1 := cmpf .olt main_v4 main_v5
  (main_v3, main_v6)
-- ==== Kernel.lean ====
abbrev S2048x5120 : Shape := ⟨2, ![2048, 5120]⟩
abbrev S16x15x31 : Shape := ⟨3, ![16, 15, 31]⟩
abbrev S2048x1024 : Shape := ⟨2, ![2048, 1024]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S1x1x31 : Shape := ⟨3, ![1, 1, 31]⟩
abbrev S64x64x31 : Shape := ⟨3, ![64, 64, 31]⟩
abbrev S16x15x1x1x31 : Shape := ⟨5, ![16, 15, 1, 1, 31]⟩
abbrev S1x1x64x64x31 : Shape := ⟨5, ![1, 1, 64, 64, 31]⟩
abbrev S16x15x64x64x31 : Shape := ⟨5, ![16, 15, 64, 64, 31]⟩
abbrev S16x15x64x64 : Shape := ⟨4, ![16, 15, 64, 64]⟩
abbrev S1x1x64x64 : Shape := ⟨4, ![1, 1, 64, 64]⟩
abbrev S16x1x64x64 : Shape := ⟨4, ![16, 1, 64, 64]⟩
abbrev S16x14x64x64 : Shape := ⟨4, ![16, 14, 64, 64]⟩
abbrev S16x14x64x128 : Shape := ⟨4, ![16, 14, 64, 128]⟩
abbrev S16x1x64x128 : Shape := ⟨4, ![16, 1, 64, 128]⟩
abbrev S16x17x64x128 : Shape := ⟨4, ![16, 17, 64, 128]⟩
abbrev S3x1024x2048 : Shape := ⟨3, ![3, 1024, 2048]⟩
abbrev S2048x128 : Shape := ⟨2, ![2048, 128]⟩
abbrev S2x17x64x128 : Shape := ⟨4, ![2, 17, 64, 128]⟩
abbrev S3x128x2048 : Shape := ⟨3, ![3, 128, 2048]⟩
abbrev S16x128x128 : Shape := ⟨3, ![16, 128, 128]⟩
abbrev S128x128 : Shape := ⟨2, ![128, 128]⟩
abbrev S1x128x128 : Shape := ⟨3, ![1, 128, 128]⟩
abbrev S1x1x64x128 : Shape := ⟨4, ![1, 1, 64, 128]⟩
abbrev S64x128 : Shape := ⟨2, ![64, 128]⟩
abbrev S64x768 : Shape := ⟨2, ![64, 768]⟩
abbrev S256x768 : Shape := ⟨2, ![256, 768]⟩
abbrev S256x64 : Shape := ⟨2, ![256, 64]⟩
abbrev S1x64x128 : Shape := ⟨3, ![1, 64, 128]⟩
abbrev S256 : Shape := ⟨1, ![256]⟩
abbrev S256x1 : Shape := ⟨2, ![256, 1]⟩
abbrev S768x64 : Shape := ⟨2, ![768, 64]⟩
abbrev S128x2048 : Shape := ⟨2, ![128, 2048]⟩
abbrev S1x128x2048 : Shape := ⟨3, ![1, 128, 2048]⟩

abbrev nBuf : Space → Nat
  | .hbm => 88
  | .vmem => 29
  | .smem => 0
  | _ => 0

abbrev bufTy : (tb : Table) → Fin (tcTables nBuf tb) → BufTy
  | .hbm, ⟨0, _⟩ => ⟨S2048x5120, .f32⟩
  | .hbm, ⟨1, _⟩ => ⟨S16x15x31, .f32⟩
  | .hbm, ⟨2, _⟩ => ⟨S2048x1024, .f32⟩
  | .hbm, ⟨3, _⟩ => ⟨S64, .i32⟩
  | .hbm, ⟨4, _⟩ => ⟨S_, .i32⟩
  | .hbm, ⟨5, _⟩ => ⟨S64, .i32⟩
  | .hbm, ⟨6, _⟩ => ⟨S64, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S1x64, .i32⟩
  | .hbm, ⟨16, _⟩ => ⟨S64x1, .i32⟩
  | .hbm, ⟨17, _⟩ => ⟨S64x64, .i32⟩
  | .hbm, ⟨18, _⟩ => ⟨S64x64, .i32⟩
  | .hbm, ⟨19, _⟩ => ⟨S64x64, .i1⟩
  | .hbm, ⟨20, _⟩ => ⟨S1x64, .i32⟩
  | .hbm, ⟨21, _⟩ => ⟨S64x1, .i32⟩
  | .hbm, ⟨22, _⟩ => ⟨S_, .i32⟩
  | .hbm, ⟨23, _⟩ => ⟨S64x1, .i32⟩
  | .hbm, ⟨24, _⟩ => ⟨S64x1, .i32⟩
  | .hbm, ⟨25, _⟩ => ⟨S64x64, .i32⟩
  | .hbm, ⟨26, _⟩ => ⟨S64x64, .i32⟩
  | .hbm, ⟨27, _⟩ => ⟨S64x64, .i1⟩
  | .hbm, ⟨28, _⟩ => ⟨S64x64, .i1⟩
  | .hbm, ⟨29, _⟩ => ⟨S1x64, .i32⟩
  | .hbm, ⟨30, _⟩ => ⟨S64x1, .i32⟩
  | .hbm, ⟨31, _⟩ => ⟨S64x64, .i32⟩
  | .hbm, ⟨32, _⟩ => ⟨S64x64, .i32⟩
  | .hbm, ⟨33, _⟩ => ⟨S64x64, .i32⟩
  | .hbm, ⟨34, _⟩ => ⟨S_, .i32⟩
  | .hbm, ⟨35, _⟩ => ⟨S64x64, .i32⟩
  | .hbm, ⟨36, _⟩ => ⟨S64x64, .i32⟩
  | .hbm, ⟨37, _⟩ => ⟨S_, .i32⟩
  | .hbm, ⟨38, _⟩ => ⟨S64x64, .i32⟩
  | .hbm, ⟨39, _⟩ => ⟨S64x64, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S64x64, .i32⟩
  | .hbm, ⟨44, _⟩ => ⟨S64x64, .i32⟩
  | .hbm, ⟨45, _⟩ => ⟨S_, .i32⟩
  | .hbm, ⟨46, _⟩ => ⟨S64x64, .i32⟩
  | .hbm, ⟨47, _⟩ => ⟨S64x64, .i32⟩
  | .hbm, ⟨48, _⟩ => ⟨S64x64x1, .i32⟩
  | .hbm, ⟨49, _⟩ => ⟨S1x1x31, .i32⟩
  | .hbm, ⟨50, _⟩ => ⟨S64x64x31, .i32⟩
  | .hbm, ⟨51, _⟩ => ⟨S64x64x31, .i32⟩
  | .hbm, ⟨52, _⟩ => ⟨S64x64x31, .i1⟩
  | .hbm, ⟨53, _⟩ => ⟨S64x64x31, .f32⟩
  | .hbm, ⟨54, _⟩ => ⟨S64x64x1, .i1⟩
  | .hbm, ⟨55, _⟩ => ⟨S64x64x1, .f32⟩
  | .hbm, ⟨56, _⟩ => ⟨S64x64x31, .f32⟩
  | .hbm, ⟨57, _⟩ => ⟨S64x64x31, .f32⟩
  | .hbm, ⟨58, _⟩ => ⟨S16x15x1x1x31, .f32⟩
  | .hbm, ⟨59, _⟩ => ⟨S1x1x64x64x31, .f32⟩
  | .hbm, ⟨60, _⟩ => ⟨S16x15x64x64x31, .f32⟩
  | .hbm, ⟨61, _⟩ => ⟨S16x15x64x64x31, .f32⟩
  | .hbm, ⟨62, _⟩ => ⟨S16x15x64x64x31, .f32⟩
  | .hbm, ⟨63, _⟩ => ⟨S_, .f32⟩
  | .hbm, ⟨64, _⟩ => ⟨S16x15x64x64, .f32⟩
  | .hbm, ⟨65, _⟩ => ⟨S1x1x64x64, .i1⟩
  | .hbm, ⟨66, _⟩ => ⟨S_, .f32⟩
  | .hbm, ⟨67, _⟩ => ⟨S_, .f32⟩
  | .hbm, ⟨68, _⟩ => ⟨S16x15x64x64, .i1⟩
  | .hbm, ⟨69, _⟩ => ⟨S16x15x64x64, .f32⟩
  | .hbm, ⟨70, _⟩ => ⟨S16x15x64x64, .f32⟩
  | .hbm, ⟨71, _⟩ => ⟨S16x1x64x64, .f32⟩
  | .hbm, ⟨72, _⟩ => ⟨S_, .f32⟩
  | .hbm, ⟨73, _⟩ => ⟨S16x1x64x64, .f32⟩
  | .hbm, ⟨74, _⟩ => ⟨S16x14x64x64, .f32⟩
  | .hbm, ⟨75, _⟩ => ⟨S16x14x64x64, .f32⟩
  | .hbm, ⟨76, _⟩ => ⟨S16x14x64x128, .f32⟩
  | .hbm, ⟨77, _⟩ => ⟨S16x1x64x64, .f32⟩
  | .hbm, ⟨78, _⟩ => ⟨S16x1x64x128, .f32⟩
  | .hbm, ⟨79, _⟩ => ⟨S16x1x64x64, .f32⟩
  | .hbm, ⟨80, _⟩ => ⟨S16x1x64x128, .f32⟩
  | .hbm, ⟨81, _⟩ => ⟨S16x1x64x128, .f32⟩
  | .hbm, ⟨82, _⟩ => ⟨S16x17x64x128, .f32⟩
  | .hbm, ⟨83, _⟩ => ⟨S2048x1024, .bf16⟩
  | .hbm, ⟨84, _⟩ => ⟨S2048x1024, .bf16⟩
  | .hbm, ⟨85, _⟩ => ⟨S2048x1024, .bf16⟩
  | .hbm, ⟨86, _⟩ => ⟨S3x1024x2048, .bf16⟩
  | .hbm, ⟨87, _⟩ => ⟨S16x17x64x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2x17x64x128, .f32⟩
  | .local _ .vmem, ⟨7, _⟩ => ⟨S2x17x64x128, .f32⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S3x128x2048, .bf16⟩
  | .local _ .vmem, ⟨17, _⟩ => ⟨S3x128x2048, .bf16⟩
  | .local _ .vmem, ⟨18, _⟩ => ⟨S2x17x64x128, .f32⟩
  | .local _ .vmem, ⟨19, _⟩ => ⟨S2x17x64x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .bf16⟩
  | .local _ .vmem, ⟨24, _⟩ => ⟨S2048x128, .bf16⟩
  | .local _ .vmem, ⟨25, _⟩ => ⟨S2048x128, .bf16⟩
  | .local _ .vmem, ⟨26, _⟩ => ⟨S2048x128, .bf16⟩
  | .local _ .vmem, ⟨27, _⟩ => ⟨S16x128x128, .bf16⟩
  | .local _ .vmem, ⟨28, _⟩ => ⟨S16x128x128, .bf16⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_c_6 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v26 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_v39 : Ref sig .tc := ⟨.hbm, 70, rfl⟩
abbrev main_v40 : Ref sig .tc := ⟨.hbm, 71, rfl⟩
abbrev main_cst_8 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51_0 : Ref sig .tc := ⟨.hbm, 83, rfl⟩
abbrev main_v51_1 : Ref sig .tc := ⟨.hbm, 84, rfl⟩
abbrev main_v51_2 : Ref sig .tc := ⟨.hbm, 85, rfl⟩
abbrev main_v51_3 : Ref sig .tc := ⟨.hbm, 86, rfl⟩
abbrev main_v51_4 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v222 : BitVec 32 := Scalar.addi c0_i32 c8_i32
  let c1_i32 : BitVec 32 := 1#32
  ⟨c0_i32, v222, c1_i32⟩
def k0_mult1 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32 : BitVec 32 := 256#32
  let v251 : BitVec 32 := Scalar.muli arg20 c256_i32
  v251
def k0_mult2 (k0_t1 : Fin k0_t1_loop.trips) : BitVec 32 :=
  let c20_i32 : BitVec 32 := 20#32
  let c0_i32_178 : BitVec 32 := 0#32
  let c4_i32 : BitVec 32 := 4#32
  let c0_i32 : BitVec 32 := 0#32
  let c1_i32 : BitVec 32 := 1#32
  let arg20 : BitVec 32 := Scf.iv c0_i32 c1_i32 k0_t1
  let v247 : BitVec 32 := Scalar.muli c4_i32 arg20
  let c4_i32_177 : BitVec 32 := 4#32
  let v248 : BitVec 32 := Scalar.subi v247 c4_i32_177
  let v249 : BitVec 32 := Scalar.maxsi c0_i32_178 v248
  let v250 : BitVec 32 := Scalar.minsi c20_i32 v249
  let c64_i32 : BitVec 32 := 64#32
  let v253 : BitVec 32 := Scalar.muli v250 c64_i32
  v253
def k0_off1 (k0_t1 : Fin k0_t1_loop.trips) (c0_i32_181 : BitVec 32) (c0_i32_180 : BitVec 32) : Fin 4 → Nat :=
  let c0_531 : Index := 0#32
  let c20_i32 : BitVec 32 := 20#32
  let c0_i32_178 : BitVec 32 := 0#32
  let c4_i32 : BitVec 32 := 4#32
  let c0_i32 : BitVec 32 := 0#32
  let c1_i32 : BitVec 32 := 1#32
  let arg20 : BitVec 32 := Scf.iv c0_i32 c1_i32 k0_t1
  let v247 : BitVec 32 := Scalar.muli c4_i32 arg20
  let c4_i32_177 : BitVec 32 := 4#32
  let v248 : BitVec 32 := Scalar.subi v247 c4_i32_177
  let v249 : BitVec 32 := Scalar.maxsi c0_i32_178 v248
  let v250 : BitVec 32 := Scalar.minsi c20_i32 v249
  let v257 : BitVec 32 := Scalar.addi v250 c0_i32_181
  let c24_i32 : BitVec 32 := 24#32
  let c0_i32_183 : BitVec 32 := 0#32
  let c4_i32_179 : BitVec 32 := 4#32
  let v255 : BitVec 32 := Scalar.muli c4_i32_179 arg20
  let v256 : BitVec 32 := Scalar.addi v255 c0_i32_180
  let c4_i32_182 : BitVec 32 := 4#32
  let v258 : BitVec 32 := Scalar.subi v256 c4_i32_182
  let v259 : BitVec 32 := Scalar.maxsi c0_i32_183 v258
  let v260 : BitVec 32 := Scalar.minsi c24_i32 v259
  let v261 : BitVec 1 := Scalar.cmpi .sge v257 v260
  let c8_i32_184 : BitVec 32 := 8#32
  let v262 : BitVec 32 := Scalar.addi v260 c8_i32_184
  let v263 : BitVec 1 := Scalar.cmpi .slt v257 v262
  let v264 : BitVec 1 := Scalar.andi v261 v263
  let c1_i32_185 : BitVec 32 := 1#32
  let v265 : BitVec 32 := Scalar.addi v257 c1_i32_185
  let v266 : BitVec 1 := Scalar.cmpi .sge v265 v260
  let c1_i32_186 : BitVec 32 := 1#32
  let v267 : BitVec 32 := Scalar.addi v257 c1_i32_186
  let c8_i32_187 : BitVec 32 := 8#32
  let v268 : BitVec 32 := Scalar.addi v260 c8_i32_187
  let v269 : BitVec 1 := Scalar.cmpi .slt v267 v268
  let v270 : BitVec 1 := Scalar.andi v266 v269
  let v271 : BitVec 1 := Scalar.andi v264 v270
  let v272 : BitVec 32 := Scalar.subi v257 v256
  let c8_i32_188 : BitVec 32 := 8#32
  let v273 : BitVec 32 := Scalar.addi v272 c8_i32_188
  let c1_i32_189 : BitVec 32 := 1#32
  let v274 : BitVec 32 := Scalar.subi v273 c1_i32_189
  let c14_i32 : BitVec 32 := 14#32
  let c15_i32 : BitVec 32 := 15#32
  let c16_i32 : BitVec 32 := 16#32
  let v275 : BitVec 32 := Scalar.select v264 c15_i32 c16_i32
  let v276 : BitVec 32 := Scalar.select v270 c14_i32 v275
  let v277 : BitVec 32 := Scalar.select v271 v274 v276
  let v807 : Index := Scalar.indexCast v277
  let c0_532 : Index := 0#32
  let c0_533 : Index := 0#32
  ![0, v807.toNat, 0, 0]
def k0_off2 (k0_t1 : Fin k0_t1_loop.trips) : Fin 2 → Nat :=
  let c0_i32 : BitVec 32 := 0#32
  let c1_i32 : BitVec 32 := 1#32
  let arg20 : BitVec 32 := Scf.iv c0_i32 c1_i32 k0_t1
  let c256_i32 : BitVec 32 := 256#32
  let v251 : BitVec 32 := Scalar.muli arg20 c256_i32
  let v252 : BitVec 32 := v251
  let v884 : Index := Scalar.indexCast v252
  let c0_603 : Index := 0#32
  ![v884.toNat, 0]
def k0_off3 (k0_t1 : Fin k0_t1_loop.trips) (c0_i32_611 : BitVec 32) : Fin 3 → Nat :=
  let c20_i32 : BitVec 32 := 20#32
  let c0_i32_178 : BitVec 32 := 0#32
  let c4_i32 : BitVec 32 := 4#32
  let c0_i32 : BitVec 32 := 0#32
  let c1_i32 : BitVec 32 := 1#32
  let arg20 : BitVec 32 := Scf.iv c0_i32 c1_i32 k0_t1
  let v247 : BitVec 32 := Scalar.muli c4_i32 arg20
  let c4_i32_177 : BitVec 32 := 4#32
  let v248 : BitVec 32 := Scalar.subi v247 c4_i32_177
  let v249 : BitVec 32 := Scalar.maxsi c0_i32_178 v248
  let v250 : BitVec 32 := Scalar.minsi c20_i32 v249
  let c0_i32_605 : BitVec 32 := 0#32
  let v887 : BitVec 1 := Scalar.cmpi .sgt v250 c0_i32_605
  let v888 : BitVec 32 := Scalar.extui v887
  let c0_i32_606 : BitVec 32 := 0#32
  let v889 : BitVec 1 := Scalar.cmpi .slt v250 c0_i32_606
  let v890 : BitVec 32 := Scalar.extui v889
  let v891 : BitVec 32 := Scalar.subi v888 v890
  let c2_i32_604 : BitVec 32 := 2#32
  let c0_i32_607 : BitVec 32 := 0#32
  let v892 : BitVec 1 := Scalar.cmpi .sgt c2_i32_604 c0_i32_607
  let v893 : BitVec 32 := Scalar.extui v892
  let c0_i32_608 : BitVec 32 := 0#32
  let v894 : BitVec 1 := Scalar.cmpi .slt c2_i32_604 c0_i32_608
  let v895 : BitVec 32 := Scalar.extui v894
  let v896 : BitVec 32 := Scalar.subi v893 v895
  let v897 : BitVec 1 := Scalar.cmpi .ne v891 v896
  let v898 : BitVec 32 := Scalar.remsi v250 c2_i32_604
  let c0_i32_609 : BitVec 32 := 0#32
  let v899 : BitVec 1 := Scalar.cmpi .ne v898 c0_i32_609
  let v900 : BitVec 1 := Scalar.andi v897 v899
  let v886 : BitVec 32 := Scalar.divsi v250 c2_i32_604
  let c1_i32_610 : BitVec 32 := 1#32
  let v901 : BitVec 32 := Scalar.subi v886 c1_i32_610
  let v902 : BitVec 32 := Scalar.select v900 v901 v886
  let v903 : BitVec 32 := Scalar.addi v902 c0_i32_611
  let v904 : Index := Scalar.indexCast v903
  let c0_612 : Index := 0#32
  let c0_613 : Index := 0#32
  ![v904.toNat, 0, 0]
def k0_off4 (k0_t1 : Fin k0_t1_loop.trips) : Fin 2 → Nat :=
  let c20_i32 : BitVec 32 := 20#32
  let c0_i32_178 : BitVec 32 := 0#32
  let c4_i32 : BitVec 32 := 4#32
  let c0_i32 : BitVec 32 := 0#32
  let c1_i32 : BitVec 32 := 1#32
  let arg20 : BitVec 32 := Scf.iv c0_i32 c1_i32 k0_t1
  let v247 : BitVec 32 := Scalar.muli c4_i32 arg20
  let c4_i32_177 : BitVec 32 := 4#32
  let v248 : BitVec 32 := Scalar.subi v247 c4_i32_177
  let v249 : BitVec 32 := Scalar.maxsi c0_i32_178 v248
  let v250 : BitVec 32 := Scalar.minsi c20_i32 v249
  let c64_i32 : BitVec 32 := 64#32
  let v253 : BitVec 32 := Scalar.muli v250 c64_i32
  let v254 : BitVec 32 := v253
  let v1211 : Index := Scalar.indexCast v254
  let c0_805 : Index := 0#32
  ![v1211.toNat, 0]
def k0_mult3 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_818 : BitVec 32 := 256#32
  let v1239 : BitVec 32 := Scalar.muli arg20 c256_i32_818
  v1239
def k0_mult4 (k0_t1 : Fin k0_t1_loop.trips) : BitVec 32 :=
  let c20_i32_817 : BitVec 32 := 20#32
  let c0_i32_816 : BitVec 32 := 0#32
  let c4_i32_814 : BitVec 32 := 4#32
  let c0_i32 : BitVec 32 := 0#32
  let c1_i32 : BitVec 32 := 1#32
  let arg20 : BitVec 32 := Scf.iv c0_i32 c1_i32 k0_t1
  let v1235 : BitVec 32 := Scalar.muli c4_i32_814 arg20
  let c4_i32_815 : BitVec 32 := 4#32
  let v1236 : BitVec 32 := Scalar.subi v1235 c4_i32_815
  let v1237 : BitVec 32 := Scalar.maxsi c0_i32_816 v1236
  let v1238 : BitVec 32 := Scalar.minsi c20_i32_817 v1237
  let c64_i32_819 : BitVec 32 := 64#32
  let v1241 : BitVec 32 := Scalar.muli v1238 c64_i32_819
  v1241
def k0_off5 (k0_t1 : Fin k0_t1_loop.trips) (c0_i32_822 : BitVec 32) (c0_i32_821 : BitVec 32) : Fin 4 → Nat :=
  let c1_1180 : Index := 1#32
  let c20_i32_817 : BitVec 32 := 20#32
  let c0_i32_816 : BitVec 32 := 0#32
  let c4_i32_814 : BitVec 32 := 4#32
  let c0_i32 : BitVec 32 := 0#32
  let c1_i32 : BitVec 32 := 1#32
  let arg20 : BitVec 32 := Scf.iv c0_i32 c1_i32 k0_t1
  let v1235 : BitVec 32 := Scalar.muli c4_i32_814 arg20
  let c4_i32_815 : BitVec 32 := 4#32
  let v1236 : BitVec 32 := Scalar.subi v1235 c4_i32_815
  let v1237 : BitVec 32 := Scalar.maxsi c0_i32_816 v1236
  let v1238 : BitVec 32 := Scalar.minsi c20_i32_817 v1237
  let v1245 : BitVec 32 := Scalar.addi v1238 c0_i32_822
  let c24_i32_825 : BitVec 32 := 24#32
  let c0_i32_824 : BitVec 32 := 0#32
  let c4_i32_820 : BitVec 32 := 4#32
  let v1243 : BitVec 32 := Scalar.muli c4_i32_820 arg20
  let v1244 : BitVec 32 := Scalar.addi v1243 c0_i32_821
  let c4_i32_823 : BitVec 32 := 4#32
  let v1246 : BitVec 32 := Scalar.subi v1244 c4_i32_823
  let v1247 : BitVec 32 := Scalar.maxsi c0_i32_824 v1246
  let v1248 : BitVec 32 := Scalar.minsi c24_i32_825 v1247
  let v1249 : BitVec 1 := Scalar.cmpi .sge v1245 v1248
  let c8_i32_826 : BitVec 32 := 8#32
  let v1250 : BitVec 32 := Scalar.addi v1248 c8_i32_826
  let v1251 : BitVec 1 := Scalar.cmpi .slt v1245 v1250
  let v1252 : BitVec 1 := Scalar.andi v1249 v1251
  let c1_i32_827 : BitVec 32 := 1#32
  let v1253 : BitVec 32 := Scalar.addi v1245 c1_i32_827
  let v1254 : BitVec 1 := Scalar.cmpi .sge v1253 v1248
  let c1_i32_828 : BitVec 32 := 1#32
  let v1255 : BitVec 32 := Scalar.addi v1245 c1_i32_828
  let c8_i32_829 : BitVec 32 := 8#32
  let v1256 : BitVec 32 := Scalar.addi v1248 c8_i32_829
  let v1257 : BitVec 1 := Scalar.cmpi .slt v1255 v1256
  let v1258 : BitVec 1 := Scalar.andi v1254 v1257
  let v1259 : BitVec 1 := Scalar.andi v1252 v1258
  let v1260 : BitVec 32 := Scalar.subi v1245 v1244
  let c8_i32_830 : BitVec 32 := 8#32
  let v1261 : BitVec 32 := Scalar.addi v1260 c8_i32_830
  let c1_i32_831 : BitVec 32 := 1#32
  let v1262 : BitVec 32 := Scalar.subi v1261 c1_i32_831
  let c14_i32_834 : BitVec 32 := 14#32
  let c15_i32_832 : BitVec 32 := 15#32
  let c16_i32_833 : BitVec 32 := 16#32
  let v1263 : BitVec 32 := Scalar.select v1252 c15_i32_832 c16_i32_833
  let v1264 : BitVec 32 := Scalar.select v1258 c14_i32_834 v1263
  let v1265 : BitVec 32 := Scalar.select v1259 v1262 v1264
  let v1795 : Index := Scalar.indexCast v1265
  let c0_1181 : Index := 0#32
  let c0_1182 : Index := 0#32
  ![1, v1795.toNat, 0, 0]
def k0_off6 (k0_t1 : Fin k0_t1_loop.trips) : Fin 2 → Nat :=
  let c0_i32 : BitVec 32 := 0#32
  let c1_i32 : BitVec 32 := 1#32
  let arg20 : BitVec 32 := Scf.iv c0_i32 c1_i32 k0_t1
  let c256_i32_818 : BitVec 32 := 256#32
  let v1239 : BitVec 32 := Scalar.muli arg20 c256_i32_818
  let v1240 : BitVec 32 := v1239
  let v1872 : Index := Scalar.indexCast v1240
  let c64 : Index := 64#32
  ![v1872.toNat, 64]
def k0_off7 (k0_t1 : Fin k0_t1_loop.trips) (c0_i32_1259 : BitVec 32) : Fin 3 → Nat :=
  let c20_i32_817 : BitVec 32 := 20#32
  let c0_i32_816 : BitVec 32 := 0#32
  let c4_i32_814 : BitVec 32 := 4#32
  let c0_i32 : BitVec 32 := 0#32
  let c1_i32 : BitVec 32 := 1#32
  let arg20 : BitVec 32 := Scf.iv c0_i32 c1_i32 k0_t1
  let v1235 : BitVec 32 := Scalar.muli c4_i32_814 arg20
  let c4_i32_815 : BitVec 32 := 4#32
  let v1236 : BitVec 32 := Scalar.subi v1235 c4_i32_815
  let v1237 : BitVec 32 := Scalar.maxsi c0_i32_816 v1236
  let v1238 : BitVec 32 := Scalar.minsi c20_i32_817 v1237
  let c0_i32_1253 : BitVec 32 := 0#32
  let v1875 : BitVec 1 := Scalar.cmpi .sgt v1238 c0_i32_1253
  let v1876 : BitVec 32 := Scalar.extui v1875
  let c0_i32_1254 : BitVec 32 := 0#32
  let v1877 : BitVec 1 := Scalar.cmpi .slt v1238 c0_i32_1254
  let v1878 : BitVec 32 := Scalar.extui v1877
  let v1879 : BitVec 32 := Scalar.subi v1876 v1878
  let c2_i32_1252 : BitVec 32 := 2#32
  let c0_i32_1255 : BitVec 32 := 0#32
  let v1880 : BitVec 1 := Scalar.cmpi .sgt c2_i32_1252 c0_i32_1255
  let v1881 : BitVec 32 := Scalar.extui v1880
  let c0_i32_1256 : BitVec 32 := 0#32
  let v1882 : BitVec 1 := Scalar.cmpi .slt c2_i32_1252 c0_i32_1256
  let v1883 : BitVec 32 := Scalar.extui v1882
  let v1884 : BitVec 32 := Scalar.subi v1881 v1883
  let v1885 : BitVec 1 := Scalar.cmpi .ne v1879 v1884
  let v1886 : BitVec 32 := Scalar.remsi v1238 c2_i32_1252
  let c0_i32_1257 : BitVec 32 := 0#32
  let v1887 : BitVec 1 := Scalar.cmpi .ne v1886 c0_i32_1257
  let v1888 : BitVec 1 := Scalar.andi v1885 v1887
  let v1874 : BitVec 32 := Scalar.divsi v1238 c2_i32_1252
  let c1_i32_1258 : BitVec 32 := 1#32
  let v1889 : BitVec 32 := Scalar.subi v1874 c1_i32_1258
  let v1890 : BitVec 32 := Scalar.select v1888 v1889 v1874
  let v1891 : BitVec 32 := Scalar.addi v1890 c0_i32_1259
  let v1892 : Index := Scalar.indexCast v1891
  let c64_1260 : Index := 64#32
  let c0_1261 : Index := 0#32
  ![v1892.toNat, 64, 0]
def k0_off8 (k0_t1 : Fin k0_t1_loop.trips) : Fin 2 → Nat :=
  let c20_i32_817 : BitVec 32 := 20#32
  let c0_i32_816 : BitVec 32 := 0#32
  let c4_i32_814 : BitVec 32 := 4#32
  let c0_i32 : BitVec 32 := 0#32
  let c1_i32 : BitVec 32 := 1#32
  let arg20 : BitVec 32 := Scf.iv c0_i32 c1_i32 k0_t1
  let v1235 : BitVec 32 := Scalar.muli c4_i32_814 arg20
  let c4_i32_815 : BitVec 32 := 4#32
  let v1236 : BitVec 32 := Scalar.subi v1235 c4_i32_815
  let v1237 : BitVec 32 := Scalar.maxsi c0_i32_816 v1236
  let v1238 : BitVec 32 := Scalar.minsi c20_i32_817 v1237
  let c64_i32_819 : BitVec 32 := 64#32
  let v1241 : BitVec 32 := Scalar.muli v1238 c64_i32_819
  let v1242 : BitVec 32 := v1241
  let v2199 : Index := Scalar.indexCast v1242
  let c64_1454 : Index := 64#32
  ![v2199.toNat, 64]
def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x17x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x17x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2048x5120 : Shape := ⟨2, ![2048, 5120]⟩
abbrev S16x15x31 : Shape := ⟨3, ![16, 15, 31]⟩
abbrev S2048x1024 : Shape := ⟨2, ![2048, 1024]⟩
abbrev S2048x3072 : Shape := ⟨2, ![2048, 3072]⟩
abbrev S32x64x16x64 : Shape := ⟨4, ![32, 64, 16, 64]⟩
abbrev S_ : Shape := ⟨0, ![]⟩
abbrev S64 : Shape := ⟨1, ![64]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S64x16x1 : Shape := ⟨3, ![64, 16, 1]⟩
abbrev S1x1x64 : Shape := ⟨3, ![1, 1, 64]⟩
abbrev S64x16x64 : Shape := ⟨3, ![64, 16, 64]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S1x1x32 : Shape := ⟨3, ![1, 1, 32]⟩
abbrev S32x8x32 : Shape := ⟨3, ![32, 8, 32]⟩
abbrev S32x1x8x1 : Shape := ⟨4, ![32, 1, 8, 1]⟩
abbrev S1x64x1x16 : Shape := ⟨4, ![1, 64, 1, 16]⟩
abbrev S32x64x8x16 : Shape := ⟨4, ![32, 64, 8, 16]⟩
abbrev S32x64x8x16x1 : Shape := ⟨5, ![32, 64, 8, 16, 1]⟩
abbrev S32x64x8x16x2 : Shape := ⟨5, ![32, 64, 8, 16, 2]⟩
abbrev S16x32x64x8x16 : Shape := ⟨5, ![16, 32, 64, 8, 16]⟩
abbrev S32x8x64x16x64 : Shape := ⟨5, ![32, 8, 64, 16, 64]⟩
abbrev S16x32x64x8x64 : Shape := ⟨5, ![16, 32, 64, 8, 64]⟩
abbrev S64x16x16x32x8 : Shape := ⟨5, ![64, 16, 16, 32, 8]⟩
abbrev S16x32x64x128 : Shape := ⟨4, ![16, 32, 64, 128]⟩
abbrev S16x32x64 : Shape := ⟨3, ![16, 32, 64]⟩
abbrev S16x32x64x1 : Shape := ⟨4, ![16, 32, 64, 1]⟩
abbrev S64x64x16x32x8 : Shape := ⟨5, ![64, 64, 16, 32, 8]⟩
abbrev S32x16x64x64 : Shape := ⟨4, ![32, 16, 64, 64]⟩
abbrev S32x16x64x8x64 : Shape := ⟨5, ![32, 16, 64, 8, 64]⟩
abbrev S64x16x32x8x16 : Shape := ⟨5, ![64, 16, 32, 8, 16]⟩
abbrev S64x16x32x8x64 : Shape := ⟨5, ![64, 16, 32, 8, 64]⟩
abbrev S16x32x8x64x64 : Shape := ⟨5, ![16, 32, 8, 64, 64]⟩
abbrev S16x32x64x64 : Shape := ⟨4, ![16, 32, 64, 64]⟩
abbrev S64x16x64x32 : Shape := ⟨4, ![64, 16, 64, 32]⟩
abbrev S1024x2048 : Shape := ⟨2, ![1024, 2048]⟩
abbrev S1x1024x2048 : Shape := ⟨3, ![1, 1024, 2048]⟩
abbrev S3x1024x2048 : Shape := ⟨3, ![3, 1024, 2048]⟩

abbrev nBuf : Space → Nat
  | .hbm => 204
  | .vmem => 0
  | .smem => 0
  | _ => 0

abbrev hbmTy0_0 (i : Nat) : BufTy := match i % 128 with
  | 0 => ⟨S2048x5120, .f32⟩
  | 1 => ⟨S16x15x31, .f32⟩
  | 2 => ⟨S2048x1024, .f32⟩
  | 3 => ⟨S2048x3072, .f32⟩
  | 4 => ⟨S2048x1024, .f32⟩
  | 5 => ⟨S2048x1024, .f32⟩
  | 6 => ⟨S2048x1024, .f32⟩
  | 7 => ⟨S32x64x16x64, .f32⟩
  | 8 => ⟨S_, .f32⟩
  | 9 => ⟨S32x64x16x64, .f32⟩
  | 10 => ⟨S32x64x16x64, .f32⟩
  | 11 => ⟨S32x64x16x64, .f32⟩
  | 12 => ⟨S32x64x16x64, .f32⟩
  | 13 => ⟨S64, .i32⟩
  | 14 => ⟨S_, .i32⟩
  | 15 => ⟨S64, .i32⟩
  | 16 => ⟨S64, .i32⟩
  | 17 => ⟨S_, .i32⟩
  | 18 => ⟨S_, .i32⟩
  | 19 => ⟨S_, .i32⟩
  | 20 => ⟨S64, .i32⟩
  | 21 => ⟨S64, .i32⟩
  | 22 => ⟨S_, .i32⟩
  | 23 => ⟨S64, .i32⟩
  | 24 => ⟨S64, .i32⟩
  | 25 => ⟨S64x1, .i32⟩
  | 26 => ⟨S16, .i32⟩
  | 27 => ⟨S1x16, .i32⟩
  | 28 => ⟨S64x16, .i32⟩
  | 29 => ⟨S64x16, .i32⟩
  | 30 => ⟨S64x16, .i32⟩
  | 31 => ⟨S64x16x1, .i32⟩
  | 32 => ⟨S1x1x64, .i32⟩
  | 33 => ⟨S64x16x64, .i32⟩
  | 34 => ⟨S64x16x64, .i32⟩
  | 35 => ⟨S64x16x64, .i1⟩
  | 36 => ⟨S64x16x64, .f32⟩
  | 37 => ⟨S32, .i32⟩
  | 38 => ⟨S_, .i32⟩
  | 39 => ⟨S32, .i32⟩
  | 40 => ⟨S32, .i32⟩
  | 41 => ⟨S_, .i32⟩
  | 42 => ⟨S_, .i32⟩
  | 43 => ⟨S_, .i32⟩
  | 44 => ⟨S32, .i32⟩
  | 45 => ⟨S32, .i32⟩
  | 46 => ⟨S_, .i32⟩
  | 47 => ⟨S32, .i32⟩
  | 48 => ⟨S32, .i32⟩
  | 49 => ⟨S32x1, .i32⟩
  | 50 => ⟨S8, .i32⟩
  | 51 => ⟨S1x8, .i32⟩
  | 52 => ⟨S32x8, .i32⟩
  | 53 => ⟨S32x8, .i32⟩
  | 54 => ⟨S32x8, .i32⟩
  | 55 => ⟨S32x8x1, .i32⟩
  | 56 => ⟨S1x1x32, .i32⟩
  | 57 => ⟨S32x8x32, .i32⟩
  | 58 => ⟨S32x8x32, .i32⟩
  | 59 => ⟨S32x8x32, .i1⟩
  | 60 => ⟨S32x8x32, .f32⟩
  | 61 => ⟨S64x1, .i32⟩
  | 62 => ⟨S64x16, .i32⟩
  | 63 => ⟨S64x16, .i32⟩
  | 64 => ⟨S_, .i32⟩
  | 65 => ⟨S64x16, .i32⟩
  | 66 => ⟨S64x16, .i32⟩
  | 67 => ⟨S_, .i32⟩
  | 68 => ⟨S64x16, .i32⟩
  | 69 => ⟨S64x16, .i32⟩
  | 70 => ⟨S32x1, .i32⟩
  | 71 => ⟨S32x8, .i32⟩
  | 72 => ⟨S32x8, .i32⟩
  | 73 => ⟨S_, .i32⟩
  | 74 => ⟨S32x8, .i32⟩
  | 75 => ⟨S32x8, .i32⟩
  | 76 => ⟨S_, .i32⟩
  | 77 => ⟨S32x8, .i32⟩
  | 78 => ⟨S32x8, .i32⟩
  | 79 => ⟨S32x1x8x1, .i32⟩
  | 80 => ⟨S1x64x1x16, .i32⟩
  | 81 => ⟨S_, .i32⟩
  | 82 => ⟨S32x1x8x1, .i32⟩
  | 83 => ⟨S32x1x8x1, .i1⟩
  | 84 => ⟨S_, .i32⟩
  | 85 => ⟨S32x1x8x1, .i32⟩
  | 86 => ⟨S32x1x8x1, .i32⟩
  | 87 => ⟨S32x1x8x1, .i32⟩
  | 88 => ⟨S_, .i32⟩
  | 89 => ⟨S1x64x1x16, .i32⟩
  | 90 => ⟨S1x64x1x16, .i1⟩
  | 91 => ⟨S_, .i32⟩
  | 92 => ⟨S1x64x1x16, .i32⟩
  | 93 => ⟨S1x64x1x16, .i32⟩
  | 94 => ⟨S1x64x1x16, .i32⟩
  | 95 => ⟨S32x64x8x16, .i32⟩
  | 96 => ⟨S32x64x8x16, .i32⟩
  | 97 => ⟨S32x64x8x16x1, .i32⟩
  | 98 => ⟨S32x64x8x16x1, .i32⟩
  | 99 => ⟨S32x64x8x16x2, .i32⟩
  | 100 => ⟨S16x32x64x8x16, .f32⟩
  | 101 => ⟨S32x8x64x16x64, .f32⟩
  | 102 => ⟨S32x8x64x16x64, .f32⟩
  | 103 => ⟨S16x32x64x8x64, .f32⟩
  | 104 => ⟨S64x16x16x32x8, .f32⟩
  | 105 => ⟨S16x32x64x8x16, .f32⟩
  | 106 => ⟨S16x32x64x8x16, .f32⟩
  | 107 => ⟨S16x32x64x128, .f32⟩
  | 108 => ⟨S_, .f32⟩
  | 109 => ⟨S16x32x64, .f32⟩
  | 110 => ⟨S16x32x64x1, .f32⟩
  | 111 => ⟨S16x32x64x128, .f32⟩
  | 112 => ⟨S16x32x64x128, .i1⟩
  | 113 => ⟨S16x32x64x128, .f32⟩
  | 114 => ⟨S_, .f32⟩
  | 115 => ⟨S16x32x64, .f32⟩
  | 116 => ⟨S_, .f32⟩
  | 117 => ⟨S16x32x64, .f32⟩
  | 118 => ⟨S16x32x64, .f32⟩
  | 119 => ⟨S_, .f32⟩
  | 120 => ⟨S16x32x64, .f32⟩
  | 121 => ⟨S16x32x64, .i1⟩
  | 122 => ⟨S_, .f32⟩
  | 123 => ⟨S16x32x64, .f32⟩
  | 124 => ⟨S16x32x64, .i1⟩
  | 125 => ⟨S_, .f32⟩
  | 126 => ⟨S16x32x64, .f32⟩
  | 127 => ⟨S_, .f32⟩
  | _ => ⟨S2048x5120, .f32⟩

abbrev hbmTy0_1 (i : Nat) : BufTy := match i % 128 with
  | 0 => ⟨S16x32x64, .f32⟩
  | 1 => ⟨S_, .f32⟩
  | 2 => ⟨S16x32x64, .f32⟩
  | 3 => ⟨S16x32x64, .f32⟩
  | 4 => ⟨S16x32x64, .f32⟩
  | 5 => ⟨S16x32x64x1, .f32⟩
  | 6 => ⟨S16x32x64x128, .f32⟩
  | 7 => ⟨S16x32x64x128, .f32⟩
  | 8 => ⟨S16x32x64x128, .f32⟩
  | 9 => ⟨S_, .f32⟩
  | 10 => ⟨S16x32x64, .f32⟩
  | 11 => ⟨S16x32x64x1, .f32⟩
  | 12 => ⟨S16x32x64x128, .f32⟩
  | 13 => ⟨S16x32x64x128, .f32⟩
  | 14 => ⟨S16x32x64x1, .f32⟩
  | 15 => ⟨S_, .f32⟩
  | 16 => ⟨S16x32x64x1, .f32⟩
  | 17 => ⟨S16x32x64x1, .f32⟩
  | 18 => ⟨S16x32x64x8x16, .f32⟩
  | 19 => ⟨S64x64x16x32x8, .f32⟩
  | 20 => ⟨S16x32x64x8x64, .f32⟩
  | 21 => ⟨S32x16x64x64, .f32⟩
  | 22 => ⟨S32x64x16x64, .f32⟩
  | 23 => ⟨S2048x1024, .f32⟩
  | 24 => ⟨S32x64x16x64, .f32⟩
  | 25 => ⟨S32x16x64x64, .f32⟩
  | 26 => ⟨S32x16x64x8x64, .f32⟩
  | 27 => ⟨S16x32x64x8x64, .f32⟩
  | 28 => ⟨S32x16x64x8x64, .f32⟩
  | 29 => ⟨S32x8x64x16x64, .f32⟩
  | 30 => ⟨S64x64x16x32x8, .f32⟩
  | 31 => ⟨S64x16x32x8x16, .f32⟩
  | 32 => ⟨S16x32x64x8x16, .f32⟩
  | 33 => ⟨S16x32x64x128, .f32⟩
  | 34 => ⟨S16x32x64x128, .f32⟩
  | 35 => ⟨S16x32x64x128, .f32⟩
  | 36 => ⟨S16x32x64x128, .f32⟩
  | 37 => ⟨S_, .f32⟩
  | 38 => ⟨S16x32x64, .f32⟩
  | 39 => ⟨S16x32x64x1, .f32⟩
  | 40 => ⟨S16x32x64x1, .f32⟩
  | 41 => ⟨S16x32x64x128, .f32⟩
  | 42 => ⟨S16x32x64x128, .f32⟩
  | 43 => ⟨S_, .f32⟩
  | 44 => ⟨S16x32x64, .f32⟩
  | 45 => ⟨S16x32x64x128, .f32⟩
  | 46 => ⟨S16x32x64x128, .f32⟩
  | 47 => ⟨S16x32x64x128, .f32⟩
  | 48 => ⟨S16x32x64x8x16, .f32⟩
  | 49 => ⟨S64x16x16x32x8, .f32⟩
  | 50 => ⟨S64x16x32x8x64, .f32⟩
  | 51 => ⟨S16x32x64x8x64, .f32⟩
  | 52 => ⟨S16x32x8x64x64, .f32⟩
  | 53 => ⟨S32x8x64x16x64, .f32⟩
  | 54 => ⟨S16x32x64x64, .f32⟩
  | 55 => ⟨S32x64x16x64, .f32⟩
  | 56 => ⟨S64x16x64x32, .f32⟩
  | 57 => ⟨S32x64x16x64, .f32⟩
  | 58 => ⟨S64x16x64x32, .f32⟩
  | 59 => ⟨S32x64x16x64, .f32⟩
  | 60 => ⟨S2048x1024, .f32⟩
  | 61 => ⟨S2048x1024, .f32⟩
  | 62 => ⟨S_, .f32⟩
  | 63 => ⟨S32x64x16x64, .f32⟩
  | 64 => ⟨S32x64x16x64, .f32⟩
  | 65 => ⟨S2048x1024, .f32⟩
  | 66 => ⟨S2048x1024, .bf16⟩
  | 67 => ⟨S2048x1024, .bf16⟩
  | 68 => ⟨S2048x1024, .bf16⟩
  | 69 => ⟨S1024x2048, .bf16⟩
  | 70 => ⟨S1024x2048, .bf16⟩
  | 71 => ⟨S1024x2048, .bf16⟩
  | 72 => ⟨S1x1024x2048, .bf16⟩
  | 73 => ⟨S1x1024x2048, .bf16⟩
  | 74 => ⟨S1x1024x2048, .bf16⟩
  | 75 => ⟨S3x1024x2048, .bf16⟩
  | _ => ⟨S2048x5120, .f32⟩

abbrev hbmTy (i : Nat) : BufTy := match i / 128 with
  | 0 => hbmTy0_0 i
  | 1 => hbmTy0_1 i
  | _ => ⟨S2048x5120, .f32⟩

abbrev bufTy : (tb : Table) → Fin (tcTables nBuf tb) → BufTy
  | .hbm, ⟨i, _⟩ => hbmTy i
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_c_4 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_c_5 : Ref sig .tc := ⟨.hbm, 64, rfl⟩
abbrev main_v34 : Ref sig .tc := ⟨.hbm, 65, rfl⟩
abbrev main_v35 : Ref sig .tc := ⟨.hbm, 66, rfl⟩
abbrev main_c_6 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_c_7 : Ref sig .tc := ⟨.hbm, 73, rfl⟩
abbrev main_v41 : Ref sig .tc := ⟨.hbm, 74, rfl⟩
abbrev main_v42 : Ref sig .tc := ⟨.hbm, 75, rfl⟩
abbrev main_c_8 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c_9 : Ref sig .tc := ⟨.hbm, 81, rfl⟩
abbrev main_v47 : Ref sig .tc := ⟨.hbm, 82, rfl⟩
abbrev main_v48 : Ref sig .tc := ⟨.hbm, 83, rfl⟩
abbrev main_c_10 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_c_11 : Ref sig .tc := ⟨.hbm, 88, rfl⟩
abbrev main_v52 : Ref sig .tc := ⟨.hbm, 89, rfl⟩
abbrev main_v53 : Ref sig .tc := ⟨.hbm, 90, rfl⟩
abbrev main_c_12 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_13 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_14 : Ref sig .tc := ⟨.hbm, 114, rfl⟩
abbrev main_v75 : Ref sig .tc := ⟨.hbm, 115, rfl⟩
abbrev main_cst_15 : Ref sig .tc := ⟨.hbm, 116, rfl⟩
abbrev main_v76 : Ref sig .tc := ⟨.hbm, 117, rfl⟩
abbrev main_v77 : Ref sig .tc := ⟨.hbm, 118, rfl⟩
abbrev main_cst_16 : Ref sig .tc := ⟨.hbm, 119, rfl⟩
abbrev main_v78 : Ref sig .tc := ⟨.hbm, 120, rfl⟩
abbrev main_v79 : Ref sig .tc := ⟨.hbm, 121, rfl⟩
abbrev main_cst_17 : Ref sig .tc := ⟨.hbm, 122, rfl⟩
abbrev main_v80 : Ref sig .tc := ⟨.hbm, 123, rfl⟩
abbrev main_v81 : Ref sig .tc := ⟨.hbm, 124, rfl⟩
abbrev main_cst_18 : Ref sig .tc := ⟨.hbm, 125, rfl⟩
abbrev main_v82 : Ref sig .tc := ⟨.hbm, 126, rfl⟩
abbrev main_cst_19 : Ref sig .tc := ⟨.hbm, 127, rfl⟩
abbrev main_v83 : Ref sig .tc := ⟨.hbm, 128, rfl⟩
abbrev main_cst_20 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_21 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_22 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_23 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_24 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_cst_25 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩

abbrev nD : Nat := 1
abbrev τ : Topo := Topo.v7x

variable {F : FTy → Type} [FloatOps F]
-- ==== Ffn.lean ====
abbrev S2048x2048 : Shape := ⟨2, ![2048, 2048]⟩
abbrev S2048x11264 : Shape := ⟨2, ![2048, 11264]⟩
abbrev S5632x2048 : Shape := ⟨2, ![5632, 2048]⟩
abbrev S11264x2048 : Shape := ⟨2, ![11264, 2048]⟩
abbrev S2x5632x2048 : Shape := ⟨3, ![2, 5632, 2048]⟩
abbrev S2048x5632 : Shape := ⟨2, ![2048, 5632]⟩
abbrev S1024x2048 : Shape := ⟨2, ![1024, 2048]⟩
abbrev S2x512x2048 : Shape := ⟨3, ![2, 512, 2048]⟩
abbrev S1024x512 : Shape := ⟨2, ![1024, 512]⟩
abbrev S512x1024 : Shape := ⟨2, ![512, 1024]⟩
abbrev S1x512x2048 : Shape := ⟨3, ![1, 512, 2048]⟩
abbrev S512x2048 : Shape := ⟨2, ![512, 2048]⟩
abbrev S1024x5632 : Shape := ⟨2, ![1024, 5632]⟩
abbrev S5632x512 : Shape := ⟨2, ![5632, 512]⟩
abbrev S2x512x1024 : Shape := ⟨3, ![2, 512, 1024]⟩
abbrev S1x512x1024 : Shape := ⟨3, ![1, 512, 1024]⟩

abbrev nBuf : Space → Nat
  | .hbm => 22
  | .vmem => 44
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S5632x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S11264x2048, .f32⟩
  | .hbm, ⟨7, _⟩ => ⟨S11264x2048, .bf16⟩
  | .hbm, ⟨8, _⟩ => ⟨S5632x2048, .bf16⟩
  | .hbm, ⟨9, _⟩ => ⟨S2048x2048, .bf16⟩
  | .hbm, ⟨10, _⟩ => ⟨S2x5632x2048, .bf16⟩
  | .hbm, ⟨11, _⟩ => ⟨S2048x5632, .bf16⟩
  | .hbm, ⟨12, _⟩ => ⟨S2048x5632, .bf16⟩
  | .hbm, ⟨13, _⟩ => ⟨S2048x5632, .bf16⟩
  | .hbm, ⟨14, _⟩ => ⟨S5632x2048, .bf16⟩
  | .hbm, ⟨15, _⟩ => ⟨S2048x2048, .f32⟩
  | .hbm, ⟨16, _⟩ => ⟨S5632x2048, .bf16⟩
  | .hbm, ⟨17, _⟩ => ⟨S2x5632x2048, .bf16⟩
  | .hbm, ⟨18, _⟩ => ⟨S2048x2048, .f32⟩
  | .hbm, ⟨19, _⟩ => ⟨S2x5632x2048, .bf16⟩
  | .hbm, ⟨20, _⟩ => ⟨S11264x2048, .bf16⟩
  | .hbm, ⟨21, _⟩ => ⟨S11264x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2x512x2048, .bf16⟩
  | .local _ .vmem, ⟨3, _⟩ => ⟨S2x512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S512x1024, .bf16⟩
  | .local _ .vmem, ⟨11, _⟩ => ⟨S512x1024, .bf16⟩
  | .local _ .vmem, ⟨12, _⟩ => ⟨S1024x5632, .bf16⟩
  | .local _ .vmem, ⟨13, _⟩ => ⟨S1024x5632, .bf16⟩
  | .local _ .vmem, ⟨14, _⟩ => ⟨S5632x512, .bf16⟩
  | .local _ .vmem, ⟨15, _⟩ => ⟨S5632x512, .bf16⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S512x2048, .bf16⟩
  | .local _ .vmem, ⟨21, _⟩ => ⟨S512x2048, .bf16⟩
  | .local _ .vmem, ⟨22, _⟩ => ⟨S2048x2048, .bf16⟩
  | .local _ .vmem, ⟨23, _⟩ => ⟨S512x2048, .bf16⟩
  | .local _ .vmem, ⟨24, _⟩ => ⟨S512x2048, .bf16⟩
  | .local _ .vmem, ⟨25, _⟩ => ⟨S1024x2048, .bf16⟩
  | .local _ .vmem, ⟨26, _⟩ => ⟨S1024x2048, .bf16⟩
  | .local _ .vmem, ⟨27, _⟩ => ⟨S1024x512, .bf16⟩
  | .local _ .vmem, ⟨28, _⟩ => ⟨S1024x512, .bf16⟩
  | .local _ .vmem, ⟨29, _⟩ => ⟨S1024x512, .bf16⟩
  | .local _ .vmem, ⟨30, _⟩ => ⟨S1024x512, .bf16⟩
  | .local _ .vmem, ⟨31, _⟩ => ⟨S2x512x2048, .bf16⟩
  | .local _ .vmem, ⟨32, _⟩ => ⟨S2x512x2048, .bf16⟩
  | .local _ .vmem, ⟨33, _⟩ => ⟨S512x2048, .bf16⟩
  | .local _ .vmem, ⟨34, _⟩ => ⟨S512x2048, .bf16⟩
  | .local _ .vmem, ⟨35, _⟩ => ⟨S1024x2048, .f32⟩
  | .local _ .vmem, ⟨36, _⟩ => ⟨S1024x2048, .f32⟩
  | .local _ .vmem, ⟨37, _⟩ => ⟨S2x512x1024, .bf16⟩
  | .local _ .vmem, ⟨38, _⟩ => ⟨S2x512x1024, .bf16⟩
  | .local _ .vmem, ⟨39, _⟩ => ⟨S512x2048, .bf16⟩
  | .local _ .vmem, ⟨40, _⟩ => ⟨S512x2048, .bf16⟩
  | .local _ .vmem, ⟨41, _⟩ => ⟨S2048x2048, .bf16⟩
  | .local _ .vmem, ⟨42, _⟩ => ⟨S512x2048, .bf16⟩
  | .local _ .vmem, ⟨43, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc3_stg4_0 : Ref sig .tc := ⟨.vmem, 33, rfl⟩
abbrev cc3_stg4_1 : Ref sig .tc := ⟨.vmem, 34, rfl⟩
abbrev cc3_stg5_0 : Ref sig .tc := ⟨.vmem, 35, rfl⟩
abbrev cc3_stg5_1 : Ref sig .tc := ⟨.vmem, 36, rfl⟩
abbrev cc3_stg6_0 : Ref sig .tc := ⟨.vmem, 37, rfl⟩
abbrev cc3_stg6_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg2_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32
abbrev cc3_sem4_0 : DmaSem sig := 33
abbrev cc3_sem4_1 : DmaSem sig := 34
abbrev cc3_sem5_0 : DmaSem sig := 35
abbrev cc3_sem5_1 : DmaSem sig := 36
abbrev cc3_sem6_0 : DmaSem sig := 37
abbrev cc3_sem6_1 : DmaSem sig := 38
abbrev cc4_sem0_0 : DmaSem sig := 39
abbrev cc4_sem0_1 : DmaSem sig := 40
abbrev cc4_sem1_0 : DmaSem sig := 41
abbrev cc4_sem2_0 : DmaSem sig := 42
abbrev cc4_sem2_1 : DmaSem sig := 43

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage1_0 : Fin 2 → Memref sig .tc .vmem S1024x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S5632x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![11, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 11], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S2x512x2048 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S512x2048 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true]

abbrev stage3_5 : Fin 2 → Memref sig .tc .vmem S1024x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S2x512x1024 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev grid4 : Pipeline.Grid := ⟨2, ![22, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S2048x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S512x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== FfnRefIdeal.lean ====
abbrev S2048x2048 : Shape := ⟨2, ![2048, 2048]⟩
abbrev S2048x11264 : Shape := ⟨2, ![2048, 11264]⟩
abbrev S5632x2048 : Shape := ⟨2, ![5632, 2048]⟩
abbrev S2048x5632 : Shape := ⟨2, ![2048, 5632]⟩
abbrev S_ : Shape := ⟨0, ![]⟩
abbrev S11264x2048 : Shape := ⟨2, ![11264, 2048]⟩

abbrev nBuf : Space → Nat
  | .hbm => 43
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S5632x2048, .f32⟩
  | .hbm, ⟨3, _⟩ => ⟨S2048x2048, .f32⟩
  | .hbm, ⟨4, _⟩ => ⟨S2048x2048, .f32⟩
  | .hbm, ⟨5, _⟩ => ⟨S2048x11264, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x2048, .f32⟩
  | .hbm, ⟨23, _⟩ => ⟨S2048x5632, .f32⟩
  | .hbm, ⟨24, _⟩ => ⟨S5632x2048, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x11264, .f32⟩
  | .hbm, ⟨33, _⟩ => ⟨S11264x2048, .f32⟩
  | .hbm, ⟨34, _⟩ => ⟨S2048x11264, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S11264x2048, .f32⟩
  | .hbm, ⟨41, _⟩ => ⟨S11264x2048, .bf16⟩
  | .hbm, ⟨42, _⟩ => ⟨S5632x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]
-- ==== Mix.lean ====
abbrev S2048x2048 : Shape := ⟨2, ![2048, 2048]⟩
abbrev S2048x5120 : Shape := ⟨2, ![2048, 5120]⟩
abbrev S5120x2048 : Shape := ⟨2, ![5120, 2048]⟩
abbrev S2048x1024 : Shape := ⟨2, ![2048, 1024]⟩
abbrev S3072x2048 : Shape := ⟨2, ![3072, 2048]⟩
abbrev S1024x2048 : Shape := ⟨2, ![1024, 2048]⟩
abbrev S512x2048 : Shape := ⟨2, ![512, 2048]⟩
abbrev S1024x512 : Shape := ⟨2, ![1024, 512]⟩
abbrev S2048x512 : Shape := ⟨2, ![2048, 512]⟩
abbrev S1024x1024 : Shape := ⟨2, ![1024, 1024]⟩
abbrev S5120x512 : Shape := ⟨2, ![5120, 512]⟩

abbrev nBuf : Space → Nat
  | .hbm => 37
  | .vmem => 49
  | .smem => 0
  | _ => 0

abbrev bufTy : (tb : Table) → Fin (tcTables nBuf tb) → BufTy
  | .hbm, ⟨0, _⟩ => ⟨S2048x2048, .f32⟩
  | .hbm, ⟨1, _⟩ => ⟨S2048x5120, .f32⟩
  | .hbm, ⟨2, _⟩ => ⟨S2048x5120, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S5120x2048, .f32⟩
  | .hbm, ⟨9, _⟩ => ⟨S5120x2048, .bf16⟩
  | .hbm, ⟨10, _⟩ => ⟨S2048x2048, .bf16⟩
  | .hbm, ⟨11, _⟩ => ⟨S2048x2048, .bf16⟩
  | .hbm, ⟨12, _⟩ => ⟨S2048x2048, .bf16⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S2048x1024, .bf16⟩
  | .hbm, ⟨20, _⟩ => ⟨S2048x1024, .bf16⟩
  | .hbm, ⟨21, _⟩ => ⟨S2048x1024, .bf16⟩
  | .hbm, ⟨22, _⟩ => ⟨S2048x1024, .bf16⟩
  | .hbm, ⟨23, _⟩ => ⟨S5120x2048, .f32⟩
  | .hbm, ⟨24, _⟩ => ⟨S2048x2048, .f32⟩
  | .hbm, ⟨25, _⟩ => ⟨S2048x2048, .bf16⟩
  | .hbm, ⟨26, _⟩ => ⟨S5120x2048, .f32⟩
  | .hbm, ⟨27, _⟩ => ⟨S3072x2048, .f32⟩
  | .hbm, ⟨28, _⟩ => ⟨S3072x2048, .bf16⟩
  | .hbm, ⟨29, _⟩ => ⟨S2048x5120, .f32⟩
  | .hbm, ⟨30, _⟩ => ⟨S2048x2048, .f32⟩
  | .hbm, ⟨31, _⟩ => ⟨S2048x2048, .bf16⟩
  | .hbm, ⟨32, _⟩ => ⟨S2048x2048, .bf16⟩
  | .hbm, ⟨33, _⟩ => ⟨S2048x2048, .f32⟩
  | .hbm, ⟨34, _⟩ => ⟨S5120x2048, .bf16⟩
  | .hbm, ⟨35, _⟩ => ⟨S5120x2048, .bf16⟩
  | .hbm, ⟨36, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | .local _ .vmem, ⟨7, _⟩ => ⟨S1024x2048, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S512x2048, .bf16⟩
  | .local _ .vmem, ⟨15, _⟩ => ⟨S512x2048, .bf16⟩
  | .local _ .vmem, ⟨16, _⟩ => ⟨S2048x2048, .bf16⟩
  | .local _ .vmem, ⟨17, _⟩ => ⟨S512x2048, .bf16⟩
  | .local _ .vmem, ⟨18, _⟩ => ⟨S512x2048, .bf16⟩
  | .local _ .vmem, ⟨19, _⟩ => ⟨S1024x2048, .bf16⟩
  | .local _ .vmem, ⟨20, _⟩ => ⟨S1024x2048, .bf16⟩
  | .local _ .vmem, ⟨21, _⟩ => ⟨S512x2048, .bf16⟩
  | .local _ .vmem, ⟨22, _⟩ => ⟨S512x2048, .bf16⟩
  | .local _ .vmem, ⟨23, _⟩ => ⟨S1024x512, .f32⟩
  | .local _ .vmem, ⟨24, _⟩ => ⟨S1024x512, .f32⟩
  | .local _ .vmem, ⟨25, _⟩ => ⟨S512x2048, .bf16⟩
  | .local _ .vmem, ⟨26, _⟩ => ⟨S512x2048, .bf16⟩
  | .local _ .vmem, ⟨27, _⟩ => ⟨S2048x2048, .bf16⟩
  | .local _ .vmem, ⟨28, _⟩ => ⟨S512x2048, .bf16⟩
  | .local _ .vmem, ⟨29, _⟩ => ⟨S512x2048, .bf16⟩
  | .local _ .vmem, ⟨30, _⟩ => ⟨S512x2048, .bf16⟩
  | .local _ .vmem, ⟨31, _⟩ => ⟨S512x2048, .bf16⟩
  | .local _ .vmem, ⟨32, _⟩ => ⟨S2048x2048, .bf16⟩
  | .local _ .vmem, ⟨33, _⟩ => ⟨S512x2048, .bf16⟩
  | .local _ .vmem, ⟨34, _⟩ => ⟨S512x2048, .bf16⟩
  | .local _ .vmem, ⟨35, _⟩ => ⟨S1024x1024, .bf16⟩
  | .local _ .vmem, ⟨36, _⟩ => ⟨S1024x1024, .bf16⟩
  | .local _ .vmem, ⟨37, _⟩ => ⟨S1024x1024, .bf16⟩
  | .local _ .vmem, ⟨38, _⟩ => ⟨S1024x1024, .bf16⟩
  | .local _ .vmem, ⟨39, _⟩ => ⟨S1024x1024, .bf16⟩
  | .local _ .vmem, ⟨40, _⟩ => ⟨S1024x1024, .bf16⟩
  | .local _ .vmem, ⟨41, _⟩ => ⟨S1024x1024, .bf16⟩
  | .local _ .vmem, ⟨42, _⟩ => ⟨S1024x1024, .bf16⟩
  | .local _ .vmem, ⟨43, _⟩ => ⟨S1024x1024, .bf16⟩
  | .local _ .vmem, ⟨44, _⟩ => ⟨S1024x1024, .bf16⟩
  | .local _ .vmem, ⟨45, _⟩ => ⟨S5120x512, .bf16⟩
  | .local _ .vmem, ⟨46, _⟩ => ⟨S5120x512, .bf16⟩
  | .local _ .vmem, ⟨47, _⟩ => ⟨S1024x512, .f32⟩
  | .local _ .vmem, ⟨48, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg2_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg1_1 : Ref sig .tc := ⟨.vmem, 38, rfl⟩
abbrev cc6_stg2_0 : Ref sig .tc := ⟨.vmem, 39, rfl⟩
abbrev cc6_stg2_1 : Ref sig .tc := ⟨.vmem, 40, rfl⟩
abbrev cc6_stg3_0 : Ref sig .tc := ⟨.vmem, 41, rfl⟩
abbrev cc6_stg3_1 : Ref sig .tc := ⟨.vmem, 42, rfl⟩
abbrev cc6_stg4_0 : Ref sig .tc := ⟨.vmem, 43, rfl⟩
abbrev cc6_stg4_1 : Ref sig .tc := ⟨.vmem, 44, rfl⟩
abbrev cc6_stg5_0 : Ref sig .tc := ⟨.vmem, 45, rfl⟩
abbrev cc6_stg5_1 : Ref sig .tc := ⟨.vmem, 46, rfl⟩
abbrev cc6_stg6_0 : Ref sig .tc := ⟨.vmem, 47, rfl⟩
abbrev cc6_stg6_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem2_1 : DmaSem sig := 34
abbrev cc6_sem0_0 : DmaSem sig := 35
abbrev cc6_sem0_1 : DmaSem sig := 36
abbrev cc6_sem1_0 : DmaSem sig := 37
abbrev cc6_sem1_1 : DmaSem sig := 38
abbrev cc6_sem2_0 : DmaSem sig := 39
abbrev cc6_sem2_1 : DmaSem sig := 40
abbrev cc6_sem3_0 : DmaSem sig := 41
abbrev cc6_sem3_1 : DmaSem sig := 42
abbrev cc6_sem4_0 : DmaSem sig := 43
abbrev cc6_sem4_1 : DmaSem sig := 44
abbrev cc6_sem5_0 : DmaSem sig := 45
abbrev cc6_sem5_1 : DmaSem sig := 46
abbrev cc6_sem6_0 : DmaSem sig := 47
abbrev cc6_sem6_1 : DmaSem sig := 48

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![4, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S2048x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S512x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![6, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![v0.toNat, arg1.toNat]

abbrev stage5_0 : Fin 2 → Memref sig .tc .vmem S512x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S2048x2048 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S512x2048 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![2, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S1024x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1024x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S1024x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev stage6_4 : Fin 2 → Memref sig .tc .vmem S1024x1024 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, false]

abbrev stage6_5 : Fin 2 → Memref sig .tc .vmem S5120x512 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![false, true]

abbrev stage6_6 : Fin 2 → Memref sig .tc .vmem S1024x512 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, true]
-- ==== MixRefIdeal.lean ====
abbrev S2048x2048 : Shape := ⟨2, ![2048, 2048]⟩
abbrev S2048x5120 : Shape := ⟨2, ![2048, 5120]⟩
abbrev S5120x2048 : Shape := ⟨2, ![5120, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5120, .f32⟩
  | .hbm, ⟨2, _⟩ => ⟨S2048x5120, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x5120, .f32⟩
  | .hbm, ⟨8, _⟩ => ⟨S2048x2048, .f32⟩
  | .hbm, ⟨9, _⟩ => ⟨S5120x2048, .f32⟩
  | .hbm, ⟨10, _⟩ => ⟨S2048x5120, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .bf16⟩
  | .hbm, ⟨17, _⟩ => ⟨S5120x2048, .f32⟩
  | .hbm, ⟨18, _⟩ => ⟨S5120x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Half.lean ====
abbrev S2048x2048 : Shape := ⟨2, ![2048, 2048]⟩
abbrev S2048x11264 : Shape := ⟨2, ![2048, 11264]⟩
abbrev S11264x2048 : Shape := ⟨2, ![11264, 2048]⟩
abbrev S5632x2048 : Shape := ⟨2, ![5632, 2048]⟩
abbrev S704x2048 : Shape := ⟨2, ![704, 2048]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x2048, .bf16⟩
  | .hbm, ⟨3, _⟩ => ⟨S11264x2048, .f32⟩
  | .hbm, ⟨4, _⟩ => ⟨S11264x2048, .bf16⟩
  | .hbm, ⟨5, _⟩ => ⟨S5632x2048, .bf16⟩
  | .hbm, ⟨6, _⟩ => ⟨S5632x2048, .bf16⟩
  | .local _ .vmem, ⟨0, _⟩ => ⟨S704x2048, .bf16⟩
  | .local _ .vmem, ⟨1, _⟩ => ⟨S704x2048, .bf16⟩
  | .local _ .vmem, ⟨2, _⟩ => ⟨S2048x2048, .bf16⟩
  | .local _ .vmem, ⟨3, _⟩ => ⟨S704x2048, .bf16⟩
  | .local _ .vmem, ⟨4, _⟩ => ⟨S704x2048, .bf16⟩
  | .local _ .vmem, ⟨5, _⟩ => ⟨S704x2048, .bf16⟩
  | .local _ .vmem, ⟨6, _⟩ => ⟨S704x2048, .bf16⟩
  | .local _ .vmem, ⟨7, _⟩ => ⟨S2048x2048, .bf16⟩
  | .local _ .vmem, ⟨8, _⟩ => ⟨S704x2048, .bf16⟩
  | .local _ .vmem, ⟨9, _⟩ => ⟨S704x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage1_0 : Fin 2 → Memref sig .tc .vmem S704x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S704x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== HalfRefIdeal.lean ====
abbrev S2048x2048 : Shape := ⟨2, ![2048, 2048]⟩
abbrev S2048x11264 : Shape := ⟨2, ![2048, 11264]⟩
abbrev S_ : Shape := ⟨0, ![]⟩
abbrev S11264x2048 : Shape := ⟨2, ![11264, 2048]⟩
abbrev S8x2x704x2048 : Shape := ⟨4, ![8, 2, 704, 2048]⟩
abbrev S8x1x704x2048 : Shape := ⟨4, ![8, 1, 704, 2048]⟩
abbrev S8x704x2048 : Shape := ⟨3, ![8, 704, 2048]⟩
abbrev S5632x2048 : Shape := ⟨2, ![5632, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S_, .f32⟩
  | .hbm, ⟨3, _⟩ => ⟨S2048x11264, .f32⟩
  | .hbm, ⟨4, _⟩ => ⟨S2048x11264, .f32⟩
  | .hbm, ⟨5, _⟩ => ⟨S11264x2048, .f32⟩
  | .hbm, ⟨6, _⟩ => ⟨S2048x11264, .f32⟩
  | .hbm, ⟨7, _⟩ => ⟨S11264x2048, .f32⟩
  | .hbm, ⟨8, _⟩ => ⟨S11264x2048, .bf16⟩
  | .hbm, ⟨9, _⟩ => ⟨S8x2x704x2048, .bf16⟩
  | .hbm, ⟨10, _⟩ => ⟨S8x1x704x2048, .bf16⟩
  | .hbm, ⟨11, _⟩ => ⟨S8x704x2048, .bf16⟩
  | .hbm, ⟨12, _⟩ => ⟨S5632x2048, .bf16⟩
  | .hbm, ⟨13, _⟩ => ⟨S8x1x704x2048, .bf16⟩
  | .hbm, ⟨14, _⟩ => ⟨S8x704x2048, .bf16⟩
  | .hbm, ⟨15, _⟩ => ⟨S5632x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Norm.lean ====
abbrev S2048x2048 : Shape := ⟨2, ![2048, 2048]⟩
abbrev S1x2048 : Shape := ⟨2, ![1, 2048]⟩
abbrev S2048x1024 : Shape := ⟨2, ![2048, 1024]⟩
abbrev S1x1024 : Shape := ⟨2, ![1, 1024]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S256x1024 : Shape := ⟨2, ![256, 1024]⟩
abbrev S2048x256 : Shape := ⟨2, ![2048, 256]⟩
abbrev S1024x256 : Shape := ⟨2, ![1024, 256]⟩
abbrev S1024 : Shape := ⟨1, ![1024]⟩

abbrev nBuf : Space → Nat
  | .hbm => 19
  | .vmem => 41
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S1x1024, .f32⟩
  | .hbm, ⟨8, _⟩ => ⟨S2048x2048, .f32⟩
  | .hbm, ⟨9, _⟩ => ⟨S2048x2048, .bf16⟩
  | .hbm, ⟨10, _⟩ => ⟨S2048x2048, .f32⟩
  | .hbm, ⟨11, _⟩ => ⟨S2048x2048, .bf16⟩
  | .hbm, ⟨12, _⟩ => ⟨S1x2048, .f32⟩
  | .hbm, ⟨13, _⟩ => ⟨S2048x2048, .bf16⟩
  | .hbm, ⟨14, _⟩ => ⟨S2048x2048, .bf16⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S1x2048, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S1x1024, .f32⟩
  | .local _ .vmem, ⟨23, _⟩ => ⟨S256x2048, .bf16⟩
  | .local _ .vmem, ⟨24, _⟩ => ⟨S256x2048, .bf16⟩
  | .local _ .vmem, ⟨25, _⟩ => ⟨S2048x256, .bf16⟩
  | .local _ .vmem, ⟨26, _⟩ => ⟨S2048x256, .bf16⟩
  | .local _ .vmem, ⟨27, _⟩ => ⟨S256x2048, .f32⟩
  | .local _ .vmem, ⟨28, _⟩ => ⟨S256x2048, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S1x1024, .f32⟩
  | .local _ .vmem, ⟨34, _⟩ => ⟨S1x1024, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S1x1024, .f32⟩
  | .local _ .vmem, ⟨40, _⟩ => ⟨S1x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v2_0 : Ref sig .tc := ⟨.hbm, 13, rfl⟩
abbrev main_v2_1 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc3_stg6_0 : Ref sig .tc := ⟨.vmem, 37, rfl⟩
abbrev cc3_stg6_1 : Ref sig .tc := ⟨.vmem, 38, rfl⟩
abbrev cc3_stg7_0 : Ref sig .tc := ⟨.vmem, 39, rfl⟩
abbrev cc3_stg8_0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem5_1 : DmaSem sig := 36
abbrev cc3_sem6_0 : DmaSem sig := 37
abbrev cc3_sem6_1 : DmaSem sig := 38
abbrev cc3_sem7_0 : DmaSem sig := 39
abbrev cc3_sem8_0 : DmaSem sig := 40

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x2048 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2048x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S1x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]
-- ==== NormRefIdeal.lean ====
abbrev S2048x2048 : Shape := ⟨2, ![2048, 2048]⟩
abbrev S1x2048 : Shape := ⟨2, ![1, 2048]⟩
abbrev S2048x1024 : Shape := ⟨2, ![2048, 1024]⟩
abbrev S1x1024 : Shape := ⟨2, ![1, 1024]⟩
abbrev S2048 : Shape := ⟨1, ![2048]⟩
abbrev S_ : Shape := ⟨0, ![]⟩
abbrev S2048x1 : Shape := ⟨2, ![2048, 1]⟩
abbrev S1024 : Shape := ⟨1, ![1024]⟩

abbrev nBuf : Space → Nat
  | .hbm => 162
  | .vmem => 0
  | .smem => 0
  | _ => 0

abbrev hbmTy0_0 (i : Nat) : BufTy := match i % 128 with
  | 0 => ⟨S2048x2048, .f32⟩
  | 1 => ⟨S1x2048, .f32⟩
  | 2 => ⟨S2048x2048, .f32⟩
  | 3 => ⟨S2048x2048, .f32⟩
  | 4 => ⟨S2048x1024, .f32⟩
  | 5 => ⟨S2048x1024, .f32⟩
  | 6 => ⟨S1x1024, .f32⟩
  | 7 => ⟨S1x1024, .f32⟩
  | 8 => ⟨S2048x2048, .f32⟩
  | 9 => ⟨S2048, .f32⟩
  | 10 => ⟨S2048x2048, .f32⟩
  | 11 => ⟨S_, .f32⟩
  | 12 => ⟨S2048, .f32⟩
  | 13 => ⟨S2048x1, .f32⟩
  | 14 => ⟨S_, .f32⟩
  | 15 => ⟨S2048x1, .f32⟩
  | 16 => ⟨S2048x1, .f32⟩
  | 17 => ⟨S_, .f32⟩
  | 18 => ⟨S2048x1, .f32⟩
  | 19 => ⟨S2048x1, .f32⟩
  | 20 => ⟨S2048x1, .f32⟩
  | 21 => ⟨S2048x1, .f32⟩
  | 22 => ⟨S_, .f32⟩
  | 23 => ⟨S2048x1, .f32⟩
  | 24 => ⟨S2048x1, .f32⟩
  | 25 => ⟨S2048x2048, .f32⟩
  | 26 => ⟨S2048x2048, .f32⟩
  | 27 => ⟨S1x2048, .f32⟩
  | 28 => ⟨S2048x2048, .f32⟩
  | 29 => ⟨S2048x2048, .f32⟩
  | 30 => ⟨S2048x2048, .f32⟩
  | 31 => ⟨S_, .f32⟩
  | 32 => ⟨S2048, .f32⟩
  | 33 => ⟨S1x2048, .f32⟩
  | 34 => ⟨S2048x2048, .f32⟩
  | 35 => ⟨S2048x2048, .f32⟩
  | 36 => ⟨S_, .f32⟩
  | 37 => ⟨S2048, .f32⟩
  | 38 => ⟨S2048x2048, .f32⟩
  | 39 => ⟨S_, .f32⟩
  | 40 => ⟨S2048, .f32⟩
  | 41 => ⟨S2048x1, .f32⟩
  | 42 => ⟨S2048x2048, .f32⟩
  | 43 => ⟨S2048x2048, .f32⟩
  | 44 => ⟨S2048x1, .f32⟩
  | 45 => ⟨S_, .f32⟩
  | 46 => ⟨S2048x1, .f32⟩
  | 47 => ⟨S2048x1, .f32⟩
  | 48 => ⟨S_, .f32⟩
  | 49 => ⟨S2048, .f32⟩
  | 50 => ⟨S2048x2048, .f32⟩
  | 51 => ⟨S2048x2048, .f32⟩
  | 52 => ⟨S2048x2048, .f32⟩
  | 53 => ⟨S2048x2048, .f32⟩
  | 54 => ⟨S2048x2048, .f32⟩
  | 55 => ⟨S2048x2048, .f32⟩
  | 56 => ⟨S1024, .f32⟩
  | 57 => ⟨S1024, .f32⟩
  | 58 => ⟨S2048x1024, .f32⟩
  | 59 => ⟨S_, .f32⟩
  | 60 => ⟨S2048, .f32⟩
  | 61 => ⟨S2048x1, .f32⟩
  | 62 => ⟨S_, .f32⟩
  | 63 => ⟨S2048x1, .f32⟩
  | 64 => ⟨S2048x1, .f32⟩
  | 65 => ⟨S_, .f32⟩
  | 66 => ⟨S2048x1, .f32⟩
  | 67 => ⟨S2048x1, .f32⟩
  | 68 => ⟨S2048x1, .f32⟩
  | 69 => ⟨S2048x1, .f32⟩
  | 70 => ⟨S_, .f32⟩
  | 71 => ⟨S2048x1, .f32⟩
  | 72 => ⟨S2048x1, .f32⟩
  | 73 => ⟨S2048x1024, .f32⟩
  | 74 => ⟨S2048x1024, .f32⟩
  | 75 => ⟨S1x1024, .f32⟩
  | 76 => ⟨S2048x1024, .f32⟩
  | 77 => ⟨S2048x1024, .f32⟩
  | 78 => ⟨S2048x1024, .f32⟩
  | 79 => ⟨S_, .f32⟩
  | 80 => ⟨S2048, .f32⟩
  | 81 => ⟨S2048x1, .f32⟩
  | 82 => ⟨S_, .f32⟩
  | 83 => ⟨S2048x1, .f32⟩
  | 84 => ⟨S2048x1, .f32⟩
  | 85 => ⟨S_, .f32⟩
  | 86 => ⟨S2048x1, .f32⟩
  | 87 => ⟨S2048x1, .f32⟩
  | 88 => ⟨S2048x1, .f32⟩
  | 89 => ⟨S2048x1, .f32⟩
  | 90 => ⟨S_, .f32⟩
  | 91 => ⟨S2048x1, .f32⟩
  | 92 => ⟨S2048x1, .f32⟩
  | 93 => ⟨S2048x1024, .f32⟩
  | 94 => ⟨S2048x1024, .f32⟩
  | 95 => ⟨S1x1024, .f32⟩
  | 96 => ⟨S2048x1024, .f32⟩
  | 97 => ⟨S2048x1024, .f32⟩
  | 98 => ⟨S2048x2048, .f32⟩
  | 99 => ⟨S2048x1024, .f32⟩
  | 100 => ⟨S2048x1024, .f32⟩
  | 101 => ⟨S2048x1024, .f32⟩
  | 102 => ⟨S_, .f32⟩
  | 103 => ⟨S1024, .f32⟩
  | 104 => ⟨S1x1024, .f32⟩
  | 105 => ⟨S2048x1024, .f32⟩
  | 106 => ⟨S2048x1024, .f32⟩
  | 107 => ⟨S_, .f32⟩
  | 108 => ⟨S1024, .f32⟩
  | 109 => ⟨S2048x1024, .f32⟩
  | 110 => ⟨S_, .f32⟩
  | 111 => ⟨S2048, .f32⟩
  | 112 => ⟨S2048x1, .f32⟩
  | 113 => ⟨S2048x1024, .f32⟩
  | 114 => ⟨S2048x1024, .f32⟩
  | 115 => ⟨S2048x1, .f32⟩
  | 116 => ⟨S_, .f32⟩
  | 117 => ⟨S2048x1, .f32⟩
  | 118 => ⟨S2048x1, .f32⟩
  | 119 => ⟨S_, .f32⟩
  | 120 => ⟨S2048, .f32⟩
  | 121 => ⟨S2048x1024, .f32⟩
  | 122 => ⟨S2048x1024, .f32⟩
  | 123 => ⟨S2048x1024, .f32⟩
  | 124 => ⟨S2048x1024, .f32⟩
  | 125 => ⟨S2048x1024, .f32⟩
  | 126 => ⟨S2048x1024, .f32⟩
  | 127 => ⟨S_, .f32⟩
  | _ => ⟨S2048x2048, .f32⟩

abbrev hbmTy0_1 (i : Nat) : BufTy := match i % 128 with
  | 0 => ⟨S1024, .f32⟩
  | 1 => ⟨S1x1024, .f32⟩
  | 2 => ⟨S2048x1024, .f32⟩
  | 3 => ⟨S2048x1024, .f32⟩
  | 4 => ⟨S_, .f32⟩
  | 5 => ⟨S1024, .f32⟩
  | 6 => ⟨S2048x1024, .f32⟩
  | 7 => ⟨S_, .f32⟩
  | 8 => ⟨S2048, .f32⟩
  | 9 => ⟨S2048x1, .f32⟩
  | 10 => ⟨S2048x1024, .f32⟩
  | 11 => ⟨S2048x1024, .f32⟩
  | 12 => ⟨S2048x1, .f32⟩
  | 13 => ⟨S_, .f32⟩
  | 14 => ⟨S2048x1, .f32⟩
  | 15 => ⟨S2048x1, .f32⟩
  | 16 => ⟨S_, .f32⟩
  | 17 => ⟨S2048, .f32⟩
  | 18 => ⟨S2048x1024, .f32⟩
  | 19 => ⟨S2048x1024, .f32⟩
  | 20 => ⟨S2048x1024, .f32⟩
  | 21 => ⟨S2048x1024, .f32⟩
  | 22 => ⟨S2048x1024, .f32⟩
  | 23 => ⟨S_, .f32⟩
  | 24 => ⟨S2048x2048, .f32⟩
  | 25 => ⟨S2048x2048, .f32⟩
  | 26 => ⟨S2048x2048, .bf16⟩
  | 27 => ⟨S1x2048, .f32⟩
  | 28 => ⟨S1x1024, .f32⟩
  | 29 => ⟨S1x1024, .f32⟩
  | 30 => ⟨S2048x2048, .bf16⟩
  | 31 => ⟨S2048x2048, .bf16⟩
  | 32 => ⟨S2048x2048, .f32⟩
  | 33 => ⟨S2048x2048, .bf16⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_cst_14 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_15 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_16 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_17 : Ref sig .tc := ⟨.hbm, 107, rfl⟩
abbrev main_v80 : Ref sig .tc := ⟨.hbm, 108, rfl⟩
abbrev main_v81 : Ref sig .tc := ⟨.hbm, 109, rfl⟩
abbrev main_cst_18 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_19 : Ref sig .tc := ⟨.hbm, 116, rfl⟩
abbrev main_v87 : Ref sig .tc := ⟨.hbm, 117, rfl⟩
abbrev main_v88 : Ref sig .tc := ⟨.hbm, 118, rfl⟩
abbrev main_cst_20 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_21 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_22 : Ref sig .tc := ⟨.hbm, 132, rfl⟩
abbrev main_v100 : Ref sig .tc := ⟨.hbm, 133, rfl⟩
abbrev main_v101 : Ref sig .tc := ⟨.hbm, 134, rfl⟩
abbrev main_cst_23 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_24 : Ref sig .tc := ⟨.hbm, 141, rfl⟩
abbrev main_v107 : Ref sig .tc := ⟨.hbm, 142, rfl⟩
abbrev main_v108 : Ref sig .tc := ⟨.hbm, 143, rfl⟩
abbrev main_cst_25 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_26 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩

abbrev nD : Nat := 1
abbrev τ : Topo := Topo.v7x

variable {F : FTy → Type} [FloatOps F]
-- ==== Loss.lean ====
abbrev S2048x2048 : Shape := ⟨2, ![2048, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩
abbrev S_ : Shape := ⟨0, ![]⟩

abbrev nBuf : Space → Nat
  | .hbm => 9
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S8x128, .f32⟩
  | .hbm, ⟨6, _⟩ => ⟨S1x2048, .f32⟩
  | .hbm, ⟨7, _⟩ => ⟨S1x1, .f32⟩
  | .hbm, ⟨8, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S8x128, .f32⟩
  | .local _ .vmem, ⟨10, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 77
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x2048, .f32⟩
  | .hbm, ⟨60, _⟩ => ⟨S2048x2048, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S_, .f32⟩
  | .hbm, ⟨73, _⟩ => ⟨S2048x2048, .f32⟩
  | .hbm, ⟨74, _⟩ => ⟨S2048x2048, .f32⟩
  | .hbm, ⟨75, _⟩ => ⟨S2048x2048, .bf16⟩
  | .hbm, ⟨76, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Proof.Trip.lean ====
module

public import proofs.«01_k».proof.Proof.Gen.KernelIdeal.Loops
public import proofs.«01_k».proof.Proof.Gen.KernelIdeal.Frame
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- No variants. -/
abbrev 𝒱₀ : Variants := Variants.none

/-- The head-0 band of keys of a trip, in closed form. -/
theorem k0_off4_closed : ∀ t : Fin k0_t1_loop.trips, k0_off4 t = ![64 * min (4 * t.val - 4) 20, 0] := by decide +kernel
/-- The head-1 band of keys of a trip, in closed form. -/
theorem k0_off8_closed : ∀ t : Fin k0_t1_loop.trips, k0_off8 t = ![64 * min (4 * t.val - 4) 20, 64] := by decide +kernel
instance closedOff4 (t : Fin k0_t1_loop.trips) : ClosedOff (k0_off4 t) := ⟨_, k0_off4_closed t⟩
instance closedOff8 (t : Fin k0_t1_loop.trips) : ClosedOff (k0_off8 t) := ⟨_, k0_off8_closed t⟩

/-- The table entry of a pair of key rows of head 0, as the kernel computes it. -/
def ent0 (t : Fin k0_t1_loop.trips) (a b : BitVec 32) : ℕ := k0_off1 t a b 1
/-- The table entry of a pair of key rows of head 1, as the kernel computes it. -/
def ent1 (t : Fin k0_t1_loop.trips) (a b : BitVec 32) : ℕ := k0_off5 t a b 1
theorem k0_off1_closed (t : Fin k0_t1_loop.trips) (a b : BitVec 32) : k0_off1 t a b = ![0, ent0 t a b, 0, 0] := by
  funext j; fin_cases j <;> rfl
theorem k0_off5_closed (t : Fin k0_t1_loop.trips) (a b : BitVec 32) : k0_off5 t a b = ![1, ent1 t a b, 0, 0] := by
  funext j; fin_cases j <;> rfl
instance closedOff1 (t : Fin k0_t1_loop.trips) (a b : BitVec 32) : ClosedOff (k0_off1 t a b) := ⟨_, k0_off1_closed t a b⟩
instance closedOff5 (t : Fin k0_t1_loop.trips) (a b : BitVec 32) : ClosedOff (k0_off5 t a b) := ⟨_, k0_off5_closed t a b⟩

section Trip

variable (c : Dev nD) (i : grid0.Coords)
  (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2x17x64x128 .f32) (harg4 : arg4.IsWhole)
  (arg5 : Memref sig .tc .vmem S2048x128 .f32) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S2048x128 .bf16) (harg8 : arg8.IsWhole)
  (arg9 : Memref sig .tc .vmem S3x128x2048 .bf16) (harg9 : arg9.IsWhole)
  (arg10 : Memref sig .tc .vmem S2x17x64x128 .f32) (harg10 : arg10.IsWhole)
  (arg11 : Memref sig .tc .vmem S2048x128 .f32) (harg11 : arg11.IsWhole)
  (arg12 : Memref sig .tc .vmem S2048x128 .f32) (harg12 : arg12.IsWhole)
  (arg13 : Memref sig .tc .vmem S2048x128 .f32) (harg13 : arg13.IsWhole)
  (arg14 : Memref sig .tc .vmem S2048x128 .bf16) (harg14 : arg14.IsWhole)
  (arg15 : Memref sig .tc .vmem S2048x128 .bf16) (harg15 : arg15.IsWhole)
  (arg16 : Memref sig .tc .vmem S2048x128 .bf16) (harg16 : arg16.IsWhole)
  (arg17 : Memref sig .tc .vmem S2048x128 .bf16) (harg17 : arg17.IsWhole)
  (arg18 : Memref sig .tc .vmem S16x128x128 .bf16) (harg18 : arg18.IsWhole)
  (arg19 : Memref sig .tc .vmem S16x128x128 .bf16) (harg19 : arg19.IsWhole)
  (v208 : FVec F S128x128 .bf16)

/-- A buffer of the body held whole at contents `f`. -/
abbrev own {s : Shape} {e : EltTy} (a : Memref sig .tc .vmem s e) (f : Buf (Elt F) (a.view.loc (c : Thread nD τ))) : sProp 𝕄 :=
  a.view.loc (c : Thread nD τ) ↦[a.view.set]{fullShare} f

set_option maxHeartbeats 1000000 in
/-- One trip of the loop over blocks of four query rows: what it stores, as pieces (last first) — into the table
    gradient, the query gradient, the key gradient and the value gradient —, with the proof that from the read buffers
    at their contents and the four written ones at any contents the trip ends with these pieces written over them. -/
def tripRun (t : Fin k0_t1_loop.trips) (f4 : Buf (Elt F) (arg4.view.loc (c : Thread nD τ))) (f14 : Buf (Elt F) (arg14.view.loc (c : Thread nD τ))) (f15 : Buf (Elt F) (arg15.view.loc (c : Thread nD τ))) (f17 : Buf (Elt F) (arg17.view.loc (c : Thread nD τ))) (f18 : Buf (Elt F) (arg18.view.loc (c : Thread nD τ))) (f19 : Buf (Elt F) (arg19.view.loc (c : Thread nD τ)))
    (f10 : Buf (Elt F) (arg10.view.loc (c : Thread nD τ))) (f12 : Buf (Elt F) (arg12.view.loc (c : Thread nD τ))) (f13 : Buf (Elt F) (arg13.view.loc (c : Thread nD τ))) :
    Σ' (L10 : List (View.Piece (Elt F) S2x17x64x128 .f32)), Σ' (L11 : List (View.Piece (Elt F) S2048x128 .f32)), Σ' (L12 : List (View.Piece (Elt F) S2048x128 .f32)), { L13 : List (View.Piece (Elt F) S2048x128 .f32) // ∀ (f11 : Buf (Elt F) (arg11.view.loc (c : Thread nD τ))),
    iprop(own c arg4 f4 ∗ own c arg14 f14 ∗ own c arg15 f15 ∗ own c arg17 f17 ∗ own c arg18 f18 ∗ own c arg19 f19
        ∗ own c arg10 f10 ∗ own c arg11 f11 ∗ own c arg12 f12 ∗ own c arg13 f13)
      ⊢ wp frame (wpE (defs₀ (F:=F)) 𝒱₀ (c : Thread nD τ) none) Set.univ
          (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v208 t ())
          (fun _ => iprop(own c arg4 f4 ∗ own c arg14 f14 ∗ own c arg15 f15 ∗ own c arg17 f17 ∗ own c arg18 f18 ∗ own c arg19 f19
            ∗ own c arg10 (arg10.view.writes (Elt F) f10 L10) ∗ own c arg11 (arg11.view.writes (Elt F) f11 L11)
            ∗ own c arg12 (arg12.view.writes (Elt F) f12 L12) ∗ own c arg13 (arg13.view.writes (Elt F) f13 L13))) } := by
  refine ⟨?_, ?_, ?_, ?_, fun f11 => ?run⟩
  case run =>
    iintro ⟨H4, H14, H15, H17, H18, H19, H10, H11, H12, H13⟩
    sl_unfold [k0_t1_body]
    sl_exec
    sl_step
    isplitl [H4]; · iexact H4
    isplitl [H14]; · iexact H14
    isplitl [H15]; · iexact H15
    isplitl [H17]; · iexact H17
    isplitl [H18]; · iexact H18
    isplitl [H19]; · iexact H19
    isplitl [H10]; · iexact H10
    isplitl [H11]; · iexact H11
    isplitl [H12]; · iexact H12
    iexact H13

/-- The pieces the four written buffers hold before trip `k`, by recursion on the trips. -/
def pbs (f4 : Buf (Elt F) (arg4.view.loc (c : Thread nD τ))) (f14 : Buf (Elt F) (arg14.view.loc (c : Thread nD τ))) (f15 : Buf (Elt F) (arg15.view.loc (c : Thread nD τ))) (f17 : Buf (Elt F) (arg17.view.loc (c : Thread nD τ))) (f18 : Buf (Elt F) (arg18.view.loc (c : Thread nD τ))) (f19 : Buf (Elt F) (arg19.view.loc (c : Thread nD τ)))
    (G10 : Buf (Elt F) (arg10.view.loc (c : Thread nD τ))) (G12 : Buf (Elt F) (arg12.view.loc (c : Thread nD τ))) (G13 : Buf (Elt F) (arg13.view.loc (c : Thread nD τ))) :
    ℕ → (List (View.Piece (Elt F) S2x17x64x128 .f32)) × (List (View.Piece (Elt F) S2048x128 .f32)) × (List (View.Piece (Elt F) S2048x128 .f32)) × (List (View.Piece (Elt F) S2048x128 .f32))
  | 0 => ([], [], [], [])
  | k + 1 =>
    let b := pbs f4 f14 f15 f17 f18 f19 G10 G12 G13 k
    if h : k < k0_t1_loop.trips then
      let r := tripRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v208 ⟨k, h⟩ f4 f14 f15 f17 f18 f19 (arg10.view.writes (Elt F) G10 b.1)
        (arg12.view.writes (Elt F) G12 b.2.2.1) (arg13.view.writes (Elt F) G13 b.2.2.2)
      (r.1 ++ b.1, r.2.1 ++ b.2.1, r.2.2.1 ++ b.2.2.1, r.2.2.2.1 ++ b.2.2.2)
    else b

/-- What the loop holds before trip `k`: the read buffers as they were, each written one at its pieces so far. -/
abbrev loopHeld (f4 : Buf (Elt F) (arg4.view.loc (c : Thread nD τ))) (f14 : Buf (Elt F) (arg14.view.loc (c : Thread nD τ))) (f15 : Buf (Elt F) (arg15.view.loc (c : Thread nD τ))) (f17 : Buf (Elt F) (arg17.view.loc (c : Thread nD τ))) (f18 : Buf (Elt F) (arg18.view.loc (c : Thread nD τ))) (f19 : Buf (Elt F) (arg19.view.loc (c : Thread nD τ)))
    (G10 : Buf (Elt F) (arg10.view.loc (c : Thread nD τ))) (G11 : Buf (Elt F) (arg11.view.loc (c : Thread nD τ))) (G12 : Buf (Elt F) (arg12.view.loc (c : Thread nD τ))) (G13 : Buf (Elt F) (arg13.view.loc (c : Thread nD τ))) (k : ℕ) : sProp 𝕄 :=
  iprop(own c arg4 f4 ∗ own c arg14 f14 ∗ own c arg15 f15 ∗ own c arg17 f17 ∗ own c arg18 f18 ∗ own c arg19 f19
    ∗ (∃ f, own c arg10 f ∗ ⌜f = arg10.view.writes (Elt F) G10 (pbs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v208 f4 f14 f15 f17 f18 f19 G10 G12 G13 k).1⌝)
    ∗ (∃ f, own c arg11 f ∗ ⌜f = arg11.view.writes (Elt F) G11 (pbs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v208 f4 f14 f15 f17 f18 f19 G10 G12 G13 k).2.1⌝)
    ∗ (∃ f, own c arg12 f ∗ ⌜f = arg12.view.writes (Elt F) G12 (pbs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v208 f4 f14 f15 f17 f18 f19 G10 G12 G13 k).2.2.1⌝)
    ∗ (∃ f, own c arg13 f ∗ ⌜f = arg13.view.writes (Elt F) G13 (pbs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v208 f4 f14 f15 f17 f18 f19 G10 G12 G13 k).2.2.2⌝))

set_option warn.classDefReducibility false in
/-- The loop's invariant: `loopHeld`, each step by `tripRun`. -/
@[sl_loop] def loopInv (f4 : Buf (Elt F) (arg4.view.loc (c : Thread nD τ))) (f14 : Buf (Elt F) (arg14.view.loc (c : Thread nD τ))) (f15 : Buf (Elt F) (arg15.view.loc (c : Thread nD τ))) (f17 : Buf (Elt F) (arg17.view.loc (c : Thread nD τ))) (f18 : Buf (Elt F) (arg18.view.loc (c : Thread nD τ))) (f19 : Buf (Elt F) (arg19.view.loc (c : Thread nD τ)))
    (G10 : Buf (Elt F) (arg10.view.loc (c : Thread nD τ))) (G11 : Buf (Elt F) (arg11.view.loc (c : Thread nD τ))) (G12 : Buf (Elt F) (arg12.view.loc (c : Thread nD τ))) (G13 : Buf (Elt F) (arg13.view.loc (c : Thread nD τ))) :
    LoopInvTy_k0_t1 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v208 where
  inv k _ := loopHeld c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v208 f4 f14 f15 f17 f18 f19 G10 G11 G12 G13 k
  step k _ := by
    unfold loopHeld
    rw [pbs, dif_pos k.isLt]
    iintro ⟨H4, H14, H15, H17, H18, H19, ⟨%g10, H10, %e10⟩, ⟨%g11, H11, %e11⟩, ⟨%g12, H12, %e12⟩, ⟨%g13, H13, %e13⟩⟩
    subst e10 e11 e12 e13
    iapply (wp_wand_r Idealize.ShloMosaic.frame (wpE (defs₀ (F := F)) 𝒱₀ (c : Thread nD τ) none) Set.univ)
    isplitl [H4 H14 H15 H17 H18 H19 H10 H11 H12 H13]
    · iapply (tripRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v208 k f4 f14 f15 f17 f18 f19 _ _ _).2.2.2.2 _
      isplitl [H4]; · iexact H4
      isplitl [H14]; · iexact H14
      isplitl [H15]; · iexact H15
      isplitl [H17]; · iexact H17
      isplitl [H18]; · iexact H18
      isplitl [H19]; · iexact H19
      isplitl [H10]; · iexact H10
      isplitl [H11]; · iexact H11
      isplitl [H12]; · iexact H12
      iexact H13
    · iintro %_ ⟨H4, H14, H15, H17, H18, H19, H10, H11, H12, H13⟩
      isplitl [H4]; · iexact H4
      isplitl [H14]; · iexact H14
      isplitl [H15]; · iexact H15
      isplitl [H17]; · iexact H17
      isplitl [H18]; · iexact H18
      isplitl [H19]; · iexact H19
      isplitl [H10]
      · iexists _; isplitl [H10]; · iexact H10
        ipureintro; exact (View.writes_append _ _ _ _).symm
      isplitl [H11]
      · iexists _; isplitl [H11]; · iexact H11
        ipureintro; exact (View.writes_append _ _ _ _).symm
      isplitl [H12]
      · iexists _; isplitl [H12]; · iexact H12
        ipureintro; exact (View.writes_append _ _ _ _).symm
      iexists _; isplitl [H13]; · iexact H13
      ipureintro; exact (View.writes_append _ _ _ _).symm

end Trip

end Cert.KernelIdeal.Body
end
-- ==== Proof.Body.lean ====
module

public import proofs.«01_k».proof.Proof.Trip

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- One staging buffer of output window 5, through which its contents are stated. -/
abbrev VO5 : View sig .tc .vmem S2048x128 .bf16 := (Memref.whole cc0_stg5_0 : Memref sig .tc .vmem S2048x128 .bf16).view
/-- One staging buffer of output window 6, through which its contents are stated. -/
abbrev VO6 : View sig .tc .vmem S2048x128 .bf16 := (Memref.whole cc0_stg6_0 : Memref sig .tc .vmem S2048x128 .bf16).view
/-- One staging buffer of output window 7, through which its contents are stated. -/
abbrev VO7 : View sig .tc .vmem S2048x128 .bf16 := (Memref.whole cc0_stg7_0 : Memref sig .tc .vmem S2048x128 .bf16).view
/-- One staging buffer of output window 8, through which its contents are stated. -/
abbrev VO8 : View sig .tc .vmem S3x128x2048 .bf16 := (Memref.whole cc0_stg8_0 : Memref sig .tc .vmem S3x128x2048 .bf16).view
/-- One staging buffer of output window 9, through which its contents are stated. -/
abbrev VO9 : View sig .tc .vmem S2x17x64x128 .f32 := (Memref.whole cc0_stg9_0 : Memref sig .tc .vmem S2x17x64x128 .f32).view

section Run

variable (c : Dev nD) (i : grid0.Coords)
  (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2x17x64x128 .f32) (harg4 : arg4.IsWhole)
  (arg5 : Memref sig .tc .vmem S2048x128 .f32) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S2048x128 .bf16) (harg8 : arg8.IsWhole)
  (arg9 : Memref sig .tc .vmem S3x128x2048 .bf16) (harg9 : arg9.IsWhole)
  (arg10 : Memref sig .tc .vmem S2x17x64x128 .f32) (harg10 : arg10.IsWhole)
  (arg11 : Memref sig .tc .vmem S2048x128 .f32) (harg11 : arg11.IsWhole)
  (arg12 : Memref sig .tc .vmem S2048x128 .f32) (harg12 : arg12.IsWhole)
  (arg13 : Memref sig .tc .vmem S2048x128 .f32) (harg13 : arg13.IsWhole)
  (arg14 : Memref sig .tc .vmem S2048x128 .bf16) (harg14 : arg14.IsWhole)
  (arg15 : Memref sig .tc .vmem S2048x128 .bf16) (harg15 : arg15.IsWhole)
  (arg16 : Memref sig .tc .vmem S2048x128 .bf16) (harg16 : arg16.IsWhole)
  (arg17 : Memref sig .tc .vmem S2048x128 .bf16) (harg17 : arg17.IsWhole)
  (arg18 : Memref sig .tc .vmem S16x128x128 .bf16) (harg18 : arg18.IsWhole)
  (arg19 : Memref sig .tc .vmem S16x128x128 .bf16) (harg19 : arg19.IsWhole)

set_option maxHeartbeats 4000000 in
/-- The whole body: what its stores leave in each of the five output buffers, as pieces (last first), with the proof that
    from the inputs at their blocks, the outputs and the scratch buffers at anything it ends with these pieces written. -/
def bodyRun (x0 : Vec F S2048x128 .f32) (x1 : Vec F S2048x128 .f32) (x2 : Vec F S2048x128 .f32) (x3 : Vec F S2x17x64x128 .f32) (x4 : Vec F S2048x128 .f32) :
    Σ' (L5 : List (View.Piece (Elt F) S2048x128 .bf16)), Σ' (L6 : List (View.Piece (Elt F) S2048x128 .bf16)), Σ' (L7 : List (View.Piece (Elt F) S2048x128 .bf16)), Σ' (L8 : List (View.Piece (Elt F) S3x128x2048 .bf16)), { L9 : List (View.Piece (Elt F) S2x17x64x128 .f32) //
      ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, own c arg6 (arg6.view.writes (Elt F) f L5)) ∗ (∃ f, own c arg7 (arg7.view.writes (Elt F) f L6)) ∗ (∃ f, own c arg8 (arg8.view.writes (Elt F) f L7)) ∗ (∃ f, own c arg9 (arg9.view.writes (Elt F) f L8)) ∗ (∃ f, own c arg10 (arg10.view.writes (Elt F) f L9)) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none (c : Thread nD τ) none) Set.univ (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun K => ?run⟩
  case run =>
    simp only [cc0_attn_bwd_eq_skeleton]; unfold cc0_attn_bwd_skel
    simp only [k0_part57_eq_skeleton, k0_part58_eq_skeleton, k0_part59_eq_skeleton, k0_part60_eq_skeleton, k0_part61_eq_skeleton, k0_part62_eq_skeleton, k0_part63_eq_skeleton, k0_part64_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

/-- The pieces stored into the query gradient's block cover it. -/
theorem cover5 (x0 : Vec F S2048x128 .f32) (x1 : Vec F S2048x128 .f32) (x2 : Vec F S2048x128 .f32) (x3 : Vec F S2x17x64x128 .f32) (x4 : Vec F S2048x128 .f32) (y : S2048x128.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4).1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4).1 S2048x128.size (by sl_kernel_rfl) y

/-- What the body leaves in the query gradient's block: its pieces read back over anything. -/
def outW5 (x0 : Vec F S2048x128 .f32) (x1 : Vec F S2048x128 .f32) (x2 : Vec F S2048x128 .f32) (x3 : Vec F S2x17x64x128 .f32) (x4 : Vec F S2048x128 .f32) : Vec F S2048x128 .bf16 :=
  VO5.read (Elt F) (VO5.writes (Elt F) VO5.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4).1)

/-- The pieces stored into the key gradient's block cover it. -/
theorem cover6 (x0 : Vec F S2048x128 .f32) (x1 : Vec F S2048x128 .f32) (x2 : Vec F S2048x128 .f32) (x3 : Vec F S2x17x64x128 .f32) (x4 : Vec F S2048x128 .f32) (y : S2048x128.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4).2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4).2.1 S2048x128.size (by sl_kernel_rfl) y

/-- What the body leaves in the key gradient's block: its pieces read back over anything. -/
def outW6 (x0 : Vec F S2048x128 .f32) (x1 : Vec F S2048x128 .f32) (x2 : Vec F S2048x128 .f32) (x3 : Vec F S2x17x64x128 .f32) (x4 : Vec F S2048x128 .f32) : Vec F S2048x128 .bf16 :=
  VO6.read (Elt F) (VO6.writes (Elt F) VO6.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4).2.1)

/-- The pieces stored into the value gradient's block cover it. -/
theorem cover7 (x0 : Vec F S2048x128 .f32) (x1 : Vec F S2048x128 .f32) (x2 : Vec F S2048x128 .f32) (x3 : Vec F S2x17x64x128 .f32) (x4 : Vec F S2048x128 .f32) (y : S2048x128.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4).2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4).2.2.1 S2048x128.size (by sl_kernel_rfl) y

/-- What the body leaves in the value gradient's block: its pieces read back over anything. -/
def outW7 (x0 : Vec F S2048x128 .f32) (x1 : Vec F S2048x128 .f32) (x2 : Vec F S2048x128 .f32) (x3 : Vec F S2x17x64x128 .f32) (x4 : Vec F S2048x128 .f32) : Vec F S2048x128 .bf16 :=
  VO7.read (Elt F) (VO7.writes (Elt F) VO7.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4).2.2.1)

/-- The pieces stored into the transposed gradients's block cover it. -/
theorem cover8 (x0 : Vec F S2048x128 .f32) (x1 : Vec F S2048x128 .f32) (x2 : Vec F S2048x128 .f32) (x3 : Vec F S2x17x64x128 .f32) (x4 : Vec F S2048x128 .f32) (y : S3x128x2048.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4).2.2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4).2.2.2.1 S1x128x2048.size (by sl_kernel_rfl) y

/-- What the body leaves in the transposed gradients's block: its pieces read back over anything. -/
def outW8 (x0 : Vec F S2048x128 .f32) (x1 : Vec F S2048x128 .f32) (x2 : Vec F S2048x128 .f32) (x3 : Vec F S2x17x64x128 .f32) (x4 : Vec F S2048x128 .f32) : Vec F S3x128x2048 .bf16 :=
  VO8.read (Elt F) (VO8.writes (Elt F) VO8.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4).2.2.2.1)

/-- The pieces stored into the table gradient's block cover it. -/
theorem cover9 (x0 : Vec F S2048x128 .f32) (x1 : Vec F S2048x128 .f32) (x2 : Vec F S2048x128 .f32) (x3 : Vec F S2x17x64x128 .f32) (x4 : Vec F S2048x128 .f32) (y : S2x17x64x128.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4).2.2.2.2.1, y ∈ pc.1.set :=
  by
  refine View.cover_of_wholeMem _ ?_ y
  dsimp only [bodyRun]
  exact View.Piece.wholeMem_append_right (View.Piece.wholeMem_here (by sl_kernel_rfl))

/-- What the body leaves in the table gradient's block: its pieces read back over anything. -/
def outW9 (x0 : Vec F S2048x128 .f32) (x1 : Vec F S2048x128 .f32) (x2 : Vec F S2048x128 .f32) (x3 : Vec F S2x17x64x128 .f32) (x4 : Vec F S2048x128 .f32) : Vec F S2x17x64x128 .f32 :=
  VO9.read (Elt F) (VO9.writes (Elt F) VO9.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4).2.2.2.2.1)

end Run

/-- Each window's current staging memref at point `t`, spelled as the pipeline passes it (`bodyAt0`), and its wholeness. -/
abbrev ms0_0 (t : Fin cfg0.N) : Memref sig .tc .vmem S2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x17x64x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3x128x2048 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x17x64x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2048x128 .f32 := Memref.whole cc0_scratch0
abbrev scM0_1 : Memref sig .tc .vmem S2048x128 .f32 := Memref.whole cc0_scratch1
abbrev scM0_2 : Memref sig .tc .vmem S2048x128 .f32 := Memref.whole cc0_scratch2
abbrev scM0_3 : Memref sig .tc .vmem S2048x128 .bf16 := Memref.whole cc0_scratch3
abbrev scM0_4 : Memref sig .tc .vmem S2048x128 .bf16 := Memref.whole cc0_scratch4
abbrev scM0_5 : Memref sig .tc .vmem S2048x128 .bf16 := Memref.whole cc0_scratch5
abbrev scM0_6 : Memref sig .tc .vmem S2048x128 .bf16 := Memref.whole cc0_scratch6
abbrev scM0_7 : Memref sig .tc .vmem S16x128x128 .bf16 := Memref.whole cc0_scratch7
abbrev scM0_8 : Memref sig .tc .vmem S16x128x128 .bf16 := Memref.whole cc0_scratch8

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

variable (m : (ℓ : Loc nD τ sig) → Buf (Elt F) ℓ) (ρ : Dev nD → PrngReg)

/-- What the query gradient's block holds after the body at point `t`. -/
def at5 (c : Dev nD) (t : Fin cfg0.N) : Vec F S2048x128 .bf16 :=
  outW5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t)
/-- What the key gradient's block holds after the body at point `t`. -/
def at6 (c : Dev nD) (t : Fin cfg0.N) : Vec F S2048x128 .bf16 :=
  outW6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t)
/-- What the value gradient's block holds after the body at point `t`. -/
def at7 (c : Dev nD) (t : Fin cfg0.N) : Vec F S2048x128 .bf16 :=
  outW7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t)
/-- What the transposed gradients's block holds after the body at point `t`. -/
def at8 (c : Dev nD) (t : Fin cfg0.N) : Vec F S3x128x2048 .bf16 :=
  outW8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t)
/-- What the table gradient's block holds after the body at point `t`. -/
def at9 (c : Dev nD) (t : Fin cfg0.N) : Vec F S2x17x64x128 .f32 :=
  outW9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t)
/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => at5 m c t
    | ⟨6, _⟩ => at6 m c t
    | ⟨7, _⟩ => at7 m c t
    | ⟨8, _⟩ => at8 m c t
    | ⟨9, _⟩ => at9 m c t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = at5 m c t := by dsimp only [dats]
theorem after0_6 (c : Dev nD) (t : Fin cfg0.N) : (dats m 0 c).after 6 t = at6 m c t := by dsimp only [dats]
theorem after0_7 (c : Dev nD) (t : Fin cfg0.N) : (dats m 0 c).after 7 t = at7 m c t := by dsimp only [dats]
theorem after0_8 (c : Dev nD) (t : Fin cfg0.N) : (dats m 0 c).after 8 t = at8 m c t := by dsimp only [dats]
theorem after0_9 (c : Dev nD) (t : Fin cfg0.N) : (dats m 0 c).after 9 t = at9 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  unfold at5 at6 at7 at8 at9 outW5 outW6 outW7 outW8 outW9; (try dsimp only)
  iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((bodyRun c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t)).2.2.2.2.2 _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, ⟨%e5, H5⟩, ⟨%e6, H6⟩, ⟨%e7, H7⟩, ⟨%e8, H8⟩, ⟨%e9, H9⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover5 c _ _ _ _ _ _ _ _ _ _ _ _ _ _ _ _ _ _ _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover6 c _ _ _ _ _ _ _ _ _ _ _ _ _ _ _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover7 c _ _ _ _ _ _ _ _ _ _ _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover8 c _ _ _ _ _ _ _ _ _ _ _ _ _ _ _ _ _ _ _ _ _ _ _ _ _ _ _ _ _ _ _ _ _ _ _ _ _ _ _ _ _ _ _ _)
  unfold owns own; iexists _; isplitr
  swap; · iexact H9
  ipureintro; exact View.read_writes_of_cover _ _ _ _ _ (cover9 c _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: every fair execution ends, the argument arrays as they were, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Body
end
-- ==== Proof.Attn.lean ====
module

public import Idealize.ShloMosaic.Lib.Pipeline.ValueKit

@[expose] public section

noncomputable section

/-!
The gradient of neighbourhood attention over the extended reals, dense: every query meets every key, with score `⊥`
outside its window. Kernel (bands of twelve key rows) and reference (windows of eight by sixteen) are each shown equal
to it.
-/

namespace Cert.Attn

open Idealize.ShloMosaic

/-! ## One row of scores -/

section Row

variable {J I : Type} [Fintype J] [Fintype I]

/-- The greatest score of a row. -/
def mx (f : J → EReal) : EReal := Finset.univ.sup f
/-- A row's exponentials. -/
def ex (f : J → EReal) (j : J) : EReal := Ideal.exp (f j - mx f)
/-- A row's normaliser. -/
def Z (f : J → EReal) : EReal := ∑ j, ex f j
/-- A row's softmax. -/
def pr (f : J → EReal) (j : J) : EReal := Ideal.div (ex f j) (Z f)
/-- The gradient of a row's scores, from the gradient `g` of its softmax. -/
def dsm (f g : J → EReal) (j : J) : EReal := pr f j * (g j - ∑ x, g x * pr f x)

/-- A finite sum of reals is a real. -/
theorem coe_sum' (s : Finset J) (g : J → ℝ) : ((∑ j ∈ s, g j : ℝ) : EReal) = ∑ j ∈ s, (g j : EReal) := by
  classical
  induction s using Finset.induction_on with
  | empty => simp
  | insert a s ha ih => rw [Finset.sum_insert ha, Finset.sum_insert ha, EReal.coe_add, ih]

/-- A row with no score `⊤` and some score not `⊥`. -/
def Good (f : J → EReal) : Prop := (∀ j, f j ≠ ⊤) ∧ ∃ j, f j ≠ ⊥

/-- A fold of maxima from `⊥` is the greatest score. -/
theorem fold_eq_mx (f : J → EReal) : Finset.univ.fold max ⊥ f = mx f := rfl

/-- A score `⊥` has exponential 0. -/
theorem ex_bot {f : J → EReal} {j : J} (h : f j = ⊥) : ex f j = 0 := by
  rw [ex, h, sub_eq_add_neg, EReal.bot_add]; rfl

/-- The greatest score of a good row is a real. -/
theorem mx_real {f : J → EReal} (h : Good f) : ∃ r : ℝ, mx f = r := by
  obtain ⟨ht, j, hb⟩ := h
  have h1 : mx f ≠ ⊤ := by
    rw [← lt_top_iff_ne_top, mx, Finset.sup_lt_iff bot_lt_top]
    exact fun b _ => lt_top_iff_ne_top.2 (ht b)
  have h2 : mx f ≠ ⊥ := by
    intro h0
    exact hb (le_bot_iff.1 (h0 ▸ Finset.le_sup (f := f) (Finset.mem_univ j)))
  exact ⟨(mx f).toReal, (EReal.coe_toReal h1 h2).symm⟩

/-- The exponentials of a good row are nonnegative reals. -/
theorem ex_real {f : J → EReal} (h : Good f) (j : J) : ∃ r : ℝ, 0 ≤ r ∧ (f j ≠ ⊥ → 0 < r) ∧ ex f j = r := by
  obtain ⟨r, hr⟩ := mx_real h
  by_cases hb : f j = ⊥
  · exact ⟨0, le_rfl, fun h => absurd hb h, by rw [ex_bot hb]; rfl⟩
  · refine ⟨Real.exp ((f j).toReal - r), (Real.exp_pos _).le, fun _ => Real.exp_pos _, ?_⟩
    rw [ex, hr]
    conv_lhs => rw [← EReal.coe_toReal (h.1 j) hb]
    rw [← EReal.coe_sub]; rfl

/-- The normaliser of a good row is a positive real. -/
theorem Z_real {f : J → EReal} (h : Good f) : ∃ r : ℝ, 0 < r ∧ Z f = r := by
  choose e he using ex_real h
  obtain ⟨j, hj⟩ := h.2
  refine ⟨∑ j, e j, ?_, ?_⟩
  · exact Finset.sum_pos' (fun i _ => (he i).1) ⟨j, Finset.mem_univ j, (he j).2.1 hj⟩
  · rw [Z, coe_sum']
    exact Finset.sum_congr rfl fun i _ => (he i).2.2

/-- Dividing by the normaliser of a good row multiplies by a positive real. -/
theorem div_Z {f : J → EReal} (h : Good f) :
    ∃ u : ℝ, 0 < u ∧ (∀ x, Ideal.div x (Z f) = x * u) ∧ Ideal.div 1 (Z f * Z f) = (u : EReal) * u := by
  obtain ⟨r, hr, hz⟩ := Z_real h
  refine ⟨1 / r, by positivity, fun x => by rw [hz]; exact Ideal.div_coe hr.ne' x, ?_⟩
  rw [hz, ← EReal.coe_mul, Ideal.div_coe (by positivity), one_mul, ← EReal.coe_mul]
  congr 1; field_simp

/-- A nonnegative real distributes over a sum. -/
theorem mul_sum_real {u : ℝ} (hu : 0 ≤ u) (s : Finset J) (g : J → EReal) :
    ∑ j ∈ s, (u : EReal) * g j = u * ∑ j ∈ s, g j := by
  classical
  induction s using Finset.induction_on with
  | empty => simp
  | insert a s ha ih =>
    rw [Finset.sum_insert ha, Finset.sum_insert ha, ih,
      EReal.left_distrib_of_nonneg_of_ne_top (EReal.coe_nonneg.2 hu) (EReal.coe_ne_top u)]

/-- A nonnegative real distributes over a sum, from the right. -/
theorem sum_mul_real {u : ℝ} (hu : 0 ≤ u) (s : Finset J) (g : J → EReal) :
    ∑ j ∈ s, g j * (u : EReal) = (∑ j ∈ s, g j) * u := by
  rw [mul_comm, ← mul_sum_real hu]; exact Finset.sum_congr rfl fun j _ => mul_comm _ _

/-- The gradient of the scores as the derivative of exponential over normaliser gives it. -/
theorem dsm_quotient {f : J → EReal} (h : Good f) (g : J → EReal) (j : J) :
    (Ideal.div (g j) (Z f) + -∑ x, g x * Ideal.div 1 (Z f * Z f) * ex f x) * ex f j = dsm f g j := by
  obtain ⟨u, hu, hd, h1⟩ := div_Z h
  have hs : ∑ x, g x * ((u : EReal) * u) * ex f x = u * ∑ x, g x * pr f x := by
    rw [← mul_sum_real hu.le]
    refine Finset.sum_congr rfl fun x _ => ?_
    rw [pr, hd]; ac_rfl
  rw [h1, hs, hd, dsm, pr, hd, ← mul_neg, mul_comm (g j), ← EReal.left_distrib_of_nonneg_of_ne_top (EReal.coe_nonneg.2 hu.le) (EReal.coe_ne_top u),
    sub_eq_add_neg]
  ac_rfl

/-- The softmax of a score `⊥` in a good row is 0. -/
theorem pr_bot {f : J → EReal} (h : Good f) {j : J} (hj : f j = ⊥) : pr f j = 0 := by
  obtain ⟨u, hu, hd, -⟩ := div_Z h
  rw [pr, hd, ex_bot hj, zero_mul]

/-- The gradient of a score `⊥` in a good row is 0. -/
theorem dsm_bot {f : J → EReal} (h : Good f) (g : J → EReal) {j : J} (hj : f j = ⊥) : dsm f g j = 0 := by
  rw [dsm, pr_bot h hj, zero_mul]

/-! ### Restricting a row to a part that holds every score not `⊥` -/

/-- `φ` names distinct places of the row, and every score elsewhere is `⊥`. -/
structure Part (φ : I → J) (f : J → EReal) : Prop where
  inj : Function.Injective φ
  off : ∀ j, j ∉ Set.range φ → f j = ⊥

variable {φ : I → J} {f : J → EReal}

/-- The greatest score of the part is the row's. -/
theorem mx_part (h : Part φ f) : mx (f ∘ φ) = mx f := by
  refine le_antisymm (Finset.sup_le fun i _ => Finset.le_sup (f := f) (Finset.mem_univ (φ i))) (Finset.sup_le fun j _ => ?_)
  by_cases hj : j ∈ Set.range φ
  · obtain ⟨i, rfl⟩ := hj
    exact Finset.le_sup (f := f ∘ φ) (Finset.mem_univ i)
  · rw [h.off j hj]; exact bot_le

theorem ex_part (h : Part φ f) (i : I) : ex (f ∘ φ) i = ex f (φ i) := by
  rw [ex, ex, mx_part h]; rfl

/-- A sum over the row of what is 0 off the part is the part's. -/
theorem sum_part (hφ : Function.Injective φ) (g : J → EReal) (h0 : ∀ j, j ∉ Set.range φ → g j = 0) :
    ∑ i, g (φ i) = ∑ j, g j :=
  Fintype.sum_of_injective φ hφ _ _ h0 fun _ => rfl

theorem Z_part (h : Part φ f) : Z (f ∘ φ) = Z f := by
  rw [Z, Z, ← sum_part h.inj _ fun j hj => ex_bot (h.off j hj)]
  exact Finset.sum_congr rfl fun i _ => ex_part h i

theorem pr_part (h : Part φ f) (i : I) : pr (f ∘ φ) i = pr f (φ i) := by
  rw [pr, pr, ex_part h, Z_part h]

theorem dsm_part (h : Part φ f) (hf : Good f) (g : J → EReal) (i : I) : dsm (f ∘ φ) (g ∘ φ) i = dsm f g (φ i) := by
  rw [dsm, dsm, pr_part h, ← sum_part h.inj (fun x => g x * pr f x) fun j hj => by rw [pr_bot hf (h.off j hj), mul_zero]]
  simp only [pr_part h, Function.comp]

/-- A part of a good row is good. -/
theorem good_part (h : Part φ f) (hf : Good f) : Good (f ∘ φ) := by
  refine ⟨fun i => hf.1 _, ?_⟩
  obtain ⟨j, hj⟩ := hf.2
  by_cases hr : j ∈ Set.range φ
  · obtain ⟨i, rfl⟩ := hr
    exact ⟨i, hj⟩
  · exact absurd (h.off j hr) hj

end Row

/-! ## The grid of 32 by 64 positions and its windows of 8 by 16 -/

/-- The first key row of a query row's window. -/
def rs (r : ℕ) : ℕ := min (r - 4) 24
/-- The first key column of a query column's window. -/
def cs (c : ℕ) : ℕ := min (c - 8) 48
/-- Key position `k` is in the window of query position `q`. -/
def inWin (q k : ℕ) : Prop := (rs (q / 64) ≤ k / 64 ∧ k / 64 < rs (q / 64) + 8) ∧ cs (q % 64) ≤ k % 64 ∧ k % 64 < cs (q % 64) + 16
instance (q k : ℕ) : Decidable (inWin q k) := by unfold inWin; infer_instance

/-- The scale of the scores, one eighth. -/
def c8 : EReal := Ideal.ofBits .f32 0x3E000000#32
theorem c8_eq : ∃ u : ℝ, 0 ≤ u ∧ c8 = u := ⟨1 / 8, by norm_num, by
  unfold c8
  simp [Ideal.ofBits, Ideal.ieee, -EReal.coe_mul]; norm_num⟩

variable (Q K V D : Fin 2048 → Fin 64 → EReal) (B : ℕ → ℕ → EReal)

/-- The score of query `q` at key `k`: the scaled product plus the bias of their displacement; `⊥` outside the window. -/
def sc (q k : Fin 2048) : EReal :=
  if inWin q k then (∑ d, Q q d * K k d) * c8 + B (k.val / 64 + 7 - q.val / 64) (k.val % 64 + 15 - q.val % 64) else ⊥
/-- The gradient of the softmax of query `q` at key `k`. -/
def dp (q k : Fin 2048) : EReal := ∑ d, D q d * V k d
/-- The gradient of the score of query `q` at key `k`. -/
def ds (q k : Fin 2048) : EReal := dsm (sc Q K B q) (dp V D q) k
/-- The gradient of the queries. -/
def dQ (q : Fin 2048) (d : Fin 64) : EReal := ∑ k, ds Q K V D B q k * c8 * K k d
/-- The gradient of the keys. -/
def dK (k : Fin 2048) (d : Fin 64) : EReal := ∑ q, ds Q K V D B q k * c8 * Q q d
/-- The gradient of the values. -/
def dV (k : Fin 2048) (d : Fin 64) : EReal := ∑ q, pr (sc Q K B q) k * D q d

/-- An extended real that is a real. -/
def IsR (x : EReal) : Prop := ∃ r : ℝ, x = r
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sum {J : Type} [Fintype J] {f : J → EReal} (h : ∀ j, IsR (f j)) : IsR (∑ j, f j) := by
  choose g hg using h
  exact ⟨∑ j, g j, by rw [coe_sum']; exact Finset.sum_congr rfl fun j _ => hg j⟩

/-- A query's own position is in its window. -/
theorem inWin_self (q : Fin 2048) : inWin q q := by
  have := q.isLt
  unfold inWin rs cs; omega

variable {Q K B}

/-- With finite queries, keys and bias every row of scores is good. -/
theorem good_sc (hQ : ∀ q d, IsR (Q q d)) (hK : ∀ k d, IsR (K k d)) (hB : ∀ a b, IsR (B a b)) (q : Fin 2048) :
    Good (sc Q K B q) := by
  have hr : ∀ k : Fin 2048, inWin q k → IsR (sc Q K B q k) := fun k hk => by
    rw [sc, if_pos hk]
    obtain ⟨u, -, hu⟩ := c8_eq
    exact ((IsR.sum fun d => (hQ q d).mul (hK k d)).mul ⟨u, hu⟩).add (hB _ _)
  refine ⟨fun k => ?_, q, ?_⟩
  · by_cases hk : inWin q k
    · obtain ⟨r, h⟩ := hr k hk
      rw [h]; exact EReal.coe_ne_top r
    · rw [sc, if_neg hk]; exact bot_ne_top
  · obtain ⟨r, h⟩ := hr q (inWin_self q)
    rw [h]; exact EReal.coe_ne_bot r

theorem sc_bot {q k : Fin 2048} (h : ¬ inWin q k) : sc Q K B q k = ⊥ := if_neg h

theorem ds_bot {q : Fin 2048} (h : Good (sc Q K B q)) {k : Fin 2048} (hk : ¬ inWin q k) : ds Q K V D B q k = 0 := dsm_bot h _ (sc_bot hk)
theorem prs_bot {q : Fin 2048} (h : Good (sc Q K B q)) {k : Fin 2048} (hk : ¬ inWin q k) : pr (sc Q K B q) k = 0 := pr_bot h (sc_bot hk)

/-! ## The arrays -/

/-- Position `n` of the sequence. -/
def pos (n : ℕ) : Fin 2048 := ⟨n % 2048, Nat.mod_lt _ (by norm_num)⟩
theorem pos_mk {n : ℕ} (h : n < 2048) : (⟨n, h⟩ : Fin 2048) = pos n := Fin.ext (Nat.mod_eq_of_lt h).symm
theorem pos_val {n : ℕ} (h : n < 2048) : (pos n).val = n := Nat.mod_eq_of_lt h
theorem pos_self (n : Fin 2048) : pos n.val = n := (pos_mk n.isLt).symm

section Arrays
variable (P : (⟨2, ![2048, 5120]⟩ : Shape).Idx → EReal) (R : (⟨3, ![16, 15, 31]⟩ : Shape).Idx → EReal)
  (Y : (⟨2, ![2048, 1024]⟩ : Shape).Idx → EReal) (h : Fin 16)
/-- The queries of head `h`: columns 2048 … of the projection. -/
def qM (q : Fin 2048) (d : Fin 64) : EReal := P (ix2 q ⟨2048 + (h.val * 64 + d.val), by omega⟩)
/-- The keys of head `h`. -/
def kM (q : Fin 2048) (d : Fin 64) : EReal := P (ix2 q ⟨2048 + (1024 + (h.val * 64 + d.val)), by omega⟩)
/-- The values of head `h`. -/
def vM (q : Fin 2048) (d : Fin 64) : EReal := P (ix2 q ⟨2048 + (2048 + (h.val * 64 + d.val)), by omega⟩)
/-- The cotangent of head `h`'s output. -/
def yM (q : Fin 2048) (d : Fin 64) : EReal := Y (ix2 q ⟨h.val * 64 + d.val, by omega⟩)
/-- The bias of head `h` by displacement. -/
def bM (a b : ℕ) : EReal := R (ix3 h ⟨min a 14, by omega⟩ ⟨min b 30, by omega⟩)
/-- The scores of head `h`. -/
def scM : Fin 2048 → Fin 2048 → EReal := sc (qM P h) (kM P h) (bM R h)
/-- Finite queries, keys and bias. -/
def Fin' : Prop := (∀ h q d, IsR (qM P h q d)) ∧ (∀ h q d, IsR (kM P h q d)) ∧ ∀ h a b, IsR (bM R h a b)
/-- The gradient of the queries, all heads. -/
def gQ (n : Fin 2048) (x : Fin 1024) : EReal :=
  dQ (qM P ⟨x.val / 64, by omega⟩) (kM P ⟨x.val / 64, by omega⟩) (vM P ⟨x.val / 64, by omega⟩) (yM Y ⟨x.val / 64, by omega⟩)
    (bM R ⟨x.val / 64, by omega⟩) n ⟨x.val % 64, by omega⟩
/-- The gradient of the keys, all heads. -/
def gK (n : Fin 2048) (x : Fin 1024) : EReal :=
  dK (qM P ⟨x.val / 64, by omega⟩) (kM P ⟨x.val / 64, by omega⟩) (vM P ⟨x.val / 64, by omega⟩) (yM Y ⟨x.val / 64, by omega⟩)
    (bM R ⟨x.val / 64, by omega⟩) n ⟨x.val % 64, by omega⟩
/-- The gradient of the values, all heads. -/
def gV (n : Fin 2048) (x : Fin 1024) : EReal :=
  dV (qM P ⟨x.val / 64, by omega⟩) (kM P ⟨x.val / 64, by omega⟩) (yM Y ⟨x.val / 64, by omega⟩)
    (bM R ⟨x.val / 64, by omega⟩) n ⟨x.val % 64, by omega⟩
/-- The queries' gradient as an array. -/
def oQ : (⟨2, ![2048, 1024]⟩ : Shape).Idx → EReal := fun y => gQ P R Y (y 0) (y 1)
/-- The keys' gradient as an array. -/
def oK : (⟨2, ![2048, 1024]⟩ : Shape).Idx → EReal := fun y => gK P R Y (y 0) (y 1)
/-- The values' gradient as an array. -/
def oV : (⟨2, ![2048, 1024]⟩ : Shape).Idx → EReal := fun y => gV P R Y (y 0) (y 1)
/-- The three gradients transposed, one above the other. -/
def oT : (⟨3, ![3, 1024, 2048]⟩ : Shape).Idx → EReal := fun y =>
  if (y 0).val = 0 then gQ P R Y (y 2) (y 1) else if (y 0).val = 1 then gK P R Y (y 2) (y 1) else gV P R Y (y 2) (y 1)
variable {P R}
theorem Fin'.good (hf : Fin' P R) (q : Fin 2048) : Good (scM P R h q) := good_sc (hf.1 h) (hf.2.1 h) (hf.2.2 h) q
end Arrays

/-! ## One-hot sums -/

/-- A one-hot sum picks its element. -/
theorem pick {n : ℕ} {a : ℕ} (ha : a < n) (A : Fin n → EReal) :
    ∑ x : Fin n, (if a = x.val then (1 : EReal) else 0) * A x = A ⟨a, ha⟩ := by
  rw [Finset.sum_eq_single (⟨a, ha⟩ : Fin n)]
  · simp
  · intro b _ hb
    rw [if_neg (fun h => hb (Fin.ext h.symm)), zero_mul]
  · simp

/-- A one-hot sum spreads a window: the value at `k` if the window holds it, and 0, the value's own, if not. -/
theorem spread {m : ℕ} (g : ℕ → EReal) (b k : ℕ) (h0 : ¬ (b ≤ k ∧ k < b + m) → g k = 0) :
    ∑ w : Fin m, g (b + w.val) * (if b + w.val = k then (1 : EReal) else 0) = g k := by
  by_cases h : b ≤ k ∧ k < b + m
  · rw [Finset.sum_eq_single (⟨k - b, by omega⟩ : Fin m)]
    · have : b + (k - b) = k := by omega
      simp only [this, if_true, mul_one]
    · intro w _ hw
      rw [if_neg (fun e => hw (Fin.ext (by simp; omega))), mul_zero]
    · simp
  · rw [h0 h]
    refine Finset.sum_eq_zero fun w _ => ?_
    rw [if_neg (by have := w.isLt; omega), mul_zero]

/-- A sum over positions, row by row. -/
theorem sum_pos (g : Fin 2048 → EReal) : ∑ r : Fin 32, ∑ c : Fin 64, g (pos (r.val * 64 + c.val)) = ∑ q, g q := by
  rw [← Fintype.sum_prod_type', ← (finProdFinEquiv (m := 32) (n := 64)).sum_comp]
  refine Finset.sum_congr rfl fun x _ => congrArg g (Fin.ext ?_)
  have h1 := x.1.isLt
  have h2 := x.2.isLt
  rw [pos_val (by omega), finProdFinEquiv_apply_val]; omega

/-- The sum over the eight rows of keys a query row sees, of what is 0 elsewhere. -/
theorem sum_rows (r : ℕ) (hr : r < 32) (g : Fin 2048 → EReal) (h0 : ∀ k : Fin 2048, ¬ (rs r ≤ k.val / 64 ∧ k.val / 64 < rs r + 8) → g k = 0) :
    ∑ i : Fin 8, ∑ k : Fin 64, g (pos ((rs r + i.val) * 64 + k.val)) = ∑ k, g k := by
  have hb : rs r ≤ 24 := min_le_right _ _
  rw [← Fintype.sum_prod_type' (f := fun (i : Fin 8) (k : Fin 64) => g (pos ((rs r + i.val) * 64 + k.val)))]
  refine sum_part (φ := fun x : Fin 8 × Fin 64 => pos ((rs r + x.1.val) * 64 + x.2.val)) (fun x y h => ?_) g fun k hk => h0 k fun hin => hk ?_
  · have h1 := x.1.isLt; have h2 := x.2.isLt; have h3 := y.1.isLt; have h4 := y.2.isLt
    have := congrArg Fin.val h
    simp only at this
    rw [pos_val (by omega), pos_val (by omega)] at this
    exact Prod.ext (Fin.ext (by omega)) (Fin.ext (by omega))
  · have := k.isLt
    refine ⟨(⟨k.val / 64 - rs r, by omega⟩, ⟨k.val % 64, by omega⟩), Fin.ext ?_⟩
    simp only
    rw [pos_val (by omega)]; omega

/-- The window in rows and columns. -/
theorem inWin_pos {r c ρ κ : ℕ} (hr : r < 32) (hc : c < 64) (hρ : ρ < 32) (hκ : κ < 64) :
    inWin (pos (r * 64 + c)) (pos (ρ * 64 + κ)) ↔ (rs r ≤ ρ ∧ ρ < rs r + 8) ∧ cs c ≤ κ ∧ κ < cs c + 16 := by
  unfold inWin
  rw [pos_val (by omega), pos_val (by omega), show (r * 64 + c) / 64 = r by omega, show (r * 64 + c) % 64 = c by omega,
    show (ρ * 64 + κ) / 64 = ρ by omega, show (ρ * 64 + κ) % 64 = κ by omega]

/-- Key `j` of a query's window. -/
def wk (r c : ℕ) (j : Fin 128) : Fin 2048 := pos ((rs r + j.val / 16) * 64 + (cs c + j.val % 16))

/-- The window is a part of the row that holds every score not `⊥`. -/
theorem wk_part (r c : ℕ) (hr : r < 32) (hc : c < 64) : Part (wk r c) (sc Q K B (pos (r * 64 + c))) := by
  have hb : rs r ≤ 24 := min_le_right _ _
  have hb' : cs c ≤ 48 := min_le_right _ _
  refine ⟨fun x y h => ?_, fun k hk => sc_bot fun hin => hk ?_⟩
  · have h1 := x.isLt; have h3 := y.isLt
    have := congrArg Fin.val h
    unfold wk at this
    rw [pos_val (by omega), pos_val (by omega)] at this
    exact Fin.ext (by omega)
  · have := k.isLt
    unfold inWin at hin
    rw [pos_val (by omega), show (r * 64 + c) / 64 = r by omega, show (r * 64 + c) % 64 = c by omega] at hin
    refine ⟨⟨(k.val / 64 - rs r) * 16 + (k.val % 64 - cs c), by omega⟩, Fin.ext ?_⟩
    unfold wk
    rw [pos_val (by simp only; omega)]
    simp only; omega

theorem wk_in (r c : ℕ) (hr : r < 32) (hc : c < 64) (j : Fin 128) : inWin (pos (r * 64 + c)) (wk r c j) := by
  have hb : rs r ≤ 24 := min_le_right _ _
  have hb' : cs c ≤ 48 := min_le_right _ _
  have h1 := j.isLt
  unfold inWin wk
  rw [pos_val (by omega), pos_val (by omega), show (r * 64 + c) / 64 = r by omega, show (r * 64 + c) % 64 = c by omega]
  omega

/-- The gradient of a query from the eight rows of keys it sees, scaled last. -/
theorem dQ_band (hg : ∀ q, Good (sc Q K B q)) {n : ℕ} (hn : n < 2048) (d : Fin 64) :
    (∑ i : Fin 8, ∑ k : Fin 64, ds Q K V D B (pos (n / 64 * 64 + n % 64)) (pos ((rs (n / 64) + i.val) * 64 + k.val))
        * K (pos ((rs (n / 64) + i.val) * 64 + k.val)) d) * c8
      = dQ Q K V D B (pos n) d := by
  rw [show n / 64 * 64 + n % 64 = n by omega,
    sum_rows (n / 64) (by omega) (fun k => ds Q K V D B (pos n) k * K k d) fun k hk => by
      rw [ds_bot V D (hg _) (fun hin => hk ?_), zero_mul]
      unfold inWin at hin
      rw [pos_val hn] at hin
      exact hin.1]
  obtain ⟨u, hu, e⟩ := c8_eq
  unfold dQ
  rw [e, ← sum_mul_real hu]
  exact Finset.sum_congr rfl fun k _ => mul_right_comm _ _ _

/-- The gradient of a key, the rows of queries that see it collected by one-hot rows. -/
theorem dK_band (hg : ∀ q, Good (sc Q K B q)) {n : ℕ} (hn : n < 2048) (d : Fin 64) :
    (∑ x : Fin 32, ∑ i : Fin 8, (∑ c : Fin 64, ds Q K V D B (pos (x.val * 64 + c.val)) (pos ((rs x.val + i.val) * 64 + n % 64))
        * (Q (pos (x.val * 64 + c.val)) d * c8)) * if rs x.val + i.val = n / 64 then (1 : EReal) else 0)
      = dK Q K V D B (pos n) d := by
  unfold dK
  rw [← sum_pos]
  refine Finset.sum_congr rfl fun x _ => ?_
  rw [spread (m := 8) (fun a => ∑ c : Fin 64, ds Q K V D B (pos (x.val * 64 + c.val)) (pos (a * 64 + n % 64))
    * (Q (pos (x.val * 64 + c.val)) d * c8)) (rs x.val) (n / 64) ?_]
  · rw [show n / 64 * 64 + n % 64 = n by omega]
    refine Finset.sum_congr rfl fun c _ => ?_
    rw [mul_assoc, mul_comm c8]
  · intro hk
    refine Finset.sum_eq_zero fun c _ => ?_
    rw [ds_bot V D (hg _) (fun hin => hk ((inWin_pos x.isLt c.isLt (by omega) (by omega)).1 hin).1), zero_mul]

/-- The gradient of a value, the rows of queries that see it collected by one-hot rows. -/
theorem dV_band (hg : ∀ q, Good (sc Q K B q)) {n : ℕ} (hn : n < 2048) (d : Fin 64) :
    (∑ x : Fin 32, ∑ i : Fin 8, (∑ c : Fin 64, D (pos (x.val * 64 + c.val)) d
        * pr (sc Q K B (pos (x.val * 64 + c.val))) (pos ((rs x.val + i.val) * 64 + n % 64))) * if rs x.val + i.val = n / 64 then (1 : EReal) else 0)
      = dV Q K D B (pos n) d := by
  unfold dV
  rw [← sum_pos]
  refine Finset.sum_congr rfl fun x _ => ?_
  rw [spread (m := 8) (fun a => ∑ c : Fin 64, D (pos (x.val * 64 + c.val)) d
    * pr (sc Q K B (pos (x.val * 64 + c.val))) (pos (a * 64 + n % 64))) (rs x.val) (n / 64) ?_]
  · rw [show n / 64 * 64 + n % 64 = n by omega]
    exact Finset.sum_congr rfl fun c _ => mul_comm _ _
  · intro hk
    refine Finset.sum_eq_zero fun c _ => ?_
    rw [prs_bot (hg _) (fun hin => hk ((inWin_pos x.isLt c.isLt (by omega) (by omega)).1 hin).1), mul_zero]

end Cert.Attn

end
-- ==== Proof.AttnTile.lean ====
module

public import proofs.«01_k».proof.Proof.Attn
public import proofs.«01_k».proof.Proof.Trip

@[expose] public section

set_option maxRecDepth 16384

noncomputable section

/-!
One trip of the attention kernel's loop against the dense attention: four query rows against the band of twelve key
rows that holds all their windows.
-/

namespace Cert.Attn

open Idealize.ShloMosaic Idealize.ShloMosaic.ValueIdx

variable {Q K V D : Fin 2048 → Fin 64 → EReal} {B : ℕ → ℕ → EReal}

/-- The first key row of trip `t`'s band. -/
def bs (t : ℕ) : ℕ := min (4 * t - 4) 20
/-- Query `a` of trip `t`. -/
def tq (t : ℕ) (a : Fin 256) : Fin 2048 := pos (256 * t + a.val)
/-- Key `b` of trip `t`'s band. -/
def tk (t : ℕ) (b : Fin 768) : Fin 2048 := pos (64 * bs t + b.val)
/-- The bias where the window holds the key, `⊥` elsewhere. -/
def mB (B : ℕ → ℕ → EReal) (q k : ℕ) : EReal := if inWin q k then B (k / 64 + 7 - q / 64) (k % 64 + 15 - q % 64) else ⊥

/-- The place of a trip's query. -/
theorem tq_val {t : ℕ} (ht : t < 8) (a : Fin 256) : (tq t a).val = 256 * t + a.val := pos_val (by omega)
/-- The place of a band's key. -/
theorem tk_val {t : ℕ} (b : Fin 768) : (tk t b).val = 64 * bs t + b.val := by
  have : bs t ≤ 20 := min_le_right _ _
  exact pos_val (by omega)

/-- A trip's band holds the windows of its queries. -/
theorem band_in {t : ℕ} (ht : t < 8) (a : Fin 256) (k : Fin 2048) (h : inWin (tq t a) k) :
    64 * bs t ≤ k.val ∧ k.val < 64 * bs t + 768 := by
  obtain ⟨⟨h1, h2⟩, -⟩ := h
  rw [tq_val ht] at h1 h2
  have := a.isLt
  unfold rs at h1 h2
  unfold bs
  omega

/-- The band is a part of each of its queries' rows. -/
theorem tk_part {t : ℕ} (ht : t < 8) (a : Fin 256) : Part (tk t) (sc Q K B (tq t a)) := by
  refine ⟨fun x y h => ?_, fun k hk => sc_bot fun hin => hk ?_⟩
  · have := congrArg Fin.val h
    rw [tk_val, tk_val] at this
    exact Fin.ext (by omega)
  · have hb := band_in ht a k hin
    refine ⟨⟨k.val - 64 * bs t, by omega⟩, Fin.ext ?_⟩
    rw [tk_val]; show 64 * bs t + (k.val - 64 * bs t) = k.val; omega

/-- The scores a trip computes are the dense ones. -/
theorem tile_sc {t : ℕ} (ht : t < 8) (a : Fin 256) :
    (fun b : Fin 768 => (∑ d : Fin 64, Q (tq t a) d * K (tk t b) d) * c8 + mB B (256 * t + a.val) (64 * bs t + b.val))
      = sc Q K B (tq t a) ∘ tk t := by
  funext b
  show _ = sc Q K B (tq t a) (tk t b)
  rw [sc, tq_val ht, tk_val, mB]
  by_cases h : inWin (256 * t + a.val) (64 * bs t + b.val)
  · rw [if_pos h, if_pos h]
  · rw [if_neg h, if_neg h, EReal.add_bot]

/-- The gradient of a query over its band is the dense one. -/
theorem tile_dQ {t : ℕ} (ht : t < 8) (hg : ∀ q, Good (sc Q K B q)) (a : Fin 256) (d : Fin 64) :
    ∑ b : Fin 768, ds Q K V D B (tq t a) (tk t b) * c8 * K (tk t b) d = dQ Q K V D B (tq t a) d :=
  sum_part (tk_part (Q := Q) (K := K) (B := B) ht a).inj (fun k => ds Q K V D B (tq t a) k * c8 * K k d) fun k hk => by
    rw [show ds Q K V D B (tq t a) k = 0 from dsm_bot (hg _) _ ((tk_part ht a).off k hk), zero_mul, zero_mul]

/-- A sum over trips and their queries is the sum over all queries. -/
theorem sum_trips (g : Fin 2048 → EReal) : ∑ t ∈ Finset.range 8, ∑ a : Fin 256, g (tq t a) = ∑ q, g q := by
  rw [← Fin.sum_univ_eq_sum_range (fun t => ∑ a : Fin 256, g (tq t a)), ← Fintype.sum_prod_type', ← (finProdFinEquiv (m := 8) (n := 256)).sum_comp]
  refine Finset.sum_congr rfl fun x _ => congrArg g (Fin.ext ?_)
  have h1 := x.1.isLt
  have h2 := x.2.isLt
  rw [tq_val h1, finProdFinEquiv_apply_val]; omega

/-- The part of a key's gradient the first `k` trips gather. -/
def aK (Q K V D : Fin 2048 → Fin 64 → EReal) (B : ℕ → ℕ → EReal) (k : ℕ) (n : Fin 2048) (d : Fin 64) : EReal :=
  ∑ t ∈ Finset.range k, ∑ a : Fin 256, ds Q K V D B (tq t a) n * c8 * Q (tq t a) d
/-- The part of a value's gradient the first `k` trips gather. -/
def aV (Q K D : Fin 2048 → Fin 64 → EReal) (B : ℕ → ℕ → EReal) (k : ℕ) (n : Fin 2048) (d : Fin 64) : EReal :=
  ∑ t ∈ Finset.range k, ∑ a : Fin 256, pr (sc Q K B (tq t a)) n * D (tq t a) d

/-- All trips gather the key's gradient. -/
theorem aK_all (n : Fin 2048) (d : Fin 64) : aK Q K V D B 8 n d = dK Q K V D B n d :=
  sum_trips fun q => ds Q K V D B q n * c8 * Q q d
/-- All trips gather the value's gradient. -/
theorem aV_all (n : Fin 2048) (d : Fin 64) : aV Q K D B 8 n d = dV Q K D B n d :=
  sum_trips fun q => pr (sc Q K B q) n * D q d

/-- A trip adds to a key of its band its queries' share. -/
theorem aK_succ (k : ℕ) (n : Fin 2048) (d : Fin 64) :
    aK Q K V D B (k + 1) n d = aK Q K V D B k n d + ∑ a : Fin 256, ds Q K V D B (tq k a) n * c8 * Q (tq k a) d := Finset.sum_range_succ _ _
/-- A trip adds to a value of its band its queries' share. -/
theorem aV_succ (k : ℕ) (n : Fin 2048) (d : Fin 64) :
    aV Q K D B (k + 1) n d = aV Q K D B k n d + ∑ a : Fin 256, pr (sc Q K B (tq k a)) n * D (tq k a) d := Finset.sum_range_succ _ _
/-- A trip adds nothing to a key off its band. -/
theorem aK_off (hg : ∀ q, Good (sc Q K B q)) {k : ℕ} (hk : k < 8) (n : Fin 2048) (d : Fin 64)
    (h : ¬ (64 * bs k ≤ n.val ∧ n.val < 64 * bs k + 768)) : aK Q K V D B (k + 1) n d = aK Q K V D B k n d := by
  rw [aK_succ, Finset.sum_eq_zero, add_zero]
  intro a _
  rw [ds_bot V D (hg _) (fun hin => h (band_in hk a n hin)), zero_mul, zero_mul]
/-- A trip adds nothing to a value off its band. -/
theorem aV_off (hg : ∀ q, Good (sc Q K B q)) {k : ℕ} (hk : k < 8) (n : Fin 2048) (d : Fin 64)
    (h : ¬ (64 * bs k ≤ n.val ∧ n.val < 64 * bs k + 768)) : aV Q K D B (k + 1) n d = aV Q K D B k n d := by
  rw [aV_succ, Finset.sum_eq_zero, add_zero]
  intro a _
  rw [prs_bot (hg _) (fun hin => h (band_in hk a n hin)), zero_mul]

end Cert.Attn

namespace Cert.KernelIdeal.Value

open Idealize.ShloMosaic Cert.KernelIdeal Cert.KernelIdeal.Gen Cert.Attn

/-- Six tiles side by side, at an index. -/
theorem cat6 {φ : FTy} (p0 p1 p2 p3 p4 p5 : FVec Ideal S64x128 φ) (G : ℕ → ℕ → EReal)
    (h0 : ∀ (d : Fin 64) (l : Fin 128), @Eq EReal (p0 (ix2 d l)) (G d (128 * 0 + l)))
    (h1 : ∀ (d : Fin 64) (l : Fin 128), @Eq EReal (p1 (ix2 d l)) (G d (128 * 1 + l)))
    (h2 : ∀ (d : Fin 64) (l : Fin 128), @Eq EReal (p2 (ix2 d l)) (G d (128 * 2 + l)))
    (h3 : ∀ (d : Fin 64) (l : Fin 128), @Eq EReal (p3 (ix2 d l)) (G d (128 * 3 + l)))
    (h4 : ∀ (d : Fin 64) (l : Fin 128), @Eq EReal (p4 (ix2 d l)) (G d (128 * 4 + l)))
    (h5 : ∀ (d : Fin 64) (l : Fin 128), @Eq EReal (p5 (ix2 d l)) (G d (128 * 5 + l)))
    (d : Fin 64) (b : Fin 768) :
    @Eq EReal (concatenate S64x768 1 [⟨S64x128, p0⟩, ⟨S64x128, p1⟩, ⟨S64x128, p2⟩, ⟨S64x128, p3⟩, ⟨S64x128, p4⟩, ⟨S64x128, p5⟩] concatenates_S64x128_S64x128_S64x128_S64x128_S64x128_S64x128_S64x768_d1 (ix2 d b)) (G d b) := by
  pointwise []
  simp only [h0, h1, h2, h3, h4, h5]
  have := b.isLt
  split_ifs <;> exact congrArg (G d) (by omega)

/-- Four row blocks one above the other, at an index. -/
theorem cat4 (p0 p1 p2 p3 : FVec Ideal S64x768 .f32) (G : ℕ → ℕ → EReal)
    (h0 : ∀ (d : Fin 64) (l : Fin 768), @Eq EReal (p0 (ix2 d l)) (G (64 * 0 + d) l))
    (h1 : ∀ (d : Fin 64) (l : Fin 768), @Eq EReal (p1 (ix2 d l)) (G (64 * 1 + d) l))
    (h2 : ∀ (d : Fin 64) (l : Fin 768), @Eq EReal (p2 (ix2 d l)) (G (64 * 2 + d) l))
    (h3 : ∀ (d : Fin 64) (l : Fin 768), @Eq EReal (p3 (ix2 d l)) (G (64 * 3 + d) l))
    (a : Fin 256) (b : Fin 768) :
    @Eq EReal (concatenate S256x768 0 [⟨S64x768, p0⟩, ⟨S64x768, p1⟩, ⟨S64x768, p2⟩, ⟨S64x768, p3⟩] concatenates_S64x768_S64x768_S64x768_S64x768_S256x768_d0 (ix2 a b)) (G a b) := by
  pointwise []
  simp only [h0, h1, h2, h3]
  have := a.isLt
  split_ifs <;> exact congrArg (fun n => G n b) (by omega)

/-- The scores: queries against the band's keys, scaled, with the bias. -/
def score (bias : FVec Ideal S256x768 .f32) (q : Vec Ideal S256x64 .bf16) (kT : FVec Ideal S64x768 .bf16) : FVec Ideal S256x768 .f32 :=
  addf (mulf (matmul (φ₁ := .bf16) (φ₂ := .bf16) dot_S256x64_S64x768_S256x768_1_0_0_1_n_n none q kT (constant S256x768 .f32 0x00000000#32)) (broadcast S256x768 (Scalar.ofBits (F := Ideal) .f32 0x3E000000#32))) bias

/-- The scores, at an index. -/
theorem score_at (bias : FVec Ideal S256x768 .f32) (q : Vec Ideal S256x64 .bf16) (kT : FVec Ideal S64x768 .bf16) (a : Fin 256) (b : Fin 768) :
    @Eq EReal (score bias q kT (ix2 a b)) ((∑ d : Fin 64, (q (ix2 a d) : EReal) * (kT (ix2 d b) : EReal)) * c8 + bias (ix2 a b)) := by
  pointwise [score]
  rfl

/-- The softmax of each row of a 256 × 768 array. -/
def soft (s : FVec Ideal S256x768 .f32) : FVec Ideal S256x768 .f32 :=
  k0_pay67 s (shapeCast S256x1 (multiReduction .maximumf [1] S256 s 0xFF800000#32 reduces_S256x768_S256 (.inl rfl) rfl) shapeCasts_S256_S256x1)

/-- The softmax, at an index. -/
theorem soft_at (s : FVec Ideal S256x768 .f32) (a : Fin 256) (b : Fin 768) :
    @Eq EReal (soft s (ix2 a b)) (pr (fun b : Fin 768 => (s (ix2 a b) : EReal)) b) := by
  pointwise [soft, k0_pay67]
  have : Ideal.ofBits .f32 0xFF800000#32 = (⊥ : EReal) := by simp [Ideal.ofBits, Ideal.ieee]
  simp only [this]
  rfl

/-- The gradient of the scores from the softmax and the cotangent's products. -/
def sgrad (p : FVec Ideal S256x768 .f32) (do_ : Vec Ideal S256x64 .bf16) (vT : FVec Ideal S64x768 .bf16) : FVec Ideal S256x768 .f32 :=
  have v985 : FVec Ideal S256x768 .f32 := matmul (φ₁ := .bf16) (φ₂ := .bf16) dot_S256x64_S64x768_S256x768_1_0_0_1_n_n none do_ vT (constant S256x768 .f32 0x00000000#32)
  have v987 : FVec Ideal S256 .f32 := multiReduction .add [1] S256 (mulf v985 p) 0x00000000#32 reduces_S256x768_S256 (.inl rfl) rfl
  mulf p (subf v985 (broadcastTo S256x768 (shapeCast S256x1 v987 shapeCasts_S256_S256x1) broadcasts_S256x1_S256x768))

/-- The gradient of the scores, at an index. -/
theorem sgrad_at (p : FVec Ideal S256x768 .f32) (do_ : Vec Ideal S256x64 .bf16) (vT : FVec Ideal S64x768 .bf16) (a : Fin 256) (b : Fin 768) :
    @Eq EReal (sgrad p do_ vT (ix2 a b)) ((p (ix2 a b) : EReal) * ((∑ d : Fin 64, (do_ (ix2 a d) : EReal) * (vT (ix2 d b) : EReal))
      - ∑ x : Fin 768, (∑ d : Fin 64, (do_ (ix2 a d) : EReal) * (vT (ix2 d x) : EReal)) * (p (ix2 a x) : EReal))) := by
  pointwise [sgrad]

/-- The product giving the query gradient, at an index. -/
theorem pay53_at (s : FVec Ideal S256x768 .f32) (k : Vec Ideal S768x64 .bf16) (a : Fin 256) (d : Fin 64) :
    @Eq EReal (k0_pay53 s k (ix2 a d)) (∑ b : Fin 768, (s (ix2 a b) : EReal) * c8 * (k (ix2 b d) : EReal)) := by
  pointwise [k0_pay53, k0_pay52]
  rfl
/-- The product giving the key gradient, added to what was there, at an index. -/
theorem pay54_at (q : Vec Ideal S256x64 .bf16) (s : FVec Ideal S256x768 .f32) (o : Vec Ideal S768x64 .f32) (b : Fin 768) (d : Fin 64) :
    @Eq EReal (k0_pay54 q s o (ix2 b d)) ((o (ix2 b d) : EReal) + ∑ a : Fin 256, (s (ix2 a b) : EReal) * c8 * (q (ix2 a d) : EReal)) := by
  pointwise [k0_pay54, k0_pay52]
  rfl
/-- The product giving the value gradient, added to what was there, at an index. -/
theorem pay55_at (p : FVec Ideal S256x768 .f32) (do_ : Vec Ideal S256x64 .bf16) (o : Vec Ideal S768x64 .f32) (b : Fin 768) (d : Fin 64) :
    @Eq EReal (k0_pay55 p do_ o (ix2 b d)) ((o (ix2 b d) : EReal) + ∑ a : Fin 256, (p (ix2 a b) : EReal) * (do_ (ix2 a d) : EReal)) := by
  pointwise [k0_pay55]

/-- Head 1's payloads are head 0's. -/
theorem pay101_eq (s : FVec Ideal S256x768 .f32) (k : Vec Ideal S768x64 .bf16) : k0_pay101 (k0_pay100 s k) = k0_pay53 s k := rfl
/-- Head 1's payloads are head 0's. -/
theorem pay148_eq (q : Vec Ideal S256x64 .bf16) (s : FVec Ideal S256x768 .f32) (o : Vec Ideal S768x64 .f32) : k0_pay148 q (k0_pay99 s) o = k0_pay54 q s o := rfl
/-- Head 1's payloads are head 0's. -/
theorem pay149_eq (p : FVec Ideal S256x768 .f32) (do_ : Vec Ideal S256x64 .bf16) (o : Vec Ideal S768x64 .f32) : k0_pay149 p do_ o = k0_pay55 p do_ o := rfl

/-- A tile of keys without its first axis, at an index. -/
theorem sq3_at {φ : FTy} (v : FVec Ideal S1x64x128 φ) (d : Fin 64) (l : Fin 128) :
    @Eq EReal (shapeCast S64x128 v shapeCasts_S1x64x128_S64x128 (ix2 d l)) (v (ix3 0 d l)) := by
  pointwise []
/-- A tile of the table without its first two axes, at an index. -/
theorem sq4_at {φ : FTy} (v : FVec Ideal S1x1x64x128 φ) (d : Fin 64) (l : Fin 128) :
    @Eq EReal (shapeCast S64x128 v shapeCasts_S1x1x64x128_S64x128 (ix2 d l)) (v (ix4 0 0 d l)) := by
  pointwise []

end Cert.KernelIdeal.Value
end
-- ==== Proof.AttnTrip.lean ====
module

public import proofs.«01_k».proof.Proof.AttnTile

@[expose] public section

set_option maxRecDepth 16384

noncomputable section

/-!
The values one trip of the attention kernel's loop computes, from the buffers it reads.
-/

namespace Cert.KernelIdeal.Value

open Idealize.ShloMosaic Idealize.ShloMosaic.TcCoe Idealize.SL.Sem Cert.KernelIdeal Cert.KernelIdeal.Gen Cert.KernelIdeal.Body Cert.Attn

/-- The table entry for row `i` of trip `t`'s queries and pair `g` of its band's key rows. -/
def entC (t g i : ℕ) : ℕ :=
  if rs (4 * t + i) ≤ bs t + 2 * g ∧ bs t + 2 * g < rs (4 * t + i) + 8 then
    if rs (4 * t + i) ≤ bs t + 2 * g + 1 ∧ bs t + 2 * g + 1 < rs (4 * t + i) + 8 then bs t + 2 * g + 7 - (4 * t + i) else 15
  else if rs (4 * t + i) ≤ bs t + 2 * g + 1 ∧ bs t + 2 * g + 1 < rs (4 * t + i) + 8 then 14 else 16

/-- The entry is one of the table's seventeen. -/
theorem entC_lt : ∀ (t : Fin 8) (g : Fin 6) (i : Fin 4), entC t g i < 17 := by decide +kernel

/-- Where head 0 reads the table. -/
theorem off1_ent : ∀ (t : Fin k0_t1_loop.trips) (g : Fin 6) (i : Fin 4),
    k0_off1 t (BitVec.ofNat 32 (2 * g)) (BitVec.ofNat 32 i) = ![0, entC t g i, 0, 0] := by decide +kernel
/-- Where head 1 reads the table. -/
theorem off5_ent : ∀ (t : Fin k0_t1_loop.trips) (g : Fin 6) (i : Fin 4),
    k0_off5 t (BitVec.ofNat 32 (2 * g)) (BitVec.ofNat 32 i) = ![1, entC t g i, 0, 0] := by decide +kernel
/-- Where head 0 reads the transposed pairs. -/
theorem off3_pair : ∀ (t : Fin k0_t1_loop.trips) (g : Fin 6), k0_off3 t (BitVec.ofNat 32 g) = ![bs t / 2 + g, 0, 0] := by decide +kernel
/-- Where head 1 reads the transposed pairs. -/
theorem off7_pair : ∀ (t : Fin k0_t1_loop.trips) (g : Fin 6), k0_off7 t (BitVec.ofNat 32 g) = ![bs t / 2 + g, 64, 0] := by decide +kernel
/-- Where head 0 reads its queries. -/
theorem off2_rows : ∀ t : Fin k0_t1_loop.trips, k0_off2 t = ![256 * t.val, 0] := by decide +kernel
/-- Where head 1 reads its queries. -/
theorem off6_rows : ∀ t : Fin k0_t1_loop.trips, k0_off6 t = ![256 * t.val, 64] := by decide +kernel
/-- Where head 0 reads its band. -/
theorem off4_band : ∀ t : Fin k0_t1_loop.trips, k0_off4 t = ![64 * bs t, 0] := by decide +kernel
/-- Where head 1 reads its band. -/
theorem off8_band : ∀ t : Fin k0_t1_loop.trips, k0_off8 t = ![64 * bs t, 64] := by decide +kernel
/-- There are eight trips. -/
theorem trips8 (t : Fin k0_t1_loop.trips) : t.val < 8 := t.isLt

/-- A lane, from a number. -/
def colOf (d : ℕ) : Fin 64 := ⟨d % 64, Nat.mod_lt _ (by norm_num)⟩
/-- A lane of its own number. -/
theorem colOf_self (d : Fin 64) : colOf d.val = d := Fin.ext (Nat.mod_eq_of_lt d.isLt)

section
variable (c : Dev nD)
  (arg4 : Memref sig .tc .vmem S2x17x64x128 .f32)
  (arg14 : Memref sig .tc .vmem S2048x128 .bf16)
  (arg15 : Memref sig .tc .vmem S2048x128 .bf16)
  (arg17 : Memref sig .tc .vmem S2048x128 .bf16)
  (arg18 : Memref sig .tc .vmem S16x128x128 .bf16)
  (arg19 : Memref sig .tc .vmem S16x128x128 .bf16)
  (f4 : Buf (Elt Ideal) (arg4.view.loc (c : Thread nD τ))) (f14 : Buf (Elt Ideal) (arg14.view.loc (c : Thread nD τ)))
  (f15 : Buf (Elt Ideal) (arg15.view.loc (c : Thread nD τ))) (f17 : Buf (Elt Ideal) (arg17.view.loc (c : Thread nD τ)))
  (f18 : Buf (Elt Ideal) (arg18.view.loc (c : Thread nD τ))) (f19 : Buf (Elt Ideal) (arg19.view.loc (c : Thread nD τ)))

/-- The buffers a trip reads hold, in head `h`'s lanes, its queries, keys, values, cotangent and bias. -/
structure Held (h : Fin 2) (Q K V D : Fin 2048 → Fin 64 → EReal) (B : ℕ → ℕ → EReal) : Prop where
  q : ∀ (n : Fin 2048) (d : Fin 64), @Eq EReal (arg14.view.read (Elt Ideal) f14 (ix2 n ⟨64 * h.val + d.val, by omega⟩)) (Q n d)
  k : ∀ (n : Fin 2048) (d : Fin 64), @Eq EReal (arg15.view.read (Elt Ideal) f15 (ix2 n ⟨64 * h.val + d.val, by omega⟩)) (K n d)
  y : ∀ (n : Fin 2048) (d : Fin 64), @Eq EReal (arg17.view.read (Elt Ideal) f17 (ix2 n ⟨64 * h.val + d.val, by omega⟩)) (D n d)
  kt : ∀ (p : Fin 16) (d : Fin 64) (l : Fin 128), @Eq EReal (arg18.view.read (Elt Ideal) f18 (ix3 p ⟨64 * h.val + d.val, by omega⟩ l)) (K (pos (128 * p.val + l.val)) d)
  vt : ∀ (p : Fin 16) (d : Fin 64) (l : Fin 128), @Eq EReal (arg19.view.read (Elt Ideal) f19 (ix3 p ⟨64 * h.val + d.val, by omega⟩ l)) (V (pos (128 * p.val + l.val)) d)
  tab : ∀ (t : Fin 8) (g : Fin 6) (i : Fin 4) (d : Fin 64) (l : Fin 128),
    @Eq EReal (arg4.view.read (Elt Ideal) f4 (ix4 h ⟨entC t g i, entC_lt t g i⟩ d l)) (mB B (256 * t.val + (64 * i.val + d.val)) (64 * bs t + (128 * g.val + l.val)))

variable {c arg4 arg14 arg15 arg17 arg18 arg19 f4 f14 f15 f17 f18 f19}
variable {h : Fin 2} {Q K V D : Fin 2048 → Fin 64 → EReal} {B : ℕ → ℕ → EReal}
  (H : Held c arg4 arg14 arg15 arg17 arg18 arg19 f4 f14 f15 f17 f18 f19 h Q K V D B)

include H

/-- A tile of the bias, at an index. -/
theorem tile4 (t : Fin k0_t1_loop.trips) (g : Fin 6) (i : Fin 4) {off : Fin 4 → ℕ} (inb : ∀ a, off a + S1x1x64x128.size a ≤ S2x17x64x128.size a)
    (ho : off = ![h.val, entC t g i, 0, 0]) (d : Fin 64) (l : Fin 128) :
    @Eq EReal (shapeCast (α := Ideal .f32) S64x128 (arg4.view.readAt (Elt Ideal) (Rect.unit (s := S2x17x64x128) off S1x1x64x128.size inb).toLoadRect f4) shapeCasts_S1x1x64x128_S64x128 (ix2 d l))
      (mB B (256 * t.val + (64 * i.val + d.val)) (64 * bs t + (128 * g.val + l.val))) := by
  subst ho
  refine (sq4_at (φ := .f32) _ d l).trans (Eq.trans ?_ (H.tab t g i d l))
  refine congrArg (arg4.view.read (Elt Ideal) f4) (funext fun a => Fin.ext ?_)
  match a with
  | 0 => show h.val + 1 * 0 = h.val; omega
  | 1 => show entC t g i + 1 * 0 = entC t g i; omega
  | 2 => show 0 + 1 * d.val = d.val; omega
  | 3 => show 0 + 1 * l.val = l.val; omega

/-- A tile of the keys, transposed, at an index. -/
theorem tileK (t : Fin k0_t1_loop.trips) (g : Fin 6) {off : Fin 3 → ℕ} (inb : ∀ a, off a + S1x64x128.size a ≤ S16x128x128.size a)
    (ho : off = ![bs t / 2 + g, 64 * h.val, 0]) (d : Fin 64) (l : Fin 128) :
    @Eq EReal (shapeCast (α := Ideal .bf16) S64x128 (arg18.view.readAt (Elt Ideal) (Rect.unit (s := S16x128x128) off S1x64x128.size inb).toLoadRect f18) shapeCasts_S1x64x128_S64x128 (ix2 d l))
      (K (pos (64 * bs t + (128 * g.val + l.val))) (colOf d.val)) := by
  subst ho
  have hp : bs t / 2 + g.val < 16 := by have : bs t ≤ 20 := min_le_right _ _; omega
  have e : 64 * bs t + (128 * g.val + l.val) = 128 * (bs t / 2 + g.val) + l.val := by unfold bs; omega
  rw [colOf_self, e]
  refine (sq3_at (φ := .bf16) _ d l).trans (Eq.trans ?_ (H.kt ⟨bs t / 2 + g.val, hp⟩ d l))
  refine congrArg (arg18.view.read (Elt Ideal) f18) (funext fun a => Fin.ext ?_)
  match a with
  | 0 => show bs t / 2 + g.val + 1 * 0 = bs t / 2 + g.val; omega
  | 1 => show 64 * h.val + 1 * d.val = 64 * h.val + d.val; omega
  | 2 => show 0 + 1 * l.val = l.val; omega

/-- A tile of the values, transposed, at an index. -/
theorem tileV (t : Fin k0_t1_loop.trips) (g : Fin 6) {off : Fin 3 → ℕ} (inb : ∀ a, off a + S1x64x128.size a ≤ S16x128x128.size a)
    (ho : off = ![bs t / 2 + g, 64 * h.val, 0]) (d : Fin 64) (l : Fin 128) :
    @Eq EReal (shapeCast (α := Ideal .bf16) S64x128 (arg19.view.readAt (Elt Ideal) (Rect.unit (s := S16x128x128) off S1x64x128.size inb).toLoadRect f19) shapeCasts_S1x64x128_S64x128 (ix2 d l))
      (V (pos (64 * bs t + (128 * g.val + l.val))) (colOf d.val)) := by
  subst ho
  have hp : bs t / 2 + g.val < 16 := by have : bs t ≤ 20 := min_le_right _ _; omega
  have e : 64 * bs t + (128 * g.val + l.val) = 128 * (bs t / 2 + g.val) + l.val := by unfold bs; omega
  rw [colOf_self, e]
  refine (sq3_at (φ := .bf16) _ d l).trans (Eq.trans ?_ (H.vt ⟨bs t / 2 + g.val, hp⟩ d l))
  refine congrArg (arg19.view.read (Elt Ideal) f19) (funext fun a => Fin.ext ?_)
  match a with
  | 0 => show bs t / 2 + g.val + 1 * 0 = bs t / 2 + g.val; omega
  | 1 => show 64 * h.val + 1 * d.val = 64 * h.val + d.val; omega
  | 2 => show 0 + 1 * l.val = l.val; omega

/-- A trip's queries, at an index. -/
theorem rowsQ (t : Fin k0_t1_loop.trips) {off : Fin 2 → ℕ} (inb : ∀ a, off a + S256x64.size a ≤ S2048x128.size a)
    (ho : off = ![256 * t.val, 64 * h.val]) (a : Fin 256) (d : Fin 64) :
    @Eq EReal (arg14.view.readAt (Elt Ideal) (Rect.unit (s := S2048x128) off S256x64.size inb).toLoadRect f14 (ix2 a d)) (Q (tq t a) d) := by
  subst ho
  refine Eq.trans ?_ (H.q (tq t a) d)
  refine congrArg (arg14.view.read (Elt Ideal) f14) (funext fun x => Fin.ext ?_)
  match x with
  | 0 => show 256 * t.val + 1 * a.val = (tq t a).val; rw [tq_val (trips8 t)]; omega
  | 1 => show 64 * h.val + 1 * d.val = 64 * h.val + d.val; omega

/-- A trip's cotangent rows, at an index. -/
theorem rowsY (t : Fin k0_t1_loop.trips) {off : Fin 2 → ℕ} (inb : ∀ a, off a + S256x64.size a ≤ S2048x128.size a)
    (ho : off = ![256 * t.val, 64 * h.val]) (a : Fin 256) (d : Fin 64) :
    @Eq EReal (arg17.view.readAt (Elt Ideal) (Rect.unit (s := S2048x128) off S256x64.size inb).toLoadRect f17 (ix2 a d)) (D (tq t a) d) := by
  subst ho
  refine Eq.trans ?_ (H.y (tq t a) d)
  refine congrArg (arg17.view.read (Elt Ideal) f17) (funext fun x => Fin.ext ?_)
  match x with
  | 0 => show 256 * t.val + 1 * a.val = (tq t a).val; rw [tq_val (trips8 t)]; omega
  | 1 => show 64 * h.val + 1 * d.val = 64 * h.val + d.val; omega

/-- A trip's band of keys, at an index. -/
theorem bandK (t : Fin k0_t1_loop.trips) {off : Fin 2 → ℕ} (inb : ∀ a, off a + S768x64.size a ≤ S2048x128.size a)
    (ho : off = ![64 * bs t, 64 * h.val]) (b : Fin 768) (d : Fin 64) :
    @Eq EReal (arg15.view.readAt (Elt Ideal) (Rect.unit (s := S2048x128) off S768x64.size inb).toLoadRect f15 (ix2 b d)) (K (tk t b) d) := by
  subst ho
  refine Eq.trans ?_ (H.k (tk t b) d)
  refine congrArg (arg15.view.read (Elt Ideal) f15) (funext fun x => Fin.ext ?_)
  match x with
  | 0 => show 64 * bs t + 1 * b.val = (tk t b).val; rw [tk_val]; omega
  | 1 => show 64 * h.val + 1 * d.val = 64 * h.val + d.val; omega

omit H in
/-- A trip's softmax from its scores. -/
theorem soft_sc {t : ℕ} (ht : t < 8) (bias : FVec Ideal S256x768 .f32) (q : Vec Ideal S256x64 .bf16) (kT : FVec Ideal S64x768 .bf16)
    (hb : ∀ (a : Fin 256) (b : Fin 768), @Eq EReal (bias (ix2 a b)) (mB B (256 * t + a.val) (64 * bs t + b.val)))
    (hq : ∀ (a : Fin 256) (d : Fin 64), @Eq EReal (q (ix2 a d)) (Q (tq t a) d))
    (hk : ∀ (d : Fin 64) (b : Fin 768), @Eq EReal (kT (ix2 d b)) (K (tk t b) d)) (a : Fin 256) (b : Fin 768) :
    @Eq EReal (soft (score bias q kT) (ix2 a b)) (pr (sc Q K B (tq t a)) (tk t b)) := by
  rw [soft_at]
  simp only [score_at, hb, hq, hk]
  rw [tile_sc ht, pr_part (tk_part ht a)]

omit H in
/-- A trip's gradient of its scores. -/
theorem sgrad_ds {t : ℕ} (ht : t < 8) (hg : ∀ q, Good (sc Q K B q)) (p : FVec Ideal S256x768 .f32) (y : Vec Ideal S256x64 .bf16) (vT : FVec Ideal S64x768 .bf16)
    (hp : ∀ (a : Fin 256) (b : Fin 768), @Eq EReal (p (ix2 a b)) (pr (sc Q K B (tq t a)) (tk t b)))
    (hy : ∀ (a : Fin 256) (d : Fin 64), @Eq EReal (y (ix2 a d)) (D (tq t a) d))
    (hv : ∀ (d : Fin 64) (b : Fin 768), @Eq EReal (vT (ix2 d b)) (V (tk t b) d)) (a : Fin 256) (b : Fin 768) :
    @Eq EReal (sgrad p y vT (ix2 a b)) (ds Q K V D B (tq t a) (tk t b)) := by
  rw [sgrad_at]
  simp only [hp, hy, hv]
  refine Eq.trans ?_ (dsm_part (tk_part ht a) (hg (tq t a)) (dp V D (tq t a)) b)
  rw [dsm]
  simp only [pr_part (tk_part ht a)]
  rfl

omit H

/-- Head 0's bias in a trip, at an index. -/
theorem bias0 (H : Held c arg4 arg14 arg15 arg17 arg18 arg19 f4 f14 f15 f17 f18 f19 0 Q K V D B) (t : Fin k0_t1_loop.trips) (a : Fin 256) (b : Fin 768) :
    @Eq EReal (tripRun.sl.v883 (F := Ideal) c arg4 t f4 (ix2 a b)) (mB B (256 * t.val + a.val) (64 * bs t + b.val)) := by
  refine cat4 _ _ _ _ (fun n l => mB B (256 * t.val + n) (64 * bs t + l)) ?_ ?_ ?_ ?_ a b
  · intro d b
    exact cat6 _ _ _ _ _ _ (fun n l => mB B (256 * t.val + (64 * 0 + n)) (64 * bs t + l))
      (tile4 H t 0 0 _ (off1_ent t 0 0))
      (tile4 H t 1 0 _ (off1_ent t 1 0))
      (tile4 H t 2 0 _ (off1_ent t 2 0))
      (tile4 H t 3 0 _ (off1_ent t 3 0))
      (tile4 H t 4 0 _ (off1_ent t 4 0))
      (tile4 H t 5 0 _ (off1_ent t 5 0)) d b
  · intro d b
    exact cat6 _ _ _ _ _ _ (fun n l => mB B (256 * t.val + (64 * 1 + n)) (64 * bs t + l))
      (tile4 H t 0 1 _ (off1_ent t 0 1))
      (tile4 H t 1 1 _ (off1_ent t 1 1))
      (tile4 H t 2 1 _ (off1_ent t 2 1))
      (tile4 H t 3 1 _ (off1_ent t 3 1))
      (tile4 H t 4 1 _ (off1_ent t 4 1))
      (tile4 H t 5 1 _ (off1_ent t 5 1)) d b
  · intro d b
    exact cat6 _ _ _ _ _ _ (fun n l => mB B (256 * t.val + (64 * 2 + n)) (64 * bs t + l))
      (tile4 H t 0 2 _ (off1_ent t 0 2))
      (tile4 H t 1 2 _ (off1_ent t 1 2))
      (tile4 H t 2 2 _ (off1_ent t 2 2))
      (tile4 H t 3 2 _ (off1_ent t 3 2))
      (tile4 H t 4 2 _ (off1_ent t 4 2))
      (tile4 H t 5 2 _ (off1_ent t 5 2)) d b
  · intro d b
    exact cat6 _ _ _ _ _ _ (fun n l => mB B (256 * t.val + (64 * 3 + n)) (64 * bs t + l))
      (tile4 H t 0 3 _ (off1_ent t 0 3))
      (tile4 H t 1 3 _ (off1_ent t 1 3))
      (tile4 H t 2 3 _ (off1_ent t 2 3))
      (tile4 H t 3 3 _ (off1_ent t 3 3))
      (tile4 H t 4 3 _ (off1_ent t 4 3))
      (tile4 H t 5 3 _ (off1_ent t 5 3)) d b

/-- Head 0's softmax in a trip is the dense one over the band. -/
theorem soft0 (H : Held c arg4 arg14 arg15 arg17 arg18 arg19 f4 f14 f15 f17 f18 f19 0 Q K V D B) (t : Fin k0_t1_loop.trips) (a : Fin 256) (b : Fin 768) :
    @Eq EReal (tripRun.sl.r_1 (F := Ideal) c arg4 arg14 arg18 t f4 f14 f18 (ix2 a b)) (pr (sc Q K B (tq t a)) (tk t b)) := by
  refine soft_sc (K := K) (trips8 t) (tripRun.sl.v883 (F := Ideal) c arg4 t f4) (tripRun.sl.r (F := Ideal) c arg14 t f14) _ (bias0 H t) (rowsQ H t _ (off2_rows t)) (fun d b => ?_) a b
  refine (cat6 _ _ _ _ _ _ (fun d n => K (pos (64 * bs t + n)) (colOf d))
      (tileK H t 0 _ (off3_pair t 0))
      (tileK H t 1 _ (off3_pair t 1))
      (tileK H t 2 _ (off3_pair t 2))
      (tileK H t 3 _ (off3_pair t 3))
      (tileK H t 4 _ (off3_pair t 4))
      (tileK H t 5 _ (off3_pair t 5)) d b).trans ?_
  rw [colOf_self]; rfl

/-- Head 0's gradient of the scores in a trip is the dense one over the band. -/
theorem grad0 (H : Held c arg4 arg14 arg15 arg17 arg18 arg19 f4 f14 f15 f17 f18 f19 0 Q K V D B) (hg : ∀ q, Good (sc Q K B q)) (t : Fin k0_t1_loop.trips) (a : Fin 256) (b : Fin 768) :
    @Eq EReal (tripRun.sl.r_4 (F := Ideal) c arg4 arg14 arg17 arg18 arg19 t f4 f14 f17 f18 f19 (ix2 a b)) (ds Q K V D B (tq t a) (tk t b)) := by
  refine sgrad_ds (V := V) (D := D) (trips8 t) hg (tripRun.sl.r_1 (F := Ideal) c arg4 arg14 arg18 t f4 f14 f18) (tripRun.sl.r_2 (F := Ideal) c arg17 t f17) _ (soft0 H t) (rowsY H t _ (off2_rows t)) (fun d b => ?_) a b
  refine (cat6 _ _ _ _ _ _ (fun d n => V (pos (64 * bs t + n)) (colOf d))
      (tileV H t 0 _ (off3_pair t 0))
      (tileV H t 1 _ (off3_pair t 1))
      (tileV H t 2 _ (off3_pair t 2))
      (tileV H t 3 _ (off3_pair t 3))
      (tileV H t 4 _ (off3_pair t 4))
      (tileV H t 5 _ (off3_pair t 5)) d b).trans ?_
  rw [colOf_self]; rfl

/-- Head 1's bias in a trip, at an index. -/
theorem bias1 (H : Held c arg4 arg14 arg15 arg17 arg18 arg19 f4 f14 f15 f17 f18 f19 1 Q K V D B) (t : Fin k0_t1_loop.trips) (a : Fin 256) (b : Fin 768) :
    @Eq EReal (tripRun.sl.v1871 (F := Ideal) c arg4 t f4 (ix2 a b)) (mB B (256 * t.val + a.val) (64 * bs t + b.val)) := by
  refine cat4 _ _ _ _ (fun n l => mB B (256 * t.val + n) (64 * bs t + l)) ?_ ?_ ?_ ?_ a b
  · intro d b
    exact cat6 _ _ _ _ _ _ (fun n l => mB B (256 * t.val + (64 * 0 + n)) (64 * bs t + l))
      (tile4 H t 0 0 _ (off5_ent t 0 0))
      (tile4 H t 1 0 _ (off5_ent t 1 0))
      (tile4 H t 2 0 _ (off5_ent t 2 0))
      (tile4 H t 3 0 _ (off5_ent t 3 0))
      (tile4 H t 4 0 _ (off5_ent t 4 0))
      (tile4 H t 5 0 _ (off5_ent t 5 0)) d b
  · intro d b
    exact cat6 _ _ _ _ _ _ (fun n l => mB B (256 * t.val + (64 * 1 + n)) (64 * bs t + l))
      (tile4 H t 0 1 _ (off5_ent t 0 1))
      (tile4 H t 1 1 _ (off5_ent t 1 1))
      (tile4 H t 2 1 _ (off5_ent t 2 1))
      (tile4 H t 3 1 _ (off5_ent t 3 1))
      (tile4 H t 4 1 _ (off5_ent t 4 1))
      (tile4 H t 5 1 _ (off5_ent t 5 1)) d b
  · intro d b
    exact cat6 _ _ _ _ _ _ (fun n l => mB B (256 * t.val + (64 * 2 + n)) (64 * bs t + l))
      (tile4 H t 0 2 _ (off5_ent t 0 2))
      (tile4 H t 1 2 _ (off5_ent t 1 2))
      (tile4 H t 2 2 _ (off5_ent t 2 2))
      (tile4 H t 3 2 _ (off5_ent t 3 2))
      (tile4 H t 4 2 _ (off5_ent t 4 2))
      (tile4 H t 5 2 _ (off5_ent t 5 2)) d b
  · intro d b
    exact cat6 _ _ _ _ _ _ (fun n l => mB B (256 * t.val + (64 * 3 + n)) (64 * bs t + l))
      (tile4 H t 0 3 _ (off5_ent t 0 3))
      (tile4 H t 1 3 _ (off5_ent t 1 3))
      (tile4 H t 2 3 _ (off5_ent t 2 3))
      (tile4 H t 3 3 _ (off5_ent t 3 3))
      (tile4 H t 4 3 _ (off5_ent t 4 3))
      (tile4 H t 5 3 _ (off5_ent t 5 3)) d b

/-- Head 1's softmax in a trip is the dense one over the band. -/
theorem soft1 (H : Held c arg4 arg14 arg15 arg17 arg18 arg19 f4 f14 f15 f17 f18 f19 1 Q K V D B) (t : Fin k0_t1_loop.trips) (a : Fin 256) (b : Fin 768) :
    @Eq EReal (tripRun.sl.r_14 (F := Ideal) c arg4 arg14 arg18 t f4 f14 f18 (ix2 a b)) (pr (sc Q K B (tq t a)) (tk t b)) := by
  refine soft_sc (K := K) (trips8 t) (tripRun.sl.v1871 (F := Ideal) c arg4 t f4) (tripRun.sl.r_11 (F := Ideal) c arg14 t f14) _ (bias1 H t) (rowsQ H t _ (off6_rows t)) (fun d b => ?_) a b
  refine (cat6 _ _ _ _ _ _ (fun d n => K (pos (64 * bs t + n)) (colOf d))
      (tileK H t 0 _ (off7_pair t 0))
      (tileK H t 1 _ (off7_pair t 1))
      (tileK H t 2 _ (off7_pair t 2))
      (tileK H t 3 _ (off7_pair t 3))
      (tileK H t 4 _ (off7_pair t 4))
      (tileK H t 5 _ (off7_pair t 5)) d b).trans ?_
  rw [colOf_self]; rfl

/-- Head 1's gradient of the scores in a trip is the dense one over the band. -/
theorem grad1 (H : Held c arg4 arg14 arg15 arg17 arg18 arg19 f4 f14 f15 f17 f18 f19 1 Q K V D B) (hg : ∀ q, Good (sc Q K B q)) (t : Fin k0_t1_loop.trips) (a : Fin 256) (b : Fin 768) :
    @Eq EReal (tripRun.sl.r_19 (F := Ideal) c arg4 arg14 arg17 arg18 arg19 t f4 f14 f17 f18 f19 (ix2 a b)) (ds Q K V D B (tq t a) (tk t b)) := by
  refine sgrad_ds (V := V) (D := D) (trips8 t) hg (tripRun.sl.r_14 (F := Ideal) c arg4 arg14 arg18 t f4 f14 f18) (tripRun.sl.r_15 (F := Ideal) c arg17 t f17) _ (soft1 H t) (rowsY H t _ (off6_rows t)) (fun d b => ?_) a b
  refine (cat6 _ _ _ _ _ _ (fun d n => V (pos (64 * bs t + n)) (colOf d))
      (tileV H t 0 _ (off7_pair t 0))
      (tileV H t 1 _ (off7_pair t 1))
      (tileV H t 2 _ (off7_pair t 2))
      (tileV H t 3 _ (off7_pair t 3))
      (tileV H t 4 _ (off7_pair t 4))
      (tileV H t 5 _ (off7_pair t 5)) d b).trans ?_
  rw [colOf_self]; rfl

end

end Cert.KernelIdeal.Value
end
-- ==== Proof.AttnLoop.lean ====
module

public import proofs.«01_k».proof.Proof.AttnTrip
public import Idealize.ShloMosaic.Lib.WritesUnit

@[expose] public section

set_option maxRecDepth 16384

noncomputable section

/-!
The attention kernel's loop: what its three gradient buffers hold after the eight trips.
-/

namespace Cert.KernelIdeal.Value

open Idealize.ShloMosaic Idealize.ShloMosaic.TcCoe Idealize.SL.Sem Cert.KernelIdeal Cert.KernelIdeal.Gen Cert.KernelIdeal.Body Cert.Attn

/-- Two pieces of the same rows, one per half of the lanes, read back at an index. -/
theorem two_pieces {rows r0 : ℕ} (hr : r0 + rows ≤ 2048) (v : View sig .tc .vmem S2048x128 .f32) (f : v.ty.Contents (Elt Ideal))
    {o1 o0 : Fin 2 → ℕ} (e1 : o1 = ![r0, 64]) (e0 : o0 = ![r0, 0])
    (i1 : ∀ a, o1 a + (⟨2, ![rows, 64]⟩ : Shape).size a ≤ S2048x128.size a) (i0 : ∀ a, o0 a + (⟨2, ![rows, 64]⟩ : Shape).size a ≤ S2048x128.size a)
    (w1 w0 : (⟨2, ![rows, 64]⟩ : Shape).Idx → EReal) (h : Fin 2) (n : Fin 2048) (d : Fin 64) :
    @Eq EReal (v.read (Elt Ideal) (v.writes (Elt Ideal) f [⟨Rect.unit (s := S2048x128) o1 (⟨2, ![rows, 64]⟩ : Shape).size i1, w1⟩, ⟨Rect.unit (s := S2048x128) o0 (⟨2, ![rows, 64]⟩ : Shape).size i0, w0⟩]) (ix2 n ⟨64 * h.val + d.val, by omega⟩))
      (if hn : r0 ≤ n.val ∧ n.val < r0 + rows then (if h = 0 then w0 else w1) (ix2 ⟨n.val - r0, by omega⟩ d)
        else v.read (Elt Ideal) f (ix2 n ⟨64 * h.val + d.val, by omega⟩)) := by
  have hd := d.isLt
  by_cases hn : r0 ≤ n.val ∧ n.val < r0 + rows
  · rw [dif_pos hn]
    match h with
    | 0 =>
      refine (View.read_writes_cons_unit_of_not_mem v f i1 w1 _ _ e1 1 (.inl ?_)).trans ?_
      · show 64 * 0 + d.val < 64; omega
      refine View.read_writes_cons_unit_of_mem v f i0 w0 _ _ (ix2 (⟨n.val - r0, by omega⟩ : Fin rows) d) e0 fun a => ?_
      match a with
      | 0 => show n.val = r0 + (n.val - r0); omega
      | 1 => show 64 * 0 + d.val = 0 + d.val; omega
    | 1 =>
      refine View.read_writes_cons_unit_of_mem v f i1 w1 _ _ (ix2 (⟨n.val - r0, by omega⟩ : Fin rows) d) e1 fun a => ?_
      match a with
      | 0 => show n.val = r0 + (n.val - r0); omega
      | 1 => show 64 * 1 + d.val = 64 + d.val; omega
  · rw [dif_neg hn]
    have hn' : n.val < r0 ∨ r0 + rows ≤ n.val := by omega
    refine (View.read_writes_cons_unit_of_not_mem v f i1 w1 _ _ e1 0 hn').trans ?_
    exact View.read_writes_cons_unit_of_not_mem v f i0 w0 [] _ e0 0 hn'

/-- A band of a gradient buffer, at an index. -/
theorem bandOld (v : View sig .tc .vmem S2048x128 .f32) (f : v.ty.Contents (Elt Ideal)) {r0 l0 : ℕ} {off : Fin 2 → ℕ} (inb : ∀ a, off a + S768x64.size a ≤ S2048x128.size a)
    (ho : off = ![r0, l0]) (b : Fin 768) (d : Fin 64) (n : Fin 2048) (x : Fin 128) (hn : n.val = r0 + b.val) (hx : x.val = l0 + d.val) :
    @Eq EReal (v.readAt (Elt Ideal) (Rect.unit (s := S2048x128) off S768x64.size inb).toLoadRect f (ix2 b d)) (v.read (Elt Ideal) f (ix2 n x)) := by
  subst ho
  refine congrArg (v.read (Elt Ideal) f) (funext fun a => Fin.ext ?_)
  match a with
  | 0 => show r0 + 1 * b.val = n.val; omega
  | 1 => show l0 + 1 * d.val = x.val; omega

section
variable (c : Dev nD) (i : grid0.Coords)
  (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2x17x64x128 .f32) (harg4 : arg4.IsWhole)
  (arg5 : Memref sig .tc .vmem S2048x128 .f32) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S2048x128 .bf16) (harg8 : arg8.IsWhole)
  (arg9 : Memref sig .tc .vmem S3x128x2048 .bf16) (harg9 : arg9.IsWhole)
  (arg10 : Memref sig .tc .vmem S2x17x64x128 .f32) (harg10 : arg10.IsWhole)
  (arg11 : Memref sig .tc .vmem S2048x128 .f32) (harg11 : arg11.IsWhole)
  (arg12 : Memref sig .tc .vmem S2048x128 .f32) (harg12 : arg12.IsWhole)
  (arg13 : Memref sig .tc .vmem S2048x128 .f32) (harg13 : arg13.IsWhole)
  (arg14 : Memref sig .tc .vmem S2048x128 .bf16) (harg14 : arg14.IsWhole)
  (arg15 : Memref sig .tc .vmem S2048x128 .bf16) (harg15 : arg15.IsWhole)
  (arg16 : Memref sig .tc .vmem S2048x128 .bf16) (harg16 : arg16.IsWhole)
  (arg17 : Memref sig .tc .vmem S2048x128 .bf16) (harg17 : arg17.IsWhole)
  (arg18 : Memref sig .tc .vmem S16x128x128 .bf16) (harg18 : arg18.IsWhole)
  (arg19 : Memref sig .tc .vmem S16x128x128 .bf16) (harg19 : arg19.IsWhole)
  (v208 : FVec Ideal S128x128 .bf16)
  (f4 : Buf (Elt Ideal) (arg4.view.loc (c : Thread nD τ)))
  (f14 : Buf (Elt Ideal) (arg14.view.loc (c : Thread nD τ)))
  (f15 : Buf (Elt Ideal) (arg15.view.loc (c : Thread nD τ)))
  (f17 : Buf (Elt Ideal) (arg17.view.loc (c : Thread nD τ)))
  (f18 : Buf (Elt Ideal) (arg18.view.loc (c : Thread nD τ)))
  (f19 : Buf (Elt Ideal) (arg19.view.loc (c : Thread nD τ)))

variable {Q K V D : Fin 2 → Fin 2048 → Fin 64 → EReal} {B : Fin 2 → ℕ → ℕ → EReal}
  (H : ∀ h, Held c arg4 arg14 arg15 arg17 arg18 arg19 f4 f14 f15 f17 f18 f19 h (Q h) (K h) (V h) (D h) (B h))
  (hg : ∀ h q, Good (sc (Q h) (K h) (B h) q))

include H hg

/-- A trip writes its queries' gradient, whatever it reads from the gradient buffers. -/
theorem trip11 (t : Fin k0_t1_loop.trips) (f10 : Buf (Elt Ideal) (arg10.view.loc (c : Thread nD τ))) (f12 : Buf (Elt Ideal) (arg12.view.loc (c : Thread nD τ))) (f13 : Buf (Elt Ideal) (arg13.view.loc (c : Thread nD τ)))
    (f11 : Buf (Elt Ideal) (arg11.view.loc (c : Thread nD τ))) (h : Fin 2) (n : Fin 2048) (d : Fin 64) :
    @Eq EReal (arg11.view.read (Elt Ideal) (arg11.view.writes (Elt Ideal) f11 (tripRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v208 t f4 f14 f15 f17 f18 f19 f10 f12 f13).2.1) (ix2 n ⟨64 * h.val + d.val, by omega⟩))
      (if 256 * t.val ≤ n.val ∧ n.val < 256 * t.val + 256 then dQ (Q h) (K h) (V h) (D h) (B h) n d
        else arg11.view.read (Elt Ideal) f11 (ix2 n ⟨64 * h.val + d.val, by omega⟩)) := by
  have ht := trips8 t
  dsimp only [tripRun]
  refine (two_pieces (rows := 256) (r0 := 256 * t.val) (by omega) arg11.view f11 (off6_rows t) (off2_rows t) _ _ _ _ h n d).trans ?_
  by_cases hn : 256 * t.val ≤ n.val ∧ n.val < 256 * t.val + 256
  · rw [dif_pos hn, if_pos hn]
    have en : tq t ⟨n.val - 256 * t.val, by omega⟩ = n := Fin.ext (by rw [tq_val ht]; show 256 * t.val + (n.val - 256 * t.val) = n.val; omega)
    refine Eq.trans ?_ ((tile_dQ ht (hg h) ⟨n.val - 256 * t.val, by omega⟩ d).trans (by rw [en]))
    match h with
    | 0 =>
      refine (pay53_at _ _ _ d).trans (Finset.sum_congr rfl fun b _ => ?_)
      exact congrArg₂ (· * ·) (congrArg (· * c8) (grad0 (H 0) (hg 0) t _ b)) (bandK (H 0) t _ (off4_band t) b d)
    | 1 =>
      refine (pay53_at _ _ _ d).trans (Finset.sum_congr rfl fun b _ => ?_)
      exact congrArg₂ (· * ·) (congrArg (· * c8) (grad1 (H 1) (hg 1) t _ b)) (bandK (H 1) t _ (off8_band t) b d)
  · rw [dif_neg hn, if_neg hn]

/-- A trip adds its queries' share to the keys' gradient. -/
theorem trip12 (t : Fin k0_t1_loop.trips) (f10 : Buf (Elt Ideal) (arg10.view.loc (c : Thread nD τ))) (f12 : Buf (Elt Ideal) (arg12.view.loc (c : Thread nD τ))) (f13 : Buf (Elt Ideal) (arg13.view.loc (c : Thread nD τ)))
    (hold : ∀ (h : Fin 2) (n : Fin 2048) (d : Fin 64), @Eq EReal (arg12.view.read (Elt Ideal) f12 (ix2 n ⟨64 * h.val + d.val, by omega⟩)) (aK (Q h) (K h) (V h) (D h) (B h) t n d))
    (h : Fin 2) (n : Fin 2048) (d : Fin 64) :
    @Eq EReal (arg12.view.read (Elt Ideal) (arg12.view.writes (Elt Ideal) f12 (tripRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v208 t f4 f14 f15 f17 f18 f19 f10 f12 f13).2.2.1) (ix2 n ⟨64 * h.val + d.val, by omega⟩))
      (aK (Q h) (K h) (V h) (D h) (B h) (t.val + 1) n d) := by
  have ht := trips8 t
  have hb : bs t ≤ 20 := min_le_right _ _
  dsimp only [tripRun]
  refine (two_pieces (rows := 768) (r0 := 64 * bs t) (by omega) arg12.view f12 (off8_band t) (off4_band t) _ _ _ _ h n d).trans ?_
  by_cases hn : 64 * bs t ≤ n.val ∧ n.val < 64 * bs t + 768
  · rw [dif_pos hn]
    have en : tk t ⟨n.val - 64 * bs t, by omega⟩ = n := Fin.ext (by rw [tk_val]; show 64 * bs t + (n.val - 64 * bs t) = n.val; omega)
    rw [aK_succ]
    conv_rhs => rw [← en]
    match h with
    | 0 =>
      refine (pay54_at _ _ _ _ d).trans (congrArg₂ (· + ·) ((bandOld arg12.view f12 _ (off4_band t) _ d n ⟨64 * 0 + d.val, by omega⟩ (by show n.val = 64 * bs t + (n.val - 64 * bs t); omega) (by show 64 * 0 + d.val = 0 + d.val; omega)).trans ((hold 0 n d).trans (congrArg (fun m => aK (Q 0) (K 0) (V 0) (D 0) (B 0) t m d) en.symm))) (Finset.sum_congr rfl fun a _ => ?_))
      exact congrArg₂ (· * ·) (congrArg (· * c8) (grad0 (H 0) (hg 0) t a _)) (rowsQ (H 0) t _ (off2_rows t) a d)
    | 1 =>
      refine (pay54_at _ _ _ _ d).trans (congrArg₂ (· + ·) ((bandOld arg12.view f12 _ (off8_band t) _ d n ⟨64 * 1 + d.val, by omega⟩ (by show n.val = 64 * bs t + (n.val - 64 * bs t); omega) (by show 64 * 1 + d.val = 64 + d.val; omega)).trans ((hold 1 n d).trans (congrArg (fun m => aK (Q 1) (K 1) (V 1) (D 1) (B 1) t m d) en.symm))) (Finset.sum_congr rfl fun a _ => ?_))
      exact congrArg₂ (· * ·) (congrArg (· * c8) (grad1 (H 1) (hg 1) t a _)) (rowsQ (H 1) t _ (off6_rows t) a d)
  · rw [dif_neg hn, hold h n d, aK_off (hg h) ht n d hn]

/-- A trip adds its queries' share to the values' gradient. -/
theorem trip13 (t : Fin k0_t1_loop.trips) (f10 : Buf (Elt Ideal) (arg10.view.loc (c : Thread nD τ))) (f12 : Buf (Elt Ideal) (arg12.view.loc (c : Thread nD τ))) (f13 : Buf (Elt Ideal) (arg13.view.loc (c : Thread nD τ)))
    (hold : ∀ (h : Fin 2) (n : Fin 2048) (d : Fin 64), @Eq EReal (arg13.view.read (Elt Ideal) f13 (ix2 n ⟨64 * h.val + d.val, by omega⟩)) (aV (Q h) (K h) (D h) (B h) t n d))
    (h : Fin 2) (n : Fin 2048) (d : Fin 64) :
    @Eq EReal (arg13.view.read (Elt Ideal) (arg13.view.writes (Elt Ideal) f13 (tripRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v208 t f4 f14 f15 f17 f18 f19 f10 f12 f13).2.2.2.1) (ix2 n ⟨64 * h.val + d.val, by omega⟩))
      (aV (Q h) (K h) (D h) (B h) (t.val + 1) n d) := by
  have ht := trips8 t
  have hb : bs t ≤ 20 := min_le_right _ _
  dsimp only [tripRun]
  refine (two_pieces (rows := 768) (r0 := 64 * bs t) (by omega) arg13.view f13 (off8_band t) (off4_band t) _ _ _ _ h n d).trans ?_
  by_cases hn : 64 * bs t ≤ n.val ∧ n.val < 64 * bs t + 768
  · rw [dif_pos hn]
    have en : tk t ⟨n.val - 64 * bs t, by omega⟩ = n := Fin.ext (by rw [tk_val]; show 64 * bs t + (n.val - 64 * bs t) = n.val; omega)
    rw [aV_succ]
    conv_rhs => rw [← en]
    match h with
    | 0 =>
      refine (pay55_at _ _ _ _ d).trans (congrArg₂ (· + ·) ((bandOld arg13.view f13 _ (off4_band t) _ d n ⟨64 * 0 + d.val, by omega⟩ (by show n.val = 64 * bs t + (n.val - 64 * bs t); omega) (by show 64 * 0 + d.val = 0 + d.val; omega)).trans ((hold 0 n d).trans (congrArg (fun m => aV (Q 0) (K 0) (D 0) (B 0) t m d) en.symm))) (Finset.sum_congr rfl fun a _ => ?_))
      exact congrArg₂ (· * ·) (soft0 (H 0) t a _) (rowsY (H 0) t _ (off2_rows t) a d)
    | 1 =>
      refine (pay55_at _ _ _ _ d).trans (congrArg₂ (· + ·) ((bandOld arg13.view f13 _ (off8_band t) _ d n ⟨64 * 1 + d.val, by omega⟩ (by show n.val = 64 * bs t + (n.val - 64 * bs t); omega) (by show 64 * 1 + d.val = 64 + d.val; omega)).trans ((hold 1 n d).trans (congrArg (fun m => aV (Q 1) (K 1) (D 1) (B 1) t m d) en.symm))) (Finset.sum_congr rfl fun a _ => ?_))
      exact congrArg₂ (· * ·) (soft1 (H 1) t a _) (rowsY (H 1) t _ (off6_rows t) a d)
  · rw [dif_neg hn, hold h n d, aV_off (hg h) ht n d hn]

/-- What the buffer holds after `k` trips from zeros. -/
theorem loop12 (G10 : Buf (Elt Ideal) (arg10.view.loc (c : Thread nD τ)))
    (G12 : Buf (Elt Ideal) (arg12.view.loc (c : Thread nD τ)))
    (G13 : Buf (Elt Ideal) (arg13.view.loc (c : Thread nD τ)))
    (h0 : ∀ (n : Fin 2048) (x : Fin 128), @Eq EReal (arg12.view.read (Elt Ideal) G12 (ix2 n x)) (0 : EReal)) :
    ∀ k, k ≤ 8 → ∀ (h : Fin 2) (n : Fin 2048) (d : Fin 64),
      @Eq EReal (arg12.view.read (Elt Ideal) (arg12.view.writes (Elt Ideal) G12 (pbs (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v208 f4 f14 f15 f17 f18 f19 G10 G12 G13 k).2.2.1) (ix2 n ⟨64 * h.val + d.val, by omega⟩)) (aK (Q h) (K h) (V h) (D h) (B h) k n d)
  | 0, _, h, n, d => h0 n _
  | k + 1, hk, h, n, d => by
    have hk' : k < k0_t1_loop.trips := hk
    rw [pbs, dif_pos hk']
    dsimp only
    rw [View.writes_append]
    exact trip12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v208 f4 f14 f15 f17 f18 f19 H hg ⟨k, hk'⟩ _ _ _ (loop12 G10 G12 G13 h0 k (by omega)) h n d

/-- What the buffer holds after `k` trips from zeros. -/
theorem loop13 (G10 : Buf (Elt Ideal) (arg10.view.loc (c : Thread nD τ)))
    (G12 : Buf (Elt Ideal) (arg12.view.loc (c : Thread nD τ)))
    (G13 : Buf (Elt Ideal) (arg13.view.loc (c : Thread nD τ)))
    (h0 : ∀ (n : Fin 2048) (x : Fin 128), @Eq EReal (arg13.view.read (Elt Ideal) G13 (ix2 n x)) (0 : EReal)) :
    ∀ k, k ≤ 8 → ∀ (h : Fin 2) (n : Fin 2048) (d : Fin 64),
      @Eq EReal (arg13.view.read (Elt Ideal) (arg13.view.writes (Elt Ideal) G13 (pbs (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v208 f4 f14 f15 f17 f18 f19 G10 G12 G13 k).2.2.2) (ix2 n ⟨64 * h.val + d.val, by omega⟩)) (aV (Q h) (K h) (D h) (B h) k n d)
  | 0, _, h, n, d => h0 n _
  | k + 1, hk, h, n, d => by
    have hk' : k < k0_t1_loop.trips := hk
    rw [pbs, dif_pos hk']
    dsimp only
    rw [View.writes_append]
    exact trip13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v208 f4 f14 f15 f17 f18 f19 H hg ⟨k, hk'⟩ _ _ _ (loop13 G10 G12 G13 h0 k (by omega)) h n d

/-- What the query gradient's buffer holds after `k` trips, in the rows written so far. -/
theorem loop11 (G10 : Buf (Elt Ideal) (arg10.view.loc (c : Thread nD τ)))
    (G12 : Buf (Elt Ideal) (arg12.view.loc (c : Thread nD τ)))
    (G13 : Buf (Elt Ideal) (arg13.view.loc (c : Thread nD τ)))
    (G11 : Buf (Elt Ideal) (arg11.view.loc (c : Thread nD τ))) :
    ∀ k, k ≤ 8 → ∀ (h : Fin 2) (n : Fin 2048) (d : Fin 64), n.val < 256 * k →
      @Eq EReal (arg11.view.read (Elt Ideal) (arg11.view.writes (Elt Ideal) G11 (pbs (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v208 f4 f14 f15 f17 f18 f19 G10 G12 G13 k).2.1) (ix2 n ⟨64 * h.val + d.val, by omega⟩)) (dQ (Q h) (K h) (V h) (D h) (B h) n d)
  | 0, _, h, n, d, hn => by omega
  | k + 1, hk, h, n, d, hn => by
    have hk' : k < k0_t1_loop.trips := hk
    rw [pbs, dif_pos hk']
    dsimp only
    rw [View.writes_append]
    refine (trip11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v208 f4 f14 f15 f17 f18 f19 H hg ⟨k, hk'⟩ _ _ _ _ h n d).trans ?_
    by_cases hr : 256 * k ≤ n.val ∧ n.val < 256 * k + 256
    · exact if_pos hr
    · exact (if_neg hr).trans (loop11 G10 G12 G13 G11 k (by omega) h n d (by omega))

end

end Cert.KernelIdeal.Value
end
-- ==== Proof.AttnBody.lean ====
module

public import proofs.«01_k».proof.Proof.AttnLoop
public import proofs.«01_k».proof.Proof.Body
public import Idealize.ShloMosaic.Lib.VecWindow
public import Idealize.ShloMosaic.Lib.Pipeline.ReadBack

@[expose] public section

set_option maxRecDepth 16384

noncomputable section

/-!
The attention kernel's body: what one grid point leaves in the gradients' blocks, from the blocks it reads.
-/

namespace Cert.KernelIdeal.Value

open Idealize.ShloMosaic Idealize.ShloMosaic.TcCoe Idealize.SL.Sem Cert.KernelIdeal Cert.KernelIdeal.Gen Cert.KernelIdeal.Body Cert.Attn

/-- A block cast to its own shape in the short format holds the same numbers. -/
theorem pay102_eq (v : Vec Ideal S2048x128 .f32) (n : Fin 2048) (x : Fin 128) :
    @Eq EReal (k0_pay102 (F := Ideal) v (ix2 n x)) (v (ix2 n x)) := by
  pointwise [k0_pay102]

/-- A tile stored transposed, at an index. -/
theorem kt_at (v : Vec Ideal S128x128 .f32) (z : Fin 1) (a l : Fin 128) :
    @Eq EReal (k0_pay106 (F := Ideal) v (ix3 z a l)) (v (ix2 l a)) := by
  pointwise [k0_pay106]

/-- The zeros the gradient buffers start from. -/
theorem pay145_at (n : Fin 2048) (x : Fin 128) : @Eq EReal (k0_pay145 (F := Ideal) (ix2 n x)) (0 : EReal) := by
  have e : (Ideal.ofBits .f32 0x00000000#32 : EReal) = 0 := by simp [Ideal.ofBits, Ideal.ieee]
  refine Eq.trans ?_ e
  pointwise [k0_pay145]

/-- A gradient's block, stored in the short format, at an index. -/
theorem pay150_at (v : Vec Ideal S2048x128 .f32) (y : S2048x128.Idx) :
    @Eq EReal (k0_pay150 (F := Ideal) v y) (v y) := by
  pointwise [k0_pay150]

/-- A gradient's block stored transposed, at an index. -/
theorem pay151_at (v : Vec Ideal S2048x128 .f32) (z : Fin 1) (x : Fin 128) (n : Fin 2048) :
    @Eq EReal (k0_pay151 (F := Ideal) v (ix3 z x n)) (v (ix2 n x)) := by
  pointwise [k0_pay151]

/-- Three planes stored one by one: plane 2 read back. -/
theorem three_read2 (v : View sig .tc .vmem S3x128x2048 .bf16) (f : v.ty.Contents (Elt Ideal)) {o2 o1 o0 : Fin 3 → ℕ} (e2 : o2 = ![2, 0, 0]) (e1 : o1 = ![1, 0, 0]) (e0 : o0 = ![0, 0, 0])
    (i2 : ∀ a, o2 a + S1x128x2048.size a ≤ S3x128x2048.size a) (i1 : ∀ a, o1 a + S1x128x2048.size a ≤ S3x128x2048.size a) (i0 : ∀ a, o0 a + S1x128x2048.size a ≤ S3x128x2048.size a)
    (w2 w1 w0 : S1x128x2048.Idx → EReal) (x : Fin 128) (n : Fin 2048) :
    @Eq EReal (v.read (Elt Ideal) (v.writes (Elt Ideal) f
      [⟨Rect.unit (s := S3x128x2048) o2 S1x128x2048.size i2, w2⟩, ⟨Rect.unit (s := S3x128x2048) o1 S1x128x2048.size i1, w1⟩,
       ⟨Rect.unit (s := S3x128x2048) o0 S1x128x2048.size i0, w0⟩]) (ix3 (2 : Fin 3) x n))
      (w2 (ix3 (0 : Fin 1) x n)) := by
  refine View.read_writes_cons_unit_of_mem v f i2 w2 _ _ (ix3 (0 : Fin 1) x n) e2 fun a => ?_
  match a with
  | 0 => rfl
  | 1 => show x.val = 0 + x.val; omega
  | 2 => show n.val = 0 + n.val; omega

/-- Three planes stored one by one: plane 1 read back. -/
theorem three_read1 (v : View sig .tc .vmem S3x128x2048 .bf16) (f : v.ty.Contents (Elt Ideal)) {o2 o1 o0 : Fin 3 → ℕ} (e2 : o2 = ![2, 0, 0]) (e1 : o1 = ![1, 0, 0]) (e0 : o0 = ![0, 0, 0])
    (i2 : ∀ a, o2 a + S1x128x2048.size a ≤ S3x128x2048.size a) (i1 : ∀ a, o1 a + S1x128x2048.size a ≤ S3x128x2048.size a) (i0 : ∀ a, o0 a + S1x128x2048.size a ≤ S3x128x2048.size a)
    (w2 w1 w0 : S1x128x2048.Idx → EReal) (x : Fin 128) (n : Fin 2048) :
    @Eq EReal (v.read (Elt Ideal) (v.writes (Elt Ideal) f
      [⟨Rect.unit (s := S3x128x2048) o2 S1x128x2048.size i2, w2⟩, ⟨Rect.unit (s := S3x128x2048) o1 S1x128x2048.size i1, w1⟩,
       ⟨Rect.unit (s := S3x128x2048) o0 S1x128x2048.size i0, w0⟩]) (ix3 (1 : Fin 3) x n))
      (w1 (ix3 (0 : Fin 1) x n)) := by
  refine (View.read_writes_cons_unit_of_not_mem v f i2 w2 _ _ e2 0 (.inl ?_)).trans ?_
  · show 1 < 2; omega
  refine View.read_writes_cons_unit_of_mem v f i1 w1 _ _ (ix3 (0 : Fin 1) x n) e1 fun a => ?_
  match a with
  | 0 => rfl
  | 1 => show x.val = 0 + x.val; omega
  | 2 => show n.val = 0 + n.val; omega

/-- Three planes stored one by one: plane 0 read back. -/
theorem three_read0 (v : View sig .tc .vmem S3x128x2048 .bf16) (f : v.ty.Contents (Elt Ideal)) {o2 o1 o0 : Fin 3 → ℕ} (e2 : o2 = ![2, 0, 0]) (e1 : o1 = ![1, 0, 0]) (e0 : o0 = ![0, 0, 0])
    (i2 : ∀ a, o2 a + S1x128x2048.size a ≤ S3x128x2048.size a) (i1 : ∀ a, o1 a + S1x128x2048.size a ≤ S3x128x2048.size a) (i0 : ∀ a, o0 a + S1x128x2048.size a ≤ S3x128x2048.size a)
    (w2 w1 w0 : S1x128x2048.Idx → EReal) (x : Fin 128) (n : Fin 2048) :
    @Eq EReal (v.read (Elt Ideal) (v.writes (Elt Ideal) f
      [⟨Rect.unit (s := S3x128x2048) o2 S1x128x2048.size i2, w2⟩, ⟨Rect.unit (s := S3x128x2048) o1 S1x128x2048.size i1, w1⟩,
       ⟨Rect.unit (s := S3x128x2048) o0 S1x128x2048.size i0, w0⟩]) (ix3 (0 : Fin 3) x n))
      (w0 (ix3 (0 : Fin 1) x n)) := by
  refine (View.read_writes_cons_unit_of_not_mem v f i2 w2 _ _ e2 0 (.inl ?_)).trans ?_
  · show 0 < 2; omega
  refine (View.read_writes_cons_unit_of_not_mem v f i1 w1 _ _ e1 0 (.inl ?_)).trans ?_
  · show 0 < 1; omega
  refine View.read_writes_cons_unit_of_mem v f i0 w0 _ _ (ix3 (0 : Fin 1) x n) e0 fun a => ?_
  match a with
  | 0 => rfl
  | 1 => show x.val = 0 + x.val; omega
  | 2 => show n.val = 0 + n.val; omega

/-- The block `X`, in sixteen groups of 128 rows, each transposed. -/
def trans16 (X : Vec Ideal S2048x128 .f32) : S16x128x128.Idx → EReal :=
  fun y => X (ix2 ⟨128 * (y 0).val + (y 2).val, by have h0 : (y 0).val < 16 := (y 0).isLt; have h2 : (y 2).val < 128 := (y 2).isLt; omega⟩ (y 1))

/-- A transposed tile of the rows from `128 p` is group `p` of the sixteen. -/
theorem tpiece (arg : Memref sig .tc .vmem S2048x128 .f32) (harg : arg.IsWhole) (X : Vec Ideal S2048x128 .f32) (p : ℕ) (hp : p < 16)
    {ob : Fin 2 → ℕ} {op : Fin 3 → ℕ} (eb : ob = ![128 * p, 0]) (ep : op = ![p, 0, 0])
    (ib : ∀ a, ob a + S128x128.size a ≤ S2048x128.size a) (ip : ∀ a, op a + S1x128x128.size a ≤ S16x128x128.size a)
    (w : S1x128x128.Idx → EReal)
    (hw : ∀ z a l, w (ix3 z a l) = arg.view.readAt (Elt Ideal) (Rect.unit (s := S2048x128) ob S128x128.size ib).toLoadRect (harg.unread X) (ix2 l a))
    (x : S1x128x128.Idx) : w x = trans16 X ((Rect.unit (s := S16x128x128) op S1x128x128.size ip).emb x) := by
  subst eb; subst ep
  refine (congrArg w (ValueIdx.eq_ix3 x)).trans ((hw _ _ _).trans ?_)
  refine (congrFun (harg.read_unread X) _).trans (congrArg X (funext fun a => Fin.ext ?_))
  have h0 : (x 0).val < 1 := (x 0).isLt
  match a with
  | 0 => show 128 * p + 1 * (x 2).val = 128 * (p + 1 * (x 0).val) + (0 + 1 * (x 2).val); omega
  | 1 => show 0 + 1 * (x 1).val = 0 + 1 * (x 1).val; rfl

section
variable (c : Dev nD) (i : grid0.Coords)
  (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2x17x64x128 .f32) (harg4 : arg4.IsWhole)
  (arg5 : Memref sig .tc .vmem S2048x128 .f32) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S2048x128 .bf16) (harg8 : arg8.IsWhole)
  (arg9 : Memref sig .tc .vmem S3x128x2048 .bf16) (harg9 : arg9.IsWhole)
  (arg10 : Memref sig .tc .vmem S2x17x64x128 .f32) (harg10 : arg10.IsWhole)
  (arg11 : Memref sig .tc .vmem S2048x128 .f32) (harg11 : arg11.IsWhole)
  (arg12 : Memref sig .tc .vmem S2048x128 .f32) (harg12 : arg12.IsWhole)
  (arg13 : Memref sig .tc .vmem S2048x128 .f32) (harg13 : arg13.IsWhole)
  (arg14 : Memref sig .tc .vmem S2048x128 .bf16) (harg14 : arg14.IsWhole)
  (arg15 : Memref sig .tc .vmem S2048x128 .bf16) (harg15 : arg15.IsWhole)
  (arg16 : Memref sig .tc .vmem S2048x128 .bf16) (harg16 : arg16.IsWhole)
  (arg17 : Memref sig .tc .vmem S2048x128 .bf16) (harg17 : arg17.IsWhole)
  (arg18 : Memref sig .tc .vmem S16x128x128 .bf16) (harg18 : arg18.IsWhole)
  (arg19 : Memref sig .tc .vmem S16x128x128 .bf16) (harg19 : arg19.IsWhole)
  (x0 : Vec Ideal S2048x128 .f32) (x1 : Vec Ideal S2048x128 .f32) (x2 : Vec Ideal S2048x128 .f32) (x3 : Vec Ideal S2x17x64x128 .f32) (x4 : Vec Ideal S2048x128 .f32)

/-- The sixteen transposed tiles stored from `arg2` hold it transposed. -/
theorem kt_pieces : View.PiecesOf (Val := Elt Ideal) (e := .bf16) (s := S16x128x128) (trans16 x1) (bodyRun.sl.HS7_16 c arg2 harg2 x1) :=
    ⟨tpiece arg2 harg2 x1 15 (by omega) rfl rfl inb_S2048x128_S128x128_1920_0 inb_S16x128x128_S1x128x128_15_0_0 _ (fun z a l => kt_at _ z a l),
      tpiece arg2 harg2 x1 14 (by omega) rfl rfl inb_S2048x128_S128x128_1792_0 inb_S16x128x128_S1x128x128_14_0_0 _ (fun z a l => kt_at _ z a l),
      tpiece arg2 harg2 x1 13 (by omega) rfl rfl inb_S2048x128_S128x128_1664_0 inb_S16x128x128_S1x128x128_13_0_0 _ (fun z a l => kt_at _ z a l),
      tpiece arg2 harg2 x1 12 (by omega) rfl rfl inb_S2048x128_S128x128_1536_0 inb_S16x128x128_S1x128x128_12_0_0 _ (fun z a l => kt_at _ z a l),
      tpiece arg2 harg2 x1 11 (by omega) rfl rfl inb_S2048x128_S128x128_1408_0 inb_S16x128x128_S1x128x128_11_0_0 _ (fun z a l => kt_at _ z a l),
      tpiece arg2 harg2 x1 10 (by omega) rfl rfl inb_S2048x128_S128x128_1280_0 inb_S16x128x128_S1x128x128_10_0_0 _ (fun z a l => kt_at _ z a l),
      tpiece arg2 harg2 x1 9 (by omega) rfl rfl inb_S2048x128_S128x128_1152_0 inb_S16x128x128_S1x128x128_9_0_0 _ (fun z a l => kt_at _ z a l),
      tpiece arg2 harg2 x1 8 (by omega) rfl rfl inb_S2048x128_S128x128_1024_0 inb_S16x128x128_S1x128x128_8_0_0 _ (fun z a l => kt_at _ z a l),
      tpiece arg2 harg2 x1 7 (by omega) rfl rfl inb_S2048x128_S128x128_896_0 inb_S16x128x128_S1x128x128_7_0_0 _ (fun z a l => kt_at _ z a l),
      tpiece arg2 harg2 x1 6 (by omega) rfl rfl inb_S2048x128_S128x128_768_0 inb_S16x128x128_S1x128x128_6_0_0 _ (fun z a l => kt_at _ z a l),
      tpiece arg2 harg2 x1 5 (by omega) rfl rfl inb_S2048x128_S128x128_640_0 inb_S16x128x128_S1x128x128_5_0_0 _ (fun z a l => kt_at _ z a l),
      tpiece arg2 harg2 x1 4 (by omega) rfl rfl inb_S2048x128_S128x128_512_0 inb_S16x128x128_S1x128x128_4_0_0 _ (fun z a l => kt_at _ z a l),
      tpiece arg2 harg2 x1 3 (by omega) rfl rfl inb_S2048x128_S128x128_384_0 inb_S16x128x128_S1x128x128_3_0_0 _ (fun z a l => kt_at _ z a l),
      tpiece arg2 harg2 x1 2 (by omega) rfl rfl inb_S2048x128_S128x128_256_0 inb_S16x128x128_S1x128x128_2_0_0 _ (fun z a l => kt_at _ z a l),
      tpiece arg2 harg2 x1 1 (by omega) rfl rfl inb_S2048x128_S128x128_128_0 inb_S16x128x128_S1x128x128_1_0_0 _ (fun z a l => kt_at _ z a l),
      tpiece arg2 harg2 x1 0 (by omega) rfl rfl inb_S2048x128_S128x128_0_0 inb_S16x128x128_S1x128x128_0_0_0 _ (fun z a l => kt_at _ z a l), trivial⟩

/-- The sixteen transposed tiles stored from `arg3` hold it transposed. -/
theorem vt_pieces : View.PiecesOf (Val := Elt Ideal) (e := .bf16) (s := S16x128x128) (trans16 x2) (bodyRun.sl.HS8_16 c arg3 harg3 x2) :=
    ⟨tpiece arg3 harg3 x2 15 (by omega) rfl rfl inb_S2048x128_S128x128_1920_0 inb_S16x128x128_S1x128x128_15_0_0 _ (fun z a l => kt_at _ z a l),
      tpiece arg3 harg3 x2 14 (by omega) rfl rfl inb_S2048x128_S128x128_1792_0 inb_S16x128x128_S1x128x128_14_0_0 _ (fun z a l => kt_at _ z a l),
      tpiece arg3 harg3 x2 13 (by omega) rfl rfl inb_S2048x128_S128x128_1664_0 inb_S16x128x128_S1x128x128_13_0_0 _ (fun z a l => kt_at _ z a l),
      tpiece arg3 harg3 x2 12 (by omega) rfl rfl inb_S2048x128_S128x128_1536_0 inb_S16x128x128_S1x128x128_12_0_0 _ (fun z a l => kt_at _ z a l),
      tpiece arg3 harg3 x2 11 (by omega) rfl rfl inb_S2048x128_S128x128_1408_0 inb_S16x128x128_S1x128x128_11_0_0 _ (fun z a l => kt_at _ z a l),
      tpiece arg3 harg3 x2 10 (by omega) rfl rfl inb_S2048x128_S128x128_1280_0 inb_S16x128x128_S1x128x128_10_0_0 _ (fun z a l => kt_at _ z a l),
      tpiece arg3 harg3 x2 9 (by omega) rfl rfl inb_S2048x128_S128x128_1152_0 inb_S16x128x128_S1x128x128_9_0_0 _ (fun z a l => kt_at _ z a l),
      tpiece arg3 harg3 x2 8 (by omega) rfl rfl inb_S2048x128_S128x128_1024_0 inb_S16x128x128_S1x128x128_8_0_0 _ (fun z a l => kt_at _ z a l),
      tpiece arg3 harg3 x2 7 (by omega) rfl rfl inb_S2048x128_S128x128_896_0 inb_S16x128x128_S1x128x128_7_0_0 _ (fun z a l => kt_at _ z a l),
      tpiece arg3 harg3 x2 6 (by omega) rfl rfl inb_S2048x128_S128x128_768_0 inb_S16x128x128_S1x128x128_6_0_0 _ (fun z a l => kt_at _ z a l),
      tpiece arg3 harg3 x2 5 (by omega) rfl rfl inb_S2048x128_S128x128_640_0 inb_S16x128x128_S1x128x128_5_0_0 _ (fun z a l => kt_at _ z a l),
      tpiece arg3 harg3 x2 4 (by omega) rfl rfl inb_S2048x128_S128x128_512_0 inb_S16x128x128_S1x128x128_4_0_0 _ (fun z a l => kt_at _ z a l),
      tpiece arg3 harg3 x2 3 (by omega) rfl rfl inb_S2048x128_S128x128_384_0 inb_S16x128x128_S1x128x128_3_0_0 _ (fun z a l => kt_at _ z a l),
      tpiece arg3 harg3 x2 2 (by omega) rfl rfl inb_S2048x128_S128x128_256_0 inb_S16x128x128_S1x128x128_2_0_0 _ (fun z a l => kt_at _ z a l),
      tpiece arg3 harg3 x2 1 (by omega) rfl rfl inb_S2048x128_S128x128_128_0 inb_S16x128x128_S1x128x128_1_0_0 _ (fun z a l => kt_at _ z a l),
      tpiece arg3 harg3 x2 0 (by omega) rfl rfl inb_S2048x128_S128x128_0_0 inb_S16x128x128_S1x128x128_0_0_0 _ (fun z a l => kt_at _ z a l), trivial⟩

/-- A list of stores whose last one fills the whole block leaves its payload. -/
theorem whole_read (arg arg' : Memref sig .tc .vmem S2048x128 .f32) (harg : arg'.IsWhole) (arg2 : Memref sig .tc .vmem S2048x128 .bf16)
    (X : Vec Ideal S2048x128 .f32) (ib ib') (n : Fin 2048) (x : Fin 128) :
    @Eq EReal (arg2.view.read (Elt Ideal) (arg2.view.writes (Elt Ideal) arg2.view.junk
      [⟨Rect.unit (s := S2048x128) ![0, 0] S2048x128.size ib, k0_pay102 (F := Ideal) (View.readAt (Elt Ideal) arg'.view (Rect.unit (s := S2048x128) ![0, 0] S2048x128.size ib').toLoadRect (harg.unread X))⟩]) (ix2 n x)) (X (ix2 n x)) := by
  rw [View.read_writes_full, View.readAt_full, harg.read_unread]
  exact pay102_eq X n x

/-- A buffer filled with zeros reads as zeros. -/
theorem zeros_read (arg : Memref sig .tc .vmem S2048x128 .f32) (ib) (n : Fin 2048) (x : Fin 128) :
    @Eq EReal (arg.view.read (Elt Ideal) (arg.view.writes (Elt Ideal) arg.view.junk [⟨Rect.unit (s := S2048x128) ![0, 0] S2048x128.size ib, k0_pay145 (F := Ideal)⟩]) (ix2 n x)) (0 : EReal) := by
  rw [View.read_writes_full]
  exact pay145_at n x

/-- Every column of the two heads is one of the block's lanes. -/
theorem lane_lt (h : Fin 2) (d : Fin 64) : 64 * h.val + d.val < 128 := by omega

variable {Q K V D : Fin 2 → Fin 2048 → Fin 64 → EReal} {B : Fin 2 → ℕ → ℕ → EReal}
  (hQ : ∀ (h : Fin 2) (n : Fin 2048) (d : Fin 64), @Eq EReal (x0 (ix2 n ⟨64 * h.val + d.val, lane_lt h d⟩)) (Q h n d))
  (hK : ∀ (h : Fin 2) (n : Fin 2048) (d : Fin 64), @Eq EReal (x1 (ix2 n ⟨64 * h.val + d.val, lane_lt h d⟩)) (K h n d))
  (hV : ∀ (h : Fin 2) (n : Fin 2048) (d : Fin 64), @Eq EReal (x2 (ix2 n ⟨64 * h.val + d.val, lane_lt h d⟩)) (V h n d))
  (hD : ∀ (h : Fin 2) (n : Fin 2048) (d : Fin 64), @Eq EReal (x4 (ix2 n ⟨64 * h.val + d.val, lane_lt h d⟩)) (D h n d))
  (hT : ∀ (h : Fin 2) (t : Fin 8) (g : Fin 6) (j : Fin 4) (d : Fin 64) (l : Fin 128),
    @Eq EReal (x3 (ix4 h ⟨entC t g j, entC_lt t g j⟩ d l)) (mB (B h) (256 * t.val + (64 * j.val + d.val)) (64 * bs t + (128 * g.val + l.val))))
  (hg : ∀ h q, Good (sc (Q h) (K h) (B h) q))

include hQ hK hV hD hT

/-- The buffers the trips read hold the point's queries, keys, values, cotangent and bias. -/
theorem held_body (h : Fin 2) : Held c arg4 arg14 arg15 arg17 arg18 arg19 (harg4.unread x3) (arg14.view.writes (Elt Ideal) arg14.view.junk (bodyRun.sl.HS3_1 c arg1 harg1 x0)) (arg15.view.writes (Elt Ideal) arg15.view.junk (bodyRun.sl.HS4_1 c arg2 harg2 x1)) (arg17.view.writes (Elt Ideal) arg17.view.junk (bodyRun.sl.HS6_1 c arg5 harg5 x4)) (arg18.view.writes (Elt Ideal) arg18.view.junk (bodyRun.sl.HS7_16 c arg2 harg2 x1)) (arg19.view.writes (Elt Ideal) arg19.view.junk (bodyRun.sl.HS8_16 c arg3 harg3 x2)) h (Q h) (K h) (V h) (D h) (B h) where
  q n d := (whole_read arg1 arg1 harg1 arg14 x0 _ _ n _).trans (hQ h n d)
  k n d := (whole_read arg2 arg2 harg2 arg15 x1 _ _ n _).trans (hK h n d)
  y n d := (whole_read arg5 arg5 harg5 arg17 x4 _ _ n _).trans (hD h n d)
  kt p d l := by
    rw [View.read_writes_junk_eq_canon]
    refine (View.canon_append_of_piecesOf (Val := Elt Ideal) (e := .bf16) (s := S16x128x128) (trans16 x1) [] _ (kt_pieces c arg2 harg2 x1) _ (View.cover_of_tiledL (s := S16x128x128) (bodyRun.sl.HS7_16 c arg2 harg2 x1) S1x128x128.size (by sl_kernel_rfl) _)).trans ?_
    refine Eq.trans ?_ (hK h (pos (128 * p.val + l.val)) d)
    exact congrArg (fun n => x1 (ix2 n _)) (Fin.ext (pos_val (by omega)).symm)
  vt p d l := by
    rw [View.read_writes_junk_eq_canon]
    refine (View.canon_append_of_piecesOf (Val := Elt Ideal) (e := .bf16) (s := S16x128x128) (trans16 x2) [] _ (vt_pieces c arg3 harg3 x2) _ (View.cover_of_tiledL (s := S16x128x128) (bodyRun.sl.HS8_16 c arg3 harg3 x2) S1x128x128.size (by sl_kernel_rfl) _)).trans ?_
    refine Eq.trans ?_ (hV h (pos (128 * p.val + l.val)) d)
    exact congrArg (fun n => x2 (ix2 n _)) (Fin.ext (pos_val (by omega)).symm)
  tab t g j d l := (congrFun (harg4.read_unread x3) _).trans (hT h t g j d l)

include hg

/-- The loop leaves the query gradient in its buffer. -/
theorem v223_at (h : Fin 2) (n : Fin 2048) (d : Fin 64) :
    @Eq EReal (bodyRun.sl.v223 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 (ix2 n ⟨64 * h.val + d.val, lane_lt h d⟩)) (dQ (Q h) (K h) (V h) (D h) (B h) n d) := by
  unfold bodyRun.sl.v223 View.readCov
  rw [View.readAt_full]
  exact loop11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ (harg4.unread x3) (arg14.view.writes (Elt Ideal) arg14.view.junk (bodyRun.sl.HS3_1 c arg1 harg1 x0)) (arg15.view.writes (Elt Ideal) arg15.view.junk (bodyRun.sl.HS4_1 c arg2 harg2 x1)) (arg17.view.writes (Elt Ideal) arg17.view.junk (bodyRun.sl.HS6_1 c arg5 harg5 x4)) (arg18.view.writes (Elt Ideal) arg18.view.junk (bodyRun.sl.HS7_16 c arg2 harg2 x1)) (arg19.view.writes (Elt Ideal) arg19.view.junk (bodyRun.sl.HS8_16 c arg3 harg3 x2)) (held_body c arg1 harg1 arg2 harg2 arg3 harg3 arg4 harg4 arg5 harg5 arg14 arg15 arg17 arg18 arg19 x0 x1 x2 x3 x4 hQ hK hV hD hT) hg (arg10.view.writes (Elt Ideal) arg10.view.junk bodyRun.sl.H9_1) (arg12.view.writes (Elt Ideal) arg12.view.junk bodyRun.sl.HS1_1) (arg13.view.writes (Elt Ideal) arg13.view.junk bodyRun.sl.HS2_1) _ 8 le_rfl h n d (by omega)

/-- The loop leaves the key gradient in its buffer. -/
theorem v231_at (h : Fin 2) (n : Fin 2048) (d : Fin 64) :
    @Eq EReal (bodyRun.sl.v231 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 (ix2 n ⟨64 * h.val + d.val, lane_lt h d⟩)) (dK (Q h) (K h) (V h) (D h) (B h) n d) := by
  unfold bodyRun.sl.v231 View.readCov
  rw [View.readAt_full, View.writes_append]
  exact (loop12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ (harg4.unread x3) (arg14.view.writes (Elt Ideal) arg14.view.junk (bodyRun.sl.HS3_1 c arg1 harg1 x0)) (arg15.view.writes (Elt Ideal) arg15.view.junk (bodyRun.sl.HS4_1 c arg2 harg2 x1)) (arg17.view.writes (Elt Ideal) arg17.view.junk (bodyRun.sl.HS6_1 c arg5 harg5 x4)) (arg18.view.writes (Elt Ideal) arg18.view.junk (bodyRun.sl.HS7_16 c arg2 harg2 x1)) (arg19.view.writes (Elt Ideal) arg19.view.junk (bodyRun.sl.HS8_16 c arg3 harg3 x2)) (held_body c arg1 harg1 arg2 harg2 arg3 harg3 arg4 harg4 arg5 harg5 arg14 arg15 arg17 arg18 arg19 x0 x1 x2 x3 x4 hQ hK hV hD hT) hg (arg10.view.writes (Elt Ideal) arg10.view.junk bodyRun.sl.H9_1) (arg12.view.writes (Elt Ideal) arg12.view.junk bodyRun.sl.HS1_1) (arg13.view.writes (Elt Ideal) arg13.view.junk bodyRun.sl.HS2_1) (zeros_read arg12 _) 8 le_rfl h n d).trans (aK_all n d)

/-- The loop leaves the value gradient in its buffer. -/
theorem v239_at (h : Fin 2) (n : Fin 2048) (d : Fin 64) :
    @Eq EReal (bodyRun.sl.v239 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 (ix2 n ⟨64 * h.val + d.val, lane_lt h d⟩)) (dV (Q h) (K h) (D h) (B h) n d) := by
  unfold bodyRun.sl.v239 View.readCov
  refine (congrFun (View.readAt_full arg13.view _ _) _).trans ?_
  rw [View.writes_append]
  exact (loop13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ (harg4.unread x3) (arg14.view.writes (Elt Ideal) arg14.view.junk (bodyRun.sl.HS3_1 c arg1 harg1 x0)) (arg15.view.writes (Elt Ideal) arg15.view.junk (bodyRun.sl.HS4_1 c arg2 harg2 x1)) (arg17.view.writes (Elt Ideal) arg17.view.junk (bodyRun.sl.HS6_1 c arg5 harg5 x4)) (arg18.view.writes (Elt Ideal) arg18.view.junk (bodyRun.sl.HS7_16 c arg2 harg2 x1)) (arg19.view.writes (Elt Ideal) arg19.view.junk (bodyRun.sl.HS8_16 c arg3 harg3 x2)) (held_body c arg1 harg1 arg2 harg2 arg3 harg3 arg4 harg4 arg5 harg5 arg14 arg15 arg17 arg18 arg19 x0 x1 x2 x3 x4 hQ hK hV hD hT) hg (arg10.view.writes (Elt Ideal) arg10.view.junk bodyRun.sl.H9_1) (arg12.view.writes (Elt Ideal) arg12.view.junk bodyRun.sl.HS1_1) (arg13.view.writes (Elt Ideal) arg13.view.junk bodyRun.sl.HS2_1) (zeros_read arg13 _) 8 le_rfl h n d).trans (aV_all n d)

/-- What the point leaves in the query gradient's block. -/
theorem outW5_at (h : Fin 2) (n : Fin 2048) (d : Fin 64) :
    @Eq EReal (outW5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 (ix2 n ⟨64 * h.val + d.val, lane_lt h d⟩)) (dQ (Q h) (K h) (V h) (D h) (B h) n d) := by
  refine Eq.trans ?_ (v223_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 hQ hK hV hD hT hg h n d)
  unfold outW5
  dsimp only [bodyRun]
  refine (congrFun (View.read_writes_full VO5 _ _ _ _) _).trans ?_
  exact pay150_at _ _

/-- What the point leaves in the key gradient's block. -/
theorem outW6_at (h : Fin 2) (n : Fin 2048) (d : Fin 64) :
    @Eq EReal (outW6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 (ix2 n ⟨64 * h.val + d.val, lane_lt h d⟩)) (dK (Q h) (K h) (V h) (D h) (B h) n d) := by
  refine Eq.trans ?_ (v231_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 hQ hK hV hD hT hg h n d)
  unfold outW6
  dsimp only [bodyRun]
  refine (congrFun (View.read_writes_full VO6 _ _ _ _) _).trans ?_
  exact pay150_at _ _

/-- What the point leaves in the value gradient's block. -/
theorem outW7_at (h : Fin 2) (n : Fin 2048) (d : Fin 64) :
    @Eq EReal (outW7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 (ix2 n ⟨64 * h.val + d.val, lane_lt h d⟩)) (dV (Q h) (K h) (D h) (B h) n d) := by
  refine Eq.trans ?_ (v239_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 hQ hK hV hD hT hg h n d)
  unfold outW7
  dsimp only [bodyRun]
  refine (congrFun (View.read_writes_full VO7 _ _ _ _) _).trans ?_
  exact pay150_at _ _

/-- What the point leaves in the transposed gradients' block: the query, key and value gradients, transposed. -/
theorem outW8_at (h : Fin 2) (z : Fin 3) (d : Fin 64) (n : Fin 2048) :
    @Eq EReal (outW8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 (ix3 z ⟨64 * h.val + d.val, lane_lt h d⟩ n))
      (if z.val = 0 then dQ (Q h) (K h) (V h) (D h) (B h) n d else if z.val = 1 then dK (Q h) (K h) (V h) (D h) (B h) n d else dV (Q h) (K h) (D h) (B h) n d) := by
  unfold outW8
  dsimp only [bodyRun]
  have r2 := v239_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 hQ hK hV hD hT hg h n d
  have r1 := v231_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 hQ hK hV hD hT hg h n d
  have r0 := v223_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 hQ hK hV hD hT hg h n d
  match z with
  | 2 =>
    refine (three_read2 VO8 _ rfl rfl rfl _ _ _ _ _ _ _ n).trans ((pay151_at _ _ _ _).trans r2)
  | 1 =>
    refine (three_read1 VO8 _ rfl rfl rfl _ _ _ _ _ _ _ n).trans ((pay151_at _ _ _ _).trans r1)
  | 0 =>
    refine (three_read0 VO8 _ rfl rfl rfl _ _ _ _ _ _ _ n).trans ((pay151_at _ _ _ _).trans r0)

end

end Cert.KernelIdeal.Value
end
-- ==== Proof.AttnRef.lean ====
module

public import proofs.«01_k».proof.Proof.Attn
public import proofs.«01_k».proof.Proof.Gen.ReferenceIdeal.Run

@[expose] public section

set_option maxRecDepth 16384

noncomputable section

/-!
The attention reference's lines, one by one, against the dense attention of `Attn`.
-/

namespace Cert.ReferenceIdeal.Value

open Idealize.ShloMosaic Idealize.ShloMosaic.TcCoe Idealize.SL.Sem Idealize.ShloMosaic.StableHlo
open Cert.ReferenceIdeal Cert.ReferenceIdeal.Gen Cert.Attn

variable (V0 : Valuation τ sig (Elt Ideal))

/-- The projection the launch finds. -/
abbrev aP : (⟨2, ![2048, 5120]⟩ : Shape).Idx → EReal := V0 (Proc.tc.devRef main_arg0)
/-- The bias table the launch finds. -/
abbrev aR : (⟨3, ![16, 15, 31]⟩ : Shape).Idx → EReal := V0 (Proc.tc.devRef main_arg1)
/-- The cotangent the launch finds. -/
abbrev aY : (⟨2, ![2048, 1024]⟩ : Shape).Idx → EReal := V0 (Proc.tc.devRef main_arg2)

/-- A comparison for equality of two small words, as a float: 1 or 0. -/
theorem onehot (a b : ℕ) (ha : a < 2 ^ 32) (hb : b < 2 ^ 32) :
    (FloatOps.uitofp (F := Ideal) FTy.f32 (IntOp.cmpi CmpIPredicate.eq (BitVec.ofNat 32 a) (BitVec.ofNat 32 b)) : EReal)
      = if a = b then (1 : EReal) else 0 := by
  have hi : BitVec.ofNat 32 a = BitVec.ofNat 32 b ↔ a = b := by
    constructor
    · intro h
      have := congrArg BitVec.toNat h
      rwa [BitVec.toNat_ofNat, BitVec.toNat_ofNat, Nat.mod_eq_of_lt ha, Nat.mod_eq_of_lt hb] at this
    · rintro rfl; rfl
  show (((IntOp.cmpi CmpIPredicate.eq (BitVec.ofNat 32 a) (BitVec.ofNat 32 b)).toNat : ℝ) : EReal) = _
  by_cases h : a = b
  · subst h; simp [IntOp.cmpi]
  · simp [IntOp.cmpi, h, mt hi.1 h]

/-- The key column of a window's place, as a word. -/
theorem v18 (c : Fin 64) (w : Fin 16) : @Eq (BitVec 32) (res_main_v18 V0 (ix2 c w)) (BitVec.ofNat 32 (cs c + w)) := by
  pointwise [res_main_v18, res_main_v9]
  revert c w
  exact (by decide +kernel : ∀ (c : Fin 64) (w : Fin 16), IntOp.addi
      (IntOp.minsi 48#32 (IntOp.maxsi 0#32 (IntOp.subi (BitVec.ofNat 32 ↑c) 8#32)))
      (BitVec.ofNat 32 ↑w) = BitVec.ofNat 32 (cs c + w))

/-- The key row of a window's place, as a word. -/
theorem v29 (r : Fin 32) (i : Fin 8) : @Eq (BitVec 32) (res_main_v29 V0 (ix2 r i)) (BitVec.ofNat 32 (rs r + i)) := by
  pointwise [res_main_v29, res_main_v20]
  revert r i
  exact (by decide +kernel : ∀ (c : Fin 32) (w : Fin 8), IntOp.addi
      (IntOp.minsi 24#32 (IntOp.maxsi 0#32 (IntOp.subi (BitVec.ofNat 32 ↑c) 4#32)))
      (BitVec.ofNat 32 ↑w) = BitVec.ofNat 32 (rs c + w))

/-- The key columns' one-hot table. -/
theorem v19 (c : Fin 64) (w : Fin 16) (k : Fin 64) :
    @Eq EReal (res_main_v19 V0 (ix3 c w k)) (if cs c + w = k.val then (1 : EReal) else 0) := by
  pointwise [res_main_v19]
  rw [v18]
  have : cs c ≤ 48 := min_le_right _ _
  exact onehot _ _ (by omega) (by omega)

/-- The key rows' one-hot table. -/
theorem v30 (r : Fin 32) (i : Fin 8) (x : Fin 32) :
    @Eq EReal (res_main_v30 V0 (ix3 r i x)) (if rs r + i = x.val then (1 : EReal) else 0) := by
  pointwise [res_main_v30]
  rw [v29]
  have : rs r ≤ 24 := min_le_right _ _
  exact onehot _ _ (by omega) (by omega)

/-- The scaled queries. -/
theorem v6 (r : Fin 32) (c : Fin 64) (h : Fin 16) (d : Fin 64) :
    @Eq EReal (res_main_v6 V0 (ix4 r c h d)) (qM (aP V0) h (pos (r * 64 + c)) d * c8) := by
  pointwise [res_main_v6, res_main_v0]
  rw [pos_mk]; rfl

/-- The key rows of a query row's band. -/
theorem v63 (r : Fin 32) (i : Fin 8) (c : Fin 64) (h : Fin 16) (d : Fin 64) :
    @Eq EReal (res_main_v63 V0 (ix5 r i c h d)) (kM (aP V0) h (pos ((rs r + i) * 64 + c)) d) := by
  have hb : rs r ≤ 24 := min_le_right _ _
  pointwise [res_main_v63, res_main_v0]
  simp only [v30]
  refine (pick (by omega) _).trans ?_
  rw [pos_mk]; rfl

/-- The value rows of a query row's band. -/
theorem v64 (r : Fin 32) (i : Fin 8) (c : Fin 64) (h : Fin 16) (d : Fin 64) :
    @Eq EReal (res_main_v64 V0 (ix5 r i c h d)) (vM (aP V0) h (pos ((rs r + i) * 64 + c)) d) := by
  have hb : rs r ≤ 24 := min_le_right _ _
  pointwise [res_main_v64, res_main_v0]
  simp only [v30]
  refine (pick (by omega) _).trans ?_
  rw [pos_mk]; rfl

/-- The cotangent, its axes exchanged. -/
theorem v105 (h : Fin 16) (r : Fin 32) (d : Fin 64) (c : Fin 64) :
    @Eq EReal (res_main_v105 V0 (ix4 r h d c)) (yM (aY V0) h (pos (r * 64 + c)) d) := by
  pointwise [res_main_v105]
  rw [pos_mk]; rfl

/-- The gather of the bias at explicit row and column words. -/
theorem gather_bias (x : (⟨3, ![16, 15, 31]⟩ : Shape).Idx → EReal) (idx : IVec S32x64x8x16x2 32) (h : Fin 16) (r : Fin 32) (c : Fin 64) (i : Fin 8) (w : Fin 16) :
    Host.gather gather_S16x15x31_S32x64x8x16x2_S16x32x64x8x16_0_12_n_n_12_4_1611 x idx (ix5 h r c i w)
      = x (ix3 h ⟨min (idx (ix5 r c i w 0)).toInt.toNat 14, by omega⟩ ⟨min (idx (ix5 r c i w 1)).toInt.toNat 30, by omega⟩) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  match a with
  | 0 =>
    unfold GatherDims.start GatherDims.offCoord
    rw [dif_neg (by decide), dif_pos (by decide), Nat.zero_add]
    have e : ∀ (k : ℕ) (hk : k < gather_S16x15x31_S32x64x8x16x2_S16x32x64x8x16_0_12_n_n_12_4_1611.offsetDims.length),
        gather_S16x15x31_S32x64x8x16x2_S16x32x64x8x16_0_12_n_n_12_4_1611.offsetDims[k] = (0 : Fin 5) :=
      fun k hk => List.mem_singleton.1 (List.getElem_mem hk)
    rw [e]; rfl
  | 1 =>
    rw [GatherDims.offCoord_eq_zero _ _ _ (by decide)]
    unfold GatherDims.start
    rw [dif_pos (by decide)]
    refine congrArg (fun z : S32x64x8x16x2.Idx => min (idx z).toInt.toNat 14) ?_
    funext b; refine Fin.ext ?_
    match b with
    | ⟨0, _⟩ => rfl
    | ⟨1, _⟩ => rfl
    | ⟨2, _⟩ => rfl
    | ⟨3, _⟩ => rfl
    | ⟨4, _⟩ => rfl
  | 2 =>
    rw [GatherDims.offCoord_eq_zero _ _ _ (by decide)]
    unfold GatherDims.start
    rw [dif_pos (by decide)]
    refine congrArg (fun z : S32x64x8x16x2.Idx => min (idx z).toInt.toNat 30) ?_
    funext b; refine Fin.ext ?_
    match b with
    | ⟨0, _⟩ => rfl
    | ⟨1, _⟩ => rfl
    | ⟨2, _⟩ => rfl
    | ⟨3, _⟩ => rfl
    | ⟨4, _⟩ => rfl

/-- The start words of the bias's gather. -/
def biasIdx : IVec S32x64x8x16x2 32 :=
  concatenate S32x64x8x16x2 4
          [⟨S32x64x8x16x1,
              broadcastInDim S32x64x8x16x1 ![0, 1, 2, 3] bcast_S32x64x8x16_S32x64x8x16x1_0_1_2_3
                (broadcastInDim S32x64x8x16 ![0, 1, 2, 3] bcast_S32x1x8x1_S32x64x8x16_0_1_2_3
                  (select
                    (cmpi CmpIPredicate.slt (res_main_v45 V0)
                      (broadcastInDim S32x1x8x1 ![] bcast_S_S32x1x8x1 (constantI S_ 32 0#32)))
                    (addi (res_main_v45 V0) (broadcastInDim S32x1x8x1 ![] bcast_S_S32x1x8x1 (constantI S_ 32 15#32)))
                    (res_main_v45 V0)))⟩,
            ⟨S32x64x8x16x1,
              broadcastInDim S32x64x8x16x1 ![0, 1, 2, 3] bcast_S32x64x8x16_S32x64x8x16x1_0_1_2_3
                (broadcastInDim S32x64x8x16 ![0, 1, 2, 3] bcast_S1x64x1x16_S32x64x8x16_0_1_2_3
                  (select
                    (cmpi CmpIPredicate.slt (res_main_v46 V0)
                      (broadcastInDim S1x64x1x16 ![] bcast_S_S1x64x1x16 (constantI S_ 32 0#32)))
                    (addi (res_main_v46 V0) (broadcastInDim S1x64x1x16 ![] bcast_S_S1x64x1x16 (constantI S_ 32 31#32)))
                    (res_main_v46 V0)))⟩]
          concatenates_S32x64x8x16x1_S32x64x8x16x1_S32x64x8x16x2_d4

theorem biasIdx0 (r : Fin 32) (c : Fin 64) (i : Fin 8) (w : Fin 16) :
    @Eq (BitVec 32) (biasIdx V0 (ix5 r c i w 0)) (BitVec.ofNat 32 (rs r + i + 7 - r)) := by
  pointwise [biasIdx, res_main_v45, res_main_v20]
  simp only [v29]
  exact (by decide +kernel : ∀ (r : Fin 32) (i : Fin 8), Scalar.select
      (IntOp.cmpi CmpIPredicate.slt
        (IntOp.subi (IntOp.addi (IntOp.subi (BitVec.ofNat 32 (rs r.val + i.val)) (BitVec.ofNat 32 r.val)) 8#32) 1#32) 0#32)
      (IntOp.addi (IntOp.subi (IntOp.addi (IntOp.subi (BitVec.ofNat 32 (rs r.val + i.val)) (BitVec.ofNat 32 r.val)) 8#32) 1#32)
        15#32)
      (IntOp.subi (IntOp.addi (IntOp.subi (BitVec.ofNat 32 (rs r.val + i.val)) (BitVec.ofNat 32 r.val)) 8#32) 1#32) =
    BitVec.ofNat 32 (rs r.val + i.val + 7 - r.val)) r i

theorem biasIdx1 (r : Fin 32) (c : Fin 64) (i : Fin 8) (w : Fin 16) :
    @Eq (BitVec 32) (biasIdx V0 (ix5 r c i w 1)) (BitVec.ofNat 32 (cs c + w + 15 - c)) := by
  pointwise [biasIdx, res_main_v46, res_main_v9]
  simp only [v18]
  exact (by decide +kernel : ∀ (c : Fin 64) (w : Fin 16), Scalar.select
      (IntOp.cmpi CmpIPredicate.slt
        (IntOp.subi (IntOp.addi (IntOp.subi (BitVec.ofNat 32 (cs c.val + w.val)) (BitVec.ofNat 32 c.val)) 16#32) 1#32) 0#32)
      (IntOp.addi (IntOp.subi (IntOp.addi (IntOp.subi (BitVec.ofNat 32 (cs c.val + w.val)) (BitVec.ofNat 32 c.val)) 16#32) 1#32)
        31#32)
      (IntOp.subi (IntOp.addi (IntOp.subi (BitVec.ofNat 32 (cs c.val + w.val)) (BitVec.ofNat 32 c.val)) 16#32) 1#32) =
    BitVec.ofNat 32 (cs c.val + w.val + 15 - c.val)) c w

/-- A small word read signed is its number. -/
theorem toInt_small (n : ℕ) (h : n < 2 ^ 31) : (BitVec.ofNat 32 n).toInt.toNat = n := by
  have e : (BitVec.ofNat 32 n).toNat = n := by rw [BitVec.toNat_ofNat]; exact Nat.mod_eq_of_lt (by omega)
  rw [BitVec.toInt_eq_toNat_of_lt (by rw [e]; omega), e]; rfl

/-- The scores of a query at its window. -/
theorem v69 (h : Fin 16) (r : Fin 32) (c : Fin 64) (j : Fin 128) :
    @Eq EReal (res_main_v69 V0 (ix4 h r c j)) (scM (aP V0) (aR V0) h (pos (r * 64 + c)) (wk r c j)) := by
  have hb : rs r ≤ 24 := min_le_right _ _
  have hb' : cs c ≤ 48 := min_le_right _ _
  have hr := r.isLt
  have hc := c.isLt
  have hj := j.isLt
  pointwise [res_main_v69]
  refine (congrArg₂ (· + ·) rfl (gather_bias _ (biasIdx V0) _ _ _ _ _)).trans ?_
  simp only [v19, v6, v63, biasIdx0, biasIdx1]
  rw [pick (a := cs c + j.val % 16) (by omega) (fun x => ∑ x_1, qM (aP V0) h (pos (↑r * 64 + ↑c)) x_1 * c8 * kM (aP V0) h (pos ((rs ↑r + ↑j / 16) * 64 + x.val)) x_1)]
  rw [scM, sc, if_pos (wk_in r c hr hc j)]
  obtain ⟨u, hu, e⟩ := c8_eq
  refine congrArg₂ (· + ·) ?_ ?_
  · rw [e, ← sum_mul_real hu]
    refine Finset.sum_congr rfl fun d _ => ?_
    rw [mul_right_comm]; rfl
  · unfold bM wk
    rw [pos_val (by omega), pos_val (by omega)]
    refine congrArg (aR V0) (congrArg₂ (ix3 h) (Fin.ext ?_) (Fin.ext ?_))
    · simp only
      rw [toInt_small _ (by omega)]
      congr 1; omega
    · simp only
      rw [toInt_small _ (by omega)]
      congr 1; omega

/-- The maximum over the window's axis. -/
theorem reduce_max (x : FVec Ideal S16x32x64x128 .f32) (h : Fin 16) (r : Fin 32) (c : Fin 64) :
    @Eq EReal ((Host.reduce FloatOps.maximumf x (constant S_ .f32 0xFF800000#32) reducesTo_S16x32x64x128_S16x32x64_d3 h_S_ : FVec Ideal S16x32x64 .f32) (ix3 h r c))
      (mx fun j : Fin 128 => x (ix4 h r c j)) := by
  refine (Host.reduce_eq_fold _ _ _ _ _ _).trans ?_
  refine (Shape.ReducesTo.fold_fiber_r4_a3 _ _ _ _ _).trans ?_
  have : (constant S_ .f32 0xFF800000#32 : FVec Ideal S_ .f32) (Shape.Idx.first h_S_) = (⊥ : EReal) := by
    show Ideal.ofBits .f32 0xFF800000#32 = ⊥
    simp [Ideal.ofBits, Ideal.ieee]
  rw [this]
  rfl

/-- The row maxima. -/
theorem v70 (h : Fin 16) (r : Fin 32) (c : Fin 64) :
    @Eq EReal (res_main_v70 V0 (ix3 h r c)) (mx (scM (aP V0) (aR V0) h (pos (r * 64 + c)) ∘ wk r c)) := by
  refine (reduce_max _ h r c).trans ?_
  simp only [v69]; rfl

/-- The exponential of a row less its maximum, at an index. -/
theorem exp_at (x : FVec Ideal S16x32x64x128 .f32) (n : FVec Ideal S16x32x64 .f32) (h : Fin 16) (r : Fin 32) (c : Fin 64) (j : Fin 128) :
    @Eq EReal ((Host.exp (subf x (broadcastInDim S16x32x64x128 ![0, 1, 2, 3] bcast_S16x32x64x1_S16x32x64x128_0_1_2_3 (broadcastInDim S16x32x64x1 ![0, 1, 2] bcast_S16x32x64_S16x32x64x1_0_1_2 (maximumf (broadcastInDim S16x32x64 ![] bcast_S_S16x32x64 (constant S_ .f32 0xFF800000#32)) n)))) : FVec Ideal S16x32x64x128 .f32) (ix4 h r c j))
      (Ideal.exp (x (ix4 h r c j) - n (ix3 h r c))) := by
  pointwise []
  have : Ideal.ofBits .f32 0xFF800000#32 = (⊥ : EReal) := by simp [Ideal.ofBits, Ideal.ieee]
  rw [this]
  simp

/-- The exponentials. -/
theorem v90 (h : Fin 16) (r : Fin 32) (c : Fin 64) (j : Fin 128) :
    @Eq EReal (res_main_v90 V0 (ix4 h r c j)) (ex (scM (aP V0) (aR V0) h (pos (r * 64 + c)) ∘ wk r c) j) := by
  refine (exp_at (res_main_v69 V0) (res_main_v70 V0) h r c j).trans ?_
  rw [v69, v70]; rfl

/-- The normalisers. -/
theorem v92 (h : Fin 16) (r : Fin 32) (c : Fin 64) (k : Fin 1) :
    @Eq EReal (res_main_v92 V0 (ix4 h r c k)) (Z (scM (aP V0) (aR V0) h (pos (r * 64 + c)) ∘ wk r c)) := by
  pointwise [res_main_v92]
  simp only [v90]; rfl

/-- The gradient of the softmax at a window. -/
theorem v113 (h : Fin 16) (r : Fin 32) (c : Fin 64) (j : Fin 128) :
    @Eq EReal (res_main_v113 V0 (ix4 h r c j)) ((dp (vM (aP V0) h) (yM (aY V0) h) (pos (r * 64 + c)) ∘ wk r c) j) := by
  have hb' : cs c ≤ 48 := min_le_right _ _
  pointwise [res_main_v113]
  simp only [v19, v105, v64]
  have hj := j.isLt
  refine (Finset.sum_congr rfl fun x _ => mul_comm _ _).trans ?_
  exact pick (a := cs c + j.val % 16) (by omega) (fun x => ∑ d, yM (aY V0) h (pos (↑r * 64 + ↑c)) d * vM (aP V0) h (pos ((rs ↑r + ↑j / 16) * 64 + x.val)) d)

variable (hf : Fin' (aP V0) (aR V0))
include hf

/-- The softmax, spread over the band of key rows. -/
theorem v100 (h : Fin 16) (r : Fin 32) (c : Fin 64) (i : Fin 8) (k : Fin 64) :
    @Eq EReal (res_main_v100 V0 (ix5 h r c i k)) (pr (scM (aP V0) (aR V0) h (pos (r * 64 + c))) (pos ((rs r + i) * 64 + k))) := by
  have hr := r.isLt
  have hc := c.isLt
  have hk := k.isLt
  have hi := i.isLt
  have hb : rs r ≤ 24 := min_le_right _ _
  have hb' : cs c ≤ 48 := min_le_right _ _
  pointwise [res_main_v100]
  simp only [v19, v90, v92]
  rw [← spread (m := 16) (fun n => pr (scM (aP V0) (aR V0) h (pos (r * 64 + c))) (pos ((rs r + i) * 64 + n))) (cs c) k ?_]
  · refine Finset.sum_congr rfl fun w _ => ?_
    have hw := w.isLt
    rw [mul_comm]
    refine congrArg (· * _) ?_
    refine (pr_part (wk_part r c hr hc) _).trans ?_
    unfold wk
    have e1 : (i.val * 16 + w.val) / 16 = i.val := by omega
    have e2 : (i.val * 16 + w.val) % 16 = w.val := by omega
    simp only [e1, e2]; rfl
  · intro hn
    refine prs_bot (hf.good h _) fun hin => hn ?_
    exact ((inWin_pos hr hc (by omega) hk).1 hin).2

/-- The gradient of the scores, spread over the band of key rows. -/
theorem v129 (h : Fin 16) (r : Fin 32) (c : Fin 64) (i : Fin 8) (k : Fin 64) :
    @Eq EReal (res_main_v129 V0 (ix5 h r c i k))
      (ds (qM (aP V0) h) (kM (aP V0) h) (vM (aP V0) h) (yM (aY V0) h) (bM (aR V0) h) (pos (r * 64 + c)) (pos ((rs r + i) * 64 + k))) := by
  have hr := r.isLt
  have hc := c.isLt
  have hk := k.isLt
  have hi := i.isLt
  have hb : rs r ≤ 24 := min_le_right _ _
  have hb' : cs c ≤ 48 := min_le_right _ _
  have hp := wk_part (Q := qM (aP V0) h) (K := kM (aP V0) h) (B := bM (aR V0) h) r c hr hc
  pointwise [res_main_v129]
  simp only [v19, v90, v92, v113, Finset.univ_unique, Finset.sum_singleton]
  rw [← spread (m := 16) (fun n => ds (qM (aP V0) h) (kM (aP V0) h) (vM (aP V0) h) (yM (aY V0) h) (bM (aR V0) h) (pos (r * 64 + c)) (pos ((rs r + i) * 64 + n))) (cs c) k ?_]
  · refine Finset.sum_congr rfl fun w _ => ?_
    have hw := w.isLt
    refine congrArg (· * _) ?_
    refine (dsm_quotient (good_part hp (hf.good h _)) _ _).trans ?_
    refine (dsm_part hp (hf.good h _) _ _).trans ?_
    unfold wk
    have e1 : (i.val * 16 + w.val) / 16 = i.val := by omega
    have e2 : (i.val * 16 + w.val) % 16 = w.val := by omega
    simp only [e1, e2]; rfl
  · intro hn
    refine ds_bot _ _ (hf.good h _) fun hin => hn ?_
    exact ((inWin_pos hr hc (by omega) hk).1 hin).2

/-- The gradient of the queries. -/
theorem r143 (n : Fin 2048) (x : Fin 1024) :
    @Eq EReal ((truncf .bf16 (shapeCast S2048x1024 (mulf (transpose S32x64x16x64 [1, 2, 0, 3] (Host.dotGeneral (φ₁ := .f32) (φ₂ := .f32) dot_S16x32x64x8x64_S32x8x64x16x64_S16x32x64x64_34_12_2_4_01_30 none (res_main_v129 V0 : FVec Ideal S16x32x64x8x64 .f32) (res_main_v63 V0 : FVec Ideal S32x8x64x16x64 .f32) : FVec Ideal S16x32x64x64 .f32) transposes_S16x32x64x64_S32x64x16x64_1_2_0_3) (broadcastInDim S32x64x16x64 ![] bcast_S_S32x64x16x64 (constant S_ .f32 0x3E000000#32))) shapeCasts_S32x64x16x64_S2048x1024) bitsLt_bf16_f32 : FVec Ideal S2048x1024 .bf16) (ix2 n x))
      (gQ (aP V0) (aR V0) (aY V0) n x) := by
  pointwise []
  simp only [v129 V0 hf, v63]
  have e := dQ_band (Q := qM (aP V0) ⟨x.val / 64, by omega⟩) (K := kM (aP V0) ⟨x.val / 64, by omega⟩) (B := bM (aR V0) ⟨x.val / 64, by omega⟩) (vM (aP V0) ⟨x.val / 64, by omega⟩) (yM (aY V0) ⟨x.val / 64, by omega⟩) (hf.good _) n.isLt ⟨x.val % 64, by omega⟩
  rw [pos_self] at e
  exact e

/-- The gradient of the keys. -/
theorem r144 (n : Fin 2048) (x : Fin 1024) :
    @Eq EReal ((truncf .bf16 (shapeCast S2048x1024 (transpose S32x64x16x64 [3, 0, 1, 2] (Host.dotGeneral (φ₁ := .f32) (φ₂ := .f32) dot_S32x8x64x16x64_S32x8x32_S64x16x64x32_01_01_234_2_n_n none (transpose (α := Ideal .f32) S32x8x64x16x64 [1, 2, 3, 0, 4] (Host.dotGeneral (φ₁ := .f32) (φ₂ := .f32) dot_S16x32x64x8x64_S32x64x16x64_S16x32x8x64x64_2_1_34_3_01_20 none (res_main_v129 V0 : FVec Ideal S16x32x64x8x64 .f32) (res_main_v6 V0 : FVec Ideal S32x64x16x64 .f32) : FVec Ideal S16x32x8x64x64 .f32) transposes_S16x32x8x64x64_S32x8x64x16x64_1_2_3_0_4) (res_main_v30 V0 : FVec Ideal S32x8x32 .f32) : FVec Ideal S64x16x64x32 .f32) transposes_S64x16x64x32_S32x64x16x64_3_0_1_2) shapeCasts_S32x64x16x64_S2048x1024) bitsLt_bf16_f32 : FVec Ideal S2048x1024 .bf16) (ix2 n x))
      (gK (aP V0) (aR V0) (aY V0) n x) := by
  pointwise []
  simp only [v129 V0 hf, v6, v30]
  have e := dK_band (Q := qM (aP V0) ⟨x.val / 64, by omega⟩) (K := kM (aP V0) ⟨x.val / 64, by omega⟩) (B := bM (aR V0) ⟨x.val / 64, by omega⟩) (vM (aP V0) ⟨x.val / 64, by omega⟩) (yM (aY V0) ⟨x.val / 64, by omega⟩) (hf.good _) n.isLt ⟨x.val % 64, by omega⟩
  rw [pos_self] at e
  exact e

/-- The gradient of the values. -/
theorem r145 (n : Fin 2048) (x : Fin 1024) :
    @Eq EReal ((truncf .bf16 (shapeCast S2048x1024 (transpose S32x64x16x64 [3, 0, 1, 2] (Host.dotGeneral (φ₁ := .f32) (φ₂ := .f32) dot_S32x8x64x16x64_S32x8x32_S64x16x64x32_01_01_234_2_n_n none (transpose (α := Ideal .f32) S32x8x64x16x64 [0, 3, 4, 1, 2] (Host.dotGeneral (φ₁ := .f32) (φ₂ := .f32) dot_S32x16x64x64_S16x32x64x8x64_S32x16x64x8x64_3_2_2_34_01_10 none (res_main_v105 V0 : FVec Ideal S32x16x64x64 .f32) (res_main_v100 V0 : FVec Ideal S16x32x64x8x64 .f32) : FVec Ideal S32x16x64x8x64 .f32) transposes_S32x16x64x8x64_S32x8x64x16x64_0_3_4_1_2) (res_main_v30 V0 : FVec Ideal S32x8x32 .f32) : FVec Ideal S64x16x64x32 .f32) transposes_S64x16x64x32_S32x64x16x64_3_0_1_2) shapeCasts_S32x64x16x64_S2048x1024) bitsLt_bf16_f32 : FVec Ideal S2048x1024 .bf16) (ix2 n x))
      (gV (aP V0) (aR V0) (aY V0) n x) := by
  pointwise []
  simp only [v105, v100 V0 hf, v30, scM]
  have e := dV_band (Q := qM (aP V0) ⟨x.val / 64, by omega⟩) (K := kM (aP V0) ⟨x.val / 64, by omega⟩) (B := bM (aR V0) ⟨x.val / 64, by omega⟩) (yM (aY V0) ⟨x.val / 64, by omega⟩) (hf.good _) n.isLt ⟨x.val % 64, by omega⟩
  rw [pos_self] at e
  exact e

omit hf in
/-- Three arrays transposed and laid one above the other, at an index. -/
theorem stack_at (a b c : FVec Ideal S2048x1024 .bf16) (y : S3x1024x2048.Idx) :
    @Eq EReal ((concatenate S3x1024x2048 0 [⟨S1x1024x2048, (broadcastInDim S1x1024x2048 ![1, 2] bcast_S1024x2048_S1x1024x2048_1_2 (transpose S1024x2048 [1, 0] a transposes_S2048x1024_S1024x2048_1_0) : FVec Ideal S1x1024x2048 .bf16)⟩,
        ⟨S1x1024x2048, (broadcastInDim S1x1024x2048 ![1, 2] bcast_S1024x2048_S1x1024x2048_1_2 (transpose S1024x2048 [1, 0] b transposes_S2048x1024_S1024x2048_1_0) : FVec Ideal S1x1024x2048 .bf16)⟩,
        ⟨S1x1024x2048, (broadcastInDim S1x1024x2048 ![1, 2] bcast_S1024x2048_S1x1024x2048_1_2 (transpose S1024x2048 [1, 0] c transposes_S2048x1024_S1024x2048_1_0) : FVec Ideal S1x1024x2048 .bf16)⟩]
        concatenates_S1x1024x2048_S1x1024x2048_S1x1024x2048_S3x1024x2048_d0 : FVec Ideal S3x1024x2048 .bf16) y)
      (if (y 0).val = 0 then a (ix2 (y 2) (y 1)) else if (y 0).val = 1 then b (ix2 (y 2) (y 1)) else c (ix2 (y 2) (y 1))) := by
  pointwise []
  split_ifs <;> first | rfl | (exfalso; omega)

end Cert.ReferenceIdeal.Value

namespace Cert.ReferenceIdeal.Value
open Idealize.ShloMosaic Idealize.ShloMosaic.TcCoe Idealize.SL.Sem Idealize.ShloMosaic.StableHlo
open Cert.ReferenceIdeal Cert.ReferenceIdeal.Gen Cert.Attn

/-- The reference ends with the dense gradients. -/
theorem reference (m : (ℓ : Loc nD τ sig) → Buf (Elt Ideal) ℓ) (g : Dev nD → PrngReg)
    (hf : ∀ c : Dev nD, Fin' (m ((c.tc : Thread nD τ).loc main_arg0)) (m ((c.tc : Thread nD τ).loc main_arg1))) :
    θ_run defs (onTc (τ := τ) (main (F := Ideal))) ⟨m, fun _ => 0, g⟩ fun r => ∀ c : Dev nD,
      r.2.mem ((c.tc : Thread nD τ).loc main_v143) = oQ (m ((c.tc : Thread nD τ).loc main_arg0)) (m ((c.tc : Thread nD τ).loc main_arg1)) (m ((c.tc : Thread nD τ).loc main_arg2))
      ∧ r.2.mem ((c.tc : Thread nD τ).loc main_v144) = oK (m ((c.tc : Thread nD τ).loc main_arg0)) (m ((c.tc : Thread nD τ).loc main_arg1)) (m ((c.tc : Thread nD τ).loc main_arg2))
      ∧ r.2.mem ((c.tc : Thread nD τ).loc main_v145) = oV (m ((c.tc : Thread nD τ).loc main_arg0)) (m ((c.tc : Thread nD τ).loc main_arg1)) (m ((c.tc : Thread nD τ).loc main_arg2))
      ∧ r.2.mem ((c.tc : Thread nD τ).loc main_v152) = oT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ?_) (run m g)
  obtain ⟨h0, h1, h2, h3, ha⟩ := h c
  have hf' : Fin' (aP (launchContents m c)) (aR (launchContents m c)) := hf c
  refine ⟨h0.trans (funext fun y => (congrArg _ (ValueIdx.eq_ix2 y)).trans (r143 _ hf' (y 0) (y 1))), h1.trans (funext fun y => (congrArg _ (ValueIdx.eq_ix2 y)).trans (r144 _ hf' (y 0) (y 1))), h2.trans (funext fun y => (congrArg _ (ValueIdx.eq_ix2 y)).trans (r145 _ hf' (y 0) (y 1))), h3.trans (funext fun y => ?_), ha⟩
  refine (stack_at _ _ _ y).trans ?_
  have e1 := r143 (launchContents m c) hf' (y 2) (y 1)
  have e2 := r144 (launchContents m c) hf' (y 2) (y 1)
  have e3 := r145 (launchContents m c) hf' (y 2) (y 1)
  by_cases k0 : (y 0).val = 0
  · exact (if_pos k0).trans (e1.trans (if_pos k0).symm)
  · by_cases k1 : (y 0).val = 1
    · exact (if_neg k0).trans ((if_pos k1).trans (e2.trans ((if_neg k0).trans (if_pos k1)).symm))
    · exact (if_neg k0).trans ((if_neg k1).trans (e3.trans ((if_neg k0).trans (if_neg k1)).symm))

end Cert.ReferenceIdeal.Value
end
-- ==== Proof.AttnTable.lean ====
module

public import proofs.«01_k».proof.Proof.AttnBody
public import proofs.«01_k».proof.Proof.AttnRef
public import Idealize.ShloMosaic.Lib.Pipeline.ValueKit

@[expose] public section

set_option maxRecDepth 16384

noncomputable section

/-!
The bias table the attention kernel's host lines build: for every pair of neighbouring key rows the bias of a query column
against the two rows' columns, minus infinity outside the window.
-/

namespace Cert.KernelIdeal.Value

open Idealize.ShloMosaic Idealize.ShloMosaic.TcCoe Idealize.ShloMosaic.Tactic
open Idealize.SL Idealize.SL.Sem Cert.KernelIdeal Cert.KernelIdeal.Gen Cert.KernelIdeal.Body Cert.Attn

/-- The columns. -/
def tCol : IVec S64 32 := iotaInDim S64 32 0
/-- The first key column of each query column's window. -/
def tStart : IVec S64 32 :=
  minsi (broadcastInDim S64 ![] bcast_S_S64 (constantI S_ 32 48#32))
    (maxsi (broadcastInDim S64 ![] bcast_S_S64 (constantI S_ 32 0#32)) (subi tCol (broadcastInDim S64 ![] bcast_S_S64 (constantI S_ 32 8#32))))
/-- Whether a key column is in a query column's window. -/
def tValid : IVec S64x64 1 :=
  andi (cmpi .sge (broadcastInDim S64x64 ![0, 1] bcast_S1x64_S64x64_0_1 (broadcastInDim S1x64 ![1] bcast_S64_S1x64_1 tCol))
      (broadcastInDim S64x64 ![0, 1] bcast_S64x1_S64x64_0_1 (broadcastInDim S64x1 ![0] bcast_S64_S64x1_0 tStart)))
    (cmpi .slt (broadcastInDim S64x64 ![0, 1] bcast_S1x64_S64x64_0_1 (broadcastInDim S1x64 ![1] bcast_S64_S1x64_1 tCol))
      (broadcastInDim S64x64 ![0, 1] bcast_S64x1_S64x64_0_1
        (addi (broadcastInDim S64x1 ![0] bcast_S64_S64x1_0 tStart) (broadcastInDim S64x1 ![] bcast_S_S64x1 (constantI S_ 32 16#32)))))
/-- The column offset of a key column from a query column. -/
def tOff : IVec S64x64 32 :=
  minsi (broadcastInDim S64x64 ![] bcast_S_S64x64 (constantI S_ 32 30#32))
    (maxsi (broadcastInDim S64x64 ![] bcast_S_S64x64 (constantI S_ 32 0#32))
      (subi (addi (subi (broadcastInDim S64x64 ![0, 1] bcast_S1x64_S64x64_0_1 (broadcastInDim S1x64 ![1] bcast_S64_S1x64_1 tCol))
            (broadcastInDim S64x64 ![0, 1] bcast_S64x1_S64x64_0_1 (broadcastInDim S64x1 ![0] bcast_S64_S64x1_0 tCol)))
          (broadcastInDim S64x64 ![] bcast_S_S64x64 (constantI S_ 32 16#32)))
        (broadcastInDim S64x64 ![] bcast_S_S64x64 (constantI S_ 32 1#32))))
/-- The one-hot table of some offsets. -/
def hotOf (X : IVec S64x64 32) : FVec Ideal S64x64x31 .f32 :=
  uitofp .f32 (cmpi .eq (broadcastInDim S64x64x31 ![0, 1, 2] bcast_S64x64x1_S64x64x31_0_1_2 (broadcastInDim S64x64x1 ![0, 1] bcast_S64x64_S64x64x1_0_1 X))
    (broadcastInDim S64x64x31 ![0, 1, 2] bcast_S1x1x31_S64x64x31_0_1_2 (iotaInDim S1x1x31 32 2)))
/-- The one-hot table of the offsets. -/
def tHot : FVec Ideal S64x64x31 .f32 := hotOf tOff

section Words
variable (R : FVec Ideal S16x15x31 .f32)

/-- The bias of a query column against a key column for every row offset. -/
def tSum : FVec Ideal S16x15x64x64 .f32 :=
  Host.reduceAdd
      (mulf
        (broadcastInDim S16x15x64x64x31 ![0, 1, 2, 3, 4] bcast_S16x15x1x1x31_S16x15x64x64x31_0_1_2_3_4
          (broadcastInDim S16x15x1x1x31 ![0, 1, 4] bcast_S16x15x31_S16x15x1x1x31_0_1_4 R))
        (broadcastInDim S16x15x64x64x31 ![0, 1, 2, 3, 4] bcast_S1x1x64x64x31_S16x15x64x64x31_0_1_2_3_4
          (broadcastInDim S1x1x64x64x31 ![2, 3, 4] bcast_S64x64x31_S1x1x64x64x31_2_3_4
            (mulf tHot
              (broadcastInDim S64x64x31 ![0, 1, 2] bcast_S64x64x1_S64x64x31_0_1_2
                (uitofp FTy.f32
                  (broadcastInDim S64x64x1 ![0, 1] bcast_S64x64_S64x64x1_0_1 tValid)))))))
      (constant S_ FTy.f32 0x00000000#32) reducesTo_S16x15x64x64x31_S16x15x64x64_d4 h_S_
/-- The same with minus infinity outside the window. -/
def tRow : FVec Ideal S16x15x64x64 .f32 :=
  select (broadcastInDim S16x15x64x64 ![0, 1, 2, 3] bcast_S1x1x64x64_S16x15x64x64_0_1_2_3 (broadcastInDim S1x1x64x64 ![2, 3] bcast_S64x64_S1x1x64x64_2_3 tValid))
    (tSum R) (broadcastInDim S16x15x64x64 ![] bcast_S_S16x15x64x64 (constant S_ .f32 0xFF800000#32))
end Words

/-- Minus infinity for a whole key row. -/
def tOut : FVec Ideal S16x1x64x64 .f32 := broadcastInDim S16x1x64x64 ![] bcast_S_S16x1x64x64 (constant S_ .f32 0xFF800000#32)
/-- The table from the row biases: neighbouring rows side by side, then the three entries with a row out of the window. -/
def tCat (B : FVec Ideal S16x15x64x64 .f32) : FVec Ideal S16x17x64x128 .f32 :=
  concatenate S16x17x64x128 1 [
    ⟨S16x14x64x128, concatenate S16x14x64x128 3 [⟨S16x14x64x64, extractStridedSlice S16x14x64x64 ![0, 0, 0, 0] B slices_S16x15x64x64_S16x14x64x64_0_0_0_0⟩,
      ⟨S16x14x64x64, extractStridedSlice S16x14x64x64 ![0, 1, 0, 0] B slices_S16x15x64x64_S16x14x64x64_0_1_0_0⟩] concatenates_S16x14x64x64_S16x14x64x64_S16x14x64x128_d3⟩,
    ⟨S16x1x64x128, concatenate S16x1x64x128 3 [⟨S16x1x64x64, tOut⟩, ⟨S16x1x64x64, extractStridedSlice S16x1x64x64 ![0, 3, 0, 0] B slices_S16x15x64x64_S16x1x64x64_0_3_0_0⟩] concatenates_S16x1x64x64_S16x1x64x64_S16x1x64x128_d3⟩,
    ⟨S16x1x64x128, concatenate S16x1x64x128 3 [⟨S16x1x64x64, extractStridedSlice S16x1x64x64 ![0, 10, 0, 0] B slices_S16x15x64x64_S16x1x64x64_0_10_0_0⟩, ⟨S16x1x64x64, tOut⟩] concatenates_S16x1x64x64_S16x1x64x64_S16x1x64x128_d3⟩,
    ⟨S16x1x64x128, concatenate S16x1x64x128 3 [⟨S16x1x64x64, tOut⟩, ⟨S16x1x64x64, tOut⟩] concatenates_S16x1x64x64_S16x1x64x64_S16x1x64x128_d3⟩]
    concatenates_S16x14x64x128_S16x1x64x128_S16x1x64x128_S16x1x64x128_S16x17x64x128_d1

/-! ## The host lines, part by part -/

variable (σ : Valuation τ sig (Elt Ideal))

set_option maxHeartbeats 4000000 in
/-- The last part lays the row biases out in the table. -/
theorem part7 : StableHlo.after (hostOps0_7 (F := Ideal)) σ (Proc.tc.devRef main_v50) = tCat (σ (Proc.tc.devRef main_v39)) := by
  after_results
  rfl

/-- Minus infinity outside the window. -/
theorem part6 : StableHlo.after (hostOps0_6 (F := Ideal)) σ (Proc.tc.devRef main_v39)
    = select (broadcastInDim S16x15x64x64 ![0, 1, 2, 3] bcast_S1x1x64x64_S16x15x64x64_0_1_2_3 (σ (Proc.tc.devRef main_v38))) (σ (Proc.tc.devRef main_v37))
      (broadcastInDim S16x15x64x64 ![] bcast_S_S16x15x64x64 (σ (Proc.tc.devRef main_cst_7))) := by
  after_results
  rfl

/-- The row biases, the window's table and minus infinity. -/
theorem part5 (h16 : σ (Proc.tc.devRef main_v16) = tValid) (h27 : σ (Proc.tc.devRef main_v27) = tHot) :
    StableHlo.after (hostOps0_5 (F := Ideal)) σ (Proc.tc.devRef main_v37) = tSum (σ (Proc.tc.devRef main_arg1))
    ∧ StableHlo.after (hostOps0_5 (F := Ideal)) σ (Proc.tc.devRef main_v38) = broadcastInDim S1x1x64x64 ![2, 3] bcast_S64x64_S1x1x64x64_2_3 tValid
    ∧ StableHlo.after (hostOps0_5 (F := Ideal)) σ (Proc.tc.devRef main_cst_7) = constant (F := Ideal) S_ .f32 0xFF800000#32 := by
  refine ⟨?_, ?_, ?_⟩
  · after_results; unfold tSum; rw [h16, h27]
  · after_results; rw [h16]
  · after_results

/-- The one-hot table. -/
theorem part4 (h26 : σ (Proc.tc.devRef main_v26) = tOff) :
    StableHlo.after (hostOps0_4 (F := Ideal)) σ (Proc.tc.devRef main_v27) = tHot
    ∧ StableHlo.after (hostOps0_4 (F := Ideal)) σ (Proc.tc.devRef main_v16) = σ (Proc.tc.devRef main_v16)
    ∧ StableHlo.after (hostOps0_4 (F := Ideal)) σ (Proc.tc.devRef main_arg1) = σ (Proc.tc.devRef main_arg1) := by
  refine ⟨?_, ?_, ?_⟩
  · refine Eq.trans ?_ (congrArg hotOf h26); after_results; rfl
  · after_results
  · after_results

/-- The clipped offsets. -/
theorem part3 (h : minsi (broadcastInDim S64x64 ![] bcast_S_S64x64 (σ (Proc.tc.devRef main_c_6) : IVec S_ 32)) (maxsi (broadcastInDim S64x64 ![] bcast_S_S64x64 (σ (Proc.tc.devRef main_c_5) : IVec S_ 32)) (σ (Proc.tc.devRef main_v25) : IVec S64x64 32)) = tOff) :
    StableHlo.after (hostOps0_3 (F := Ideal)) σ (Proc.tc.devRef main_v26) = tOff
    ∧ StableHlo.after (hostOps0_3 (F := Ideal)) σ (Proc.tc.devRef main_v16) = σ (Proc.tc.devRef main_v16)
    ∧ StableHlo.after (hostOps0_3 (F := Ideal)) σ (Proc.tc.devRef main_arg1) = σ (Proc.tc.devRef main_arg1) := by
  refine ⟨?_, ?_, ?_⟩
  · after_results; exact h
  · after_results
  · after_results

/-- The window's table and the offsets before clipping. -/
theorem part2 (h0 : σ (Proc.tc.devRef main_v0) = tCol) (h3 : σ (Proc.tc.devRef main_v3) = tStart) :
    StableHlo.after (hostOps0_2 (F := Ideal)) σ (Proc.tc.devRef main_v16) = tValid
    ∧ minsi (broadcastInDim S64x64 ![] bcast_S_S64x64 (StableHlo.after (hostOps0_2 (F := Ideal)) σ (Proc.tc.devRef main_c_6) : IVec S_ 32)) (maxsi (broadcastInDim S64x64 ![] bcast_S_S64x64 (StableHlo.after (hostOps0_2 (F := Ideal)) σ (Proc.tc.devRef main_c_5) : IVec S_ 32)) (StableHlo.after (hostOps0_2 (F := Ideal)) σ (Proc.tc.devRef main_v25) : IVec S64x64 32)) = tOff
    ∧ StableHlo.after (hostOps0_2 (F := Ideal)) σ (Proc.tc.devRef main_arg1) = σ (Proc.tc.devRef main_arg1) := by
  refine ⟨?_, ?_, ?_⟩
  · after_results; rw [h0, h3]; rfl
  · after_results; rw [h0]; rfl
  · after_results

/-- The clipped window starts. -/
theorem part01 :
    StableHlo.after (hostOps0_1 (F := Ideal)) (StableHlo.after (hostOps0 (F := Ideal)) σ) (Proc.tc.devRef main_v3) = tStart
    ∧ StableHlo.after (hostOps0_1 (F := Ideal)) (StableHlo.after (hostOps0 (F := Ideal)) σ) (Proc.tc.devRef main_v0) = tCol
    ∧ StableHlo.after (hostOps0_1 (F := Ideal)) (StableHlo.after (hostOps0 (F := Ideal)) σ) (Proc.tc.devRef main_arg1) = σ (Proc.tc.devRef main_arg1) := by
  refine ⟨?_, ?_, ?_⟩
  · after_results; rfl
  · after_results; rfl
  · after_results

/-- The table the kernel call finds. -/
theorem table_eq (m : (ℓ : Loc nD τ sig) → Buf (Elt Ideal) ℓ) (c : Dev nD) : V m c main_v50 = tCat (tRow (m ((c : Thread nD τ).loc main_arg1))) := by
  show StableHlo.after (hostOps0 ++ (hostOps0_1 ++ (hostOps0_2 ++ (hostOps0_3 ++ (hostOps0_4 ++ (hostOps0_5 ++ (hostOps0_6 ++ (hostOps0_7 ++ [])))))))) (fun b => m (c, b)) (Proc.tc.devRef main_v50) = _
  simp only [StableHlo.after_append]
  have hm : (m ((c : Thread nD τ).loc main_arg1) : FVec Ideal S16x15x31 .f32) = (fun b => m (c, b) : Valuation τ sig (Elt Ideal)) (Proc.tc.devRef main_arg1) := rfl
  rw [hm]
  generalize (fun b => m (c, b) : Valuation τ sig (Elt Ideal)) = σ
  show StableHlo.after (hostOps0_7 (F := Ideal)) _ (Proc.tc.devRef main_v50) = _
  rw [part7, part6]
  obtain ⟨p3, p0, pa⟩ := part01 σ
  generalize StableHlo.after (hostOps0_1 (F := Ideal)) (StableHlo.after (hostOps0 (F := Ideal)) σ) = σ1 at *
  obtain ⟨q16, q25, qa⟩ := part2 σ1 p0 p3
  generalize StableHlo.after (hostOps0_2 (F := Ideal)) σ1 = σ2 at *
  obtain ⟨r26, r16, ra⟩ := part3 σ2 q25
  generalize StableHlo.after (hostOps0_3 (F := Ideal)) σ2 = σ3 at *
  obtain ⟨s27, s16, sa⟩ := part4 σ3 r26
  generalize StableHlo.after (hostOps0_4 (F := Ideal)) σ3 = σ4 at *
  obtain ⟨t37, t38, tc⟩ := part5 σ4 (s16.trans (r16.trans q16)) s27
  rw [t37, t38, tc, sa, ra, qa, pa]
  rfl

/-! ## The table at an index -/

/-- The window's table at a query and a key column. -/
theorem tValid_at (c k : Fin 64) : @Eq (BitVec 1) (tValid (ix2 c k)) (if cs c ≤ k.val ∧ k.val < cs c + 16 then 1#1 else 0#1) := by
  pointwise [tValid, tStart, tCol]
  revert c k
  exact (by decide +kernel : ∀ c k : Fin 64, IntOp.andi
      (IntOp.cmpi CmpIPredicate.sge (BitVec.ofNat 32 ↑k)
        (IntOp.minsi (48#32) (IntOp.maxsi (0#32) (IntOp.subi (BitVec.ofNat 32 ↑c) 8#32))))
      (IntOp.cmpi CmpIPredicate.slt (BitVec.ofNat 32 ↑k)
        (IntOp.addi (IntOp.minsi (48#32) (IntOp.maxsi (0#32) (IntOp.subi (BitVec.ofNat 32 ↑c) 8#32))) 16#32)) =
    if cs ↑c ≤ k.val ∧ k.val < cs ↑c + 16 then 1#1 else 0#1)

/-- The clipped offset of a key column from a query column, as a word. -/
theorem tOff_word : ∀ c k : Fin 64, IntOp.minsi (30#32)
          (IntOp.maxsi (0#32)
            (IntOp.subi (IntOp.addi (IntOp.subi (BitVec.ofNat 32 ↑k) (BitVec.ofNat 32 ↑c)) 16#32) 1#32)) = BitVec.ofNat 32 (min (k.val + 15 - c.val) 30) := by
  decide +kernel

/-- The one-hot table at a query column, a key column and an offset. -/
theorem tHot_at (c k : Fin 64) (j : Fin 31) : @Eq EReal (tHot (ix3 c k j)) (if min (k.val + 15 - c.val) 30 = j.val then (1 : EReal) else 0) := by
  pointwise [tHot, hotOf, tOff, tCol]
  rw [tOff_word]
  exact Cert.ReferenceIdeal.Value.onehot _ _ (by omega) (by omega)

/-- Minus infinity's bits. -/
theorem negInf : (Ideal.ofBits FTy.f32 0xFF800000#32 : EReal) = ⊥ := by simp [Ideal.ofBits, Ideal.ieee]

section Table
variable (R : FVec Ideal S16x15x31 .f32)

/-- The row biases at an index. -/
theorem tRow_at (h : Fin 16) (e : Fin 15) (c k : Fin 64) :
    @Eq EReal (tRow R (ix4 h e c k)) (if cs c ≤ k.val ∧ k.val < cs c + 16 then bM R h e (k.val + 15 - c.val) else ⊥) := by
  pointwise [tRow]
  rw [tValid_at, negInf]
  by_cases hw : cs c ≤ k.val ∧ k.val < cs c + 16
  · rw [if_pos hw, if_pos hw]
    show @Eq EReal (tSum R (ix4 h e c k)) _
    pointwise [tSum]
    rw [tValid_at, if_pos hw]
    have h1 : (FloatOps.uitofp (F := Ideal) FTy.f32 (1#1) : EReal) = 1 := by
      show (((1#1 : BitVec 1).toNat : ℝ) : EReal) = 1
      simp
    refine Eq.trans (Finset.sum_congr rfl fun x _ => ?_) ((pick (a := min (k.val + 15 - c.val) 30) (by omega) (fun x => R (ix3 h e x))).trans ?_)
    · rw [tHot_at, h1]
      exact (mul_comm _ _).trans (congrArg (· * _) (mul_one _))
    · unfold bM
      congr 2
      exact Fin.ext (by show e.val = min e.val 14; omega)
  · rw [if_neg hw, if_neg hw]
    rfl

/-- The row offset in half `u` of entry `e`, where it has one. -/
def rowIx (e u : ℕ) : Option ℕ :=
  if e < 14 then some (e + u) else if e = 14 then (if u = 0 then none else some 3) else if e = 15 then (if u = 0 then some 10 else none) else none

/-- The table at an index, from the row biases. -/
theorem tCat_at (B : FVec Ideal S16x15x64x64 .f32) (h : Fin 16) (e : Fin 17) (d : Fin 64) (l : Fin 128) (u : ℕ) (hu : l.val / 64 = u) :
    @Eq EReal (tCat B (ix4 h e d l)) ((rowIx e u).elim ⊥ fun r => B (ix4 h ⟨min r 14, by omega⟩ d ⟨l.val % 64, by omega⟩)) := by
  have he := e.isLt
  have hl' := l.isLt
  have hB : ∀ (r r' : Fin 15) (k k' : Fin 64), r.val = r'.val → k.val = k'.val → @Eq EReal (B (ix4 h r d k)) (B (ix4 h r' d k')) := by
    intro r r' k k' h1 h2; rw [Fin.ext h1, Fin.ext h2]
  pointwise [tCat, tOut]
  rw [negInf]
  have c4 : e.val < 14 ∨ e.val = 14 ∨ e.val = 15 ∨ e.val = 16 := by omega
  have c2 : u = 0 ∨ u = 1 := by omega
  have hd : ∀ (r : Option ℕ) (x : EReal), rowIx e u = r → x = r.elim (⊥ : EReal) (fun r => B (ix4 h ⟨min r 14, by omega⟩ d ⟨l.val % 64, by omega⟩)) →
      x = (rowIx e u).elim (⊥ : EReal) (fun r => B (ix4 h ⟨min r 14, by omega⟩ d ⟨l.val % 64, by omega⟩)) := by
    intro r x h1 h2; rw [h1]; exact h2
  split_ifs
  all_goals first
    | exact hd (some e.val) _ (by unfold rowIx; rw [if_pos (by omega), show u = 0 by omega]; rfl)
        (hB _ _ _ _ (by show e.val = min e.val 14; omega) (by show l.val = l.val % 64; omega))
    | exact hd (some (e.val + 1)) _ (by unfold rowIx; rw [if_pos (by omega), show u = 1 by omega])
        (hB _ _ _ _ (by show 1 + e.val = min (e.val + 1) 14; omega) (by show l.val - 64 = l.val % 64; omega))
    | (refine hd none _ (by rw [show e.val = 14 by omega, show u = 0 by omega]; rfl) ?_; exact rfl)
    | (refine hd none _ (by rw [show e.val = 15 by omega, show u = 1 by omega]; rfl) ?_; exact rfl)
    | (refine hd none _ (by rw [show e.val = 16 by omega]; rfl) ?_; exact rfl)
    | exact hd (some 3) _ (by rw [show e.val = 14 by omega, show u = 1 by omega]; rfl)
        (hB _ _ _ _ (by show 3 + (e.val - 14) = 3; omega) (by show l.val - 64 = l.val % 64; omega))
    | exact hd (some 10) _ (by rw [show e.val = 15 by omega, show u = 0 by omega]; rfl)
        (hB _ _ _ _ (by show 10 + (e.val - 14 - 1) = 10; omega) (by show l.val = l.val % 64; omega))

/-- A trip's entry has, in each half, the row offset of that key row when it is in the window. -/
theorem rowIx_entC : ∀ (t : Fin 8) (g : Fin 6) (i : Fin 4) (u : Fin 2), rowIx (entC t g i) u
    = if rs (4 * t + i) ≤ bs t + 2 * g + u ∧ bs t + 2 * g + u < rs (4 * t + i) + 8 then some (bs t + 2 * g + u + 7 - (4 * t + i)) else none := by
  decide +kernel

/-- The table entry a trip adds is the bias of its queries against its keys. -/
theorem table_at (H : Fin 16) (t : Fin 8) (g : Fin 6) (i : Fin 4) (d : Fin 64) (l : Fin 128) :
    @Eq EReal (tCat (tRow R) (ix4 H ⟨entC t g i, entC_lt t g i⟩ d l))
      (mB (bM R H) (256 * t.val + (64 * i.val + d.val)) (64 * bs t + (128 * g.val + l.val))) := by
  rw [tCat_at _ _ _ _ _ _ rfl]
  have hu := rowIx_entC t g i ⟨l.val / 64, by omega⟩
  have hu' : rowIx (entC t g i) (l.val / 64) = _ := hu
  show Option.elim (rowIx (entC t g i) (l.val / 64)) _ _ = _
  rw [hu']
  have q1 : (256 * t.val + (64 * i.val + d.val)) / 64 = 4 * t.val + i.val := by omega
  have q2 : (256 * t.val + (64 * i.val + d.val)) % 64 = d.val := by omega
  have k1 : (64 * bs t + (128 * g.val + l.val)) / 64 = bs t + 2 * g.val + l.val / 64 := by omega
  have k2 : (64 * bs t + (128 * g.val + l.val)) % 64 = l.val % 64 := by omega
  have hw : inWin (256 * t.val + (64 * i.val + d.val)) (64 * bs t + (128 * g.val + l.val)) ↔
      (rs (4 * t.val + i.val) ≤ bs t + 2 * g.val + l.val / 64 ∧ bs t + 2 * g.val + l.val / 64 < rs (4 * t.val + i.val) + 8) ∧
        cs d ≤ l.val % 64 ∧ l.val % 64 < cs d + 16 := by
    unfold inWin
    rw [q1, q2, k1, k2]
  have hb : ∀ r b : ℕ, bM R H (min r 14) b = bM R H r b := by
    intro r b
    unfold bM
    congr 2
    exact Fin.ext (by show min (min r 14) 14 = min r 14; omega)
  show _ = if inWin _ _ then bM R H (_ / 64 + 7 - _ / 64) (_ % 64 + 15 - _ % 64) else ⊥
  by_cases hr : rs (4 * t.val + i.val) ≤ bs t + 2 * g.val + l.val / 64 ∧ bs t + 2 * g.val + l.val / 64 < rs (4 * t.val + i.val) + 8
  · rw [if_pos hr]
    refine (tRow_at R H _ d _).trans ?_
    by_cases hc : cs d ≤ l.val % 64 ∧ l.val % 64 < cs d + 16
    · rw [if_pos hc, if_pos (hw.mpr ⟨hr, hc⟩), q1, q2, k1, k2]
      exact hb _ _
    · rw [if_neg hc, if_neg fun h => hc (hw.mp h).2]
  · rw [if_neg hr, if_neg fun h => hr (hw.mp h).1]
    rfl

end Table

end Cert.KernelIdeal.Value
end
-- ==== Proof.AttnValue.lean ====
module

public import proofs.«01_k».proof.Defs
public import proofs.«01_k».proof.Proof.Gen.Pre_finite_scores
public import proofs.«01_k».proof.Proof.AttnTable
public import Idealize.ShloMosaic.Lib.Pipeline.ValueKit

/-!
# The attention's backward call: every grid point's blocks and the whole call

Grid point `t` works on heads `2t` and `2t + 1`: its blocks are the two heads' columns of the arrays.
-/

@[expose] public section

set_option maxRecDepth 16384

noncomputable section

namespace Cert.KernelIdeal.Value

open Idealize.ShloMosaic Idealize.ShloMosaic.TcCoe Idealize.SL.Sem Idealize.ShloMosaic.Tactic Cert.KernelIdeal Cert.KernelIdeal.Gen Cert.KernelIdeal.Body Cert.Attn

/-- The blocks at each grid point. -/
theorem idx : ∀ t : Fin cfg0.N, win0_0.index t = ![0, 16 + t.val] ∧ win0_1.index t = ![0, 24 + t.val] ∧ win0_2.index t = ![0, 32 + t.val]
    ∧ win0_3.index t = ![t.val, 0, 0, 0] ∧ win0_4.index t = ![0, t.val] ∧ win0_5.index t = ![0, t.val] ∧ win0_6.index t = ![0, t.val]
    ∧ win0_7.index t = ![0, t.val] ∧ win0_8.index t = ![0, t.val, 0] :=
  (by decide +kernel : ∀ t : Fin grid0.N, _)

variable (m : (ℓ : Loc nD τ sig) → Buf (Elt Ideal) ℓ)

/-- The queries' block. -/
theorem blk0_at (c : Dev nD) (t : Fin cfg0.N) (n : Fin 2048) (x : Fin 128) (h : 2048 + (128 * t.val + x.val) < 5120) :
    @Eq EReal (iblk m c 0 t (ix2 n x)) (m ((c : Thread nD τ).loc main_arg0) (ix2 n ⟨2048 + (128 * t.val + x.val), h⟩)) := by
  have ht : t.val < 8 := t.isLt
  blk_point [iblk, V_main_arg0, idx t]

/-- The keys' block. -/
theorem blk1_at (c : Dev nD) (t : Fin cfg0.N) (n : Fin 2048) (x : Fin 128) (h : 3072 + (128 * t.val + x.val) < 5120) :
    @Eq EReal (iblk m c 1 t (ix2 n x)) (m ((c : Thread nD τ).loc main_arg0) (ix2 n ⟨3072 + (128 * t.val + x.val), h⟩)) := by
  have ht : t.val < 8 := t.isLt
  blk_point [iblk, V_main_arg0, idx t]

/-- The values' block. -/
theorem blk2_at (c : Dev nD) (t : Fin cfg0.N) (n : Fin 2048) (x : Fin 128) (h : 4096 + (128 * t.val + x.val) < 5120) :
    @Eq EReal (iblk m c 2 t (ix2 n x)) (m ((c : Thread nD τ).loc main_arg0) (ix2 n ⟨4096 + (128 * t.val + x.val), h⟩)) := by
  have ht : t.val < 8 := t.isLt
  blk_point [iblk, V_main_arg0, idx t]

/-- The cotangent's block. -/
theorem blk4_at (c : Dev nD) (t : Fin cfg0.N) (n : Fin 2048) (x : Fin 128) (h : 128 * t.val + x.val < 1024) :
    @Eq EReal (iblk m c 4 t (ix2 n x)) (m ((c : Thread nD τ).loc main_arg2) (ix2 n ⟨128 * t.val + x.val, h⟩)) := by
  have ht : t.val < 8 := t.isLt
  blk_point [iblk, V_main_arg2, idx t]

/-- The table's block. -/
theorem blk3_at (c : Dev nD) (t : Fin cfg0.N) (h : Fin 2) (e : Fin 17) (d : Fin 64) (l : Fin 128) (hh : 2 * t.val + h.val < 16) :
    @Eq EReal (iblk m c 3 t (ix4 h e d l)) (tCat (tRow (m ((c : Thread nD τ).loc main_arg1))) (ix4 ⟨2 * t.val + h.val, hh⟩ e d l)) := by
  have ht : t.val < 8 := t.isLt
  rw [← table_eq m c]
  blk_point [iblk, idx t]

/-! ## A point's results -/

/-- The projections. -/
def aP (c : Dev nD) : FVec Ideal S2048x5120 .f32 := m ((c : Thread nD τ).loc main_arg0)
/-- The relative position biases. -/
def aR (c : Dev nD) : FVec Ideal S16x15x31 .f32 := m ((c : Thread nD τ).loc main_arg1)
/-- The cotangent of the output. -/
def aY (c : Dev nD) : FVec Ideal S2048x1024 .f32 := m ((c : Thread nD τ).loc main_arg2)

/-- The `h`-th head of grid point `t`. -/
def hd (t : Fin cfg0.N) (h : Fin 2) : Fin 16 := ⟨2 * t.val + h.val, by have ht : t.val < 8 := t.isLt; omega⟩

variable (c : Dev nD) (t : Fin cfg0.N)

/-- The queries of the point's heads. -/
theorem hQ_at (h : Fin 2) (n : Fin 2048) (d : Fin 64) :
    @Eq EReal (iblk m c 0 t (ix2 n ⟨64 * h.val + d.val, lane_lt h d⟩)) (qM (aP m c) (hd t h) n d) := by
  have ht : t.val < 8 := t.isLt
  refine (blk0_at m c t n ⟨64 * h.val + d.val, lane_lt h d⟩ (by show 2048 + (128 * t.val + (64 * h.val + d.val)) < 5120; omega)).trans ?_
  unfold qM aP
  exact congrArg (fun k => m ((c : Thread nD τ).loc main_arg0) (ix2 n k)) (Fin.ext (by show 2048 + (128 * t.val + (64 * h.val + d.val)) = 2048 + ((2 * t.val + h.val) * 64 + d.val); omega))

/-- The keys of the point's heads. -/
theorem hK_at (h : Fin 2) (n : Fin 2048) (d : Fin 64) :
    @Eq EReal (iblk m c 1 t (ix2 n ⟨64 * h.val + d.val, lane_lt h d⟩)) (kM (aP m c) (hd t h) n d) := by
  have ht : t.val < 8 := t.isLt
  refine (blk1_at m c t n ⟨64 * h.val + d.val, lane_lt h d⟩ (by show 3072 + (128 * t.val + (64 * h.val + d.val)) < 5120; omega)).trans ?_
  unfold kM aP
  exact congrArg (fun k => m ((c : Thread nD τ).loc main_arg0) (ix2 n k)) (Fin.ext (by show 3072 + (128 * t.val + (64 * h.val + d.val)) = 2048 + (1024 + ((2 * t.val + h.val) * 64 + d.val)); omega))

/-- The values of the point's heads. -/
theorem hV_at (h : Fin 2) (n : Fin 2048) (d : Fin 64) :
    @Eq EReal (iblk m c 2 t (ix2 n ⟨64 * h.val + d.val, lane_lt h d⟩)) (vM (aP m c) (hd t h) n d) := by
  have ht : t.val < 8 := t.isLt
  refine (blk2_at m c t n ⟨64 * h.val + d.val, lane_lt h d⟩ (by show 4096 + (128 * t.val + (64 * h.val + d.val)) < 5120; omega)).trans ?_
  unfold vM aP
  exact congrArg (fun k => m ((c : Thread nD τ).loc main_arg0) (ix2 n k)) (Fin.ext (by show 4096 + (128 * t.val + (64 * h.val + d.val)) = 2048 + (2048 + ((2 * t.val + h.val) * 64 + d.val)); omega))

/-- The cotangent of the point's heads. -/
theorem hD_at (h : Fin 2) (n : Fin 2048) (d : Fin 64) :
    @Eq EReal (iblk m c 4 t (ix2 n ⟨64 * h.val + d.val, lane_lt h d⟩)) (yM (aY m c) (hd t h) n d) := by
  have ht : t.val < 8 := t.isLt
  refine (blk4_at m c t n ⟨64 * h.val + d.val, lane_lt h d⟩ (by show 128 * t.val + (64 * h.val + d.val) < 1024; omega)).trans ?_
  unfold yM aY
  exact congrArg (fun k => m ((c : Thread nD τ).loc main_arg2) (ix2 n k)) (Fin.ext (by show 128 * t.val + (64 * h.val + d.val) = (2 * t.val + h.val) * 64 + d.val; omega))

/-- The table of the point's heads. -/
theorem hT_at (h : Fin 2) (s : Fin 8) (g : Fin 6) (j : Fin 4) (d : Fin 64) (l : Fin 128) :
    @Eq EReal (iblk m c 3 t (ix4 h ⟨entC s g j, entC_lt s g j⟩ d l))
      (mB (bM (aR m c) (hd t h)) (256 * s.val + (64 * j.val + d.val)) (64 * bs s + (128 * g.val + l.val))) :=
  (blk3_at m c t h _ d l (hd t h).isLt).trans (table_at (aR m c) (hd t h) s g j d l)

section Finite
variable (hf : Fin' (aP m c) (aR m c))

include hf in
/-- The query gradient of a point. -/
theorem at5_head (h : Fin 2) (n : Fin 2048) (d : Fin 64) :
    @Eq EReal (at5 m c t (ix2 n ⟨64 * h.val + d.val, lane_lt h d⟩)) (dQ (qM (aP m c) (hd t h)) (kM (aP m c) (hd t h)) (vM (aP m c) (hd t h)) (yM (aY m c) (hd t h)) (bM (aR m c) (hd t h)) n d) :=
  outW5_at (Q := fun h => qM (aP m c) (hd t h)) (K := fun h => kM (aP m c) (hd t h)) (V := fun h => vM (aP m c) (hd t h)) (D := fun h => yM (aY m c) (hd t h)) (B := fun h => bM (aR m c) (hd t h)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t)
    (hQ_at m c t) (hK_at m c t) (hV_at m c t) (hD_at m c t) (hT_at m c t) (fun h q => hf.good (hd t h) q) h n d

include hf in
/-- The query gradient of a point, by lane. -/
theorem at5_at (n : Fin 2048) (x : Fin 128) (hx : 128 * t.val + x.val < 1024) :
    @Eq EReal (at5 m c t (ix2 n x)) (gQ (aP m c) (aR m c) (aY m c) n ⟨128 * t.val + x.val, hx⟩) := by
  have ht : t.val < 8 := t.isLt
  have key := at5_head m c t hf
  clear hf
  have e1 : x = ⟨64 * (⟨x.val / 64, by omega⟩ : Fin 2).val + (⟨x.val % 64, by omega⟩ : Fin 64).val, lane_lt _ _⟩ := Fin.ext (by show x.val = 64 * (x.val / 64) + x.val % 64; omega)
  have e2 : (⟨(128 * t.val + x.val) / 64, by omega⟩ : Fin 16) = hd t ⟨x.val / 64, by omega⟩ := Fin.ext (by show (128 * t.val + x.val) / 64 = 2 * t.val + x.val / 64; omega)
  have e3 : (⟨(128 * t.val + x.val) % 64, by omega⟩ : Fin 64) = ⟨x.val % 64, by omega⟩ := Fin.ext (by show (128 * t.val + x.val) % 64 = x.val % 64; omega)
  refine (congrArg (fun k => at5 m c t (ix2 n k)) e1).trans ((key ⟨x.val / 64, by omega⟩ n ⟨x.val % 64, by omega⟩).trans ?_)
  unfold gQ
  show _ = dQ (qM _ ⟨(128 * t.val + x.val) / 64, _⟩) _ _ _ _ n ⟨(128 * t.val + x.val) % 64, _⟩
  rw [e2, e3]

include hf in
/-- The key gradient of a point. -/
theorem at6_head (h : Fin 2) (n : Fin 2048) (d : Fin 64) :
    @Eq EReal (at6 m c t (ix2 n ⟨64 * h.val + d.val, lane_lt h d⟩)) (dK (qM (aP m c) (hd t h)) (kM (aP m c) (hd t h)) (vM (aP m c) (hd t h)) (yM (aY m c) (hd t h)) (bM (aR m c) (hd t h)) n d) :=
  outW6_at (Q := fun h => qM (aP m c) (hd t h)) (K := fun h => kM (aP m c) (hd t h)) (V := fun h => vM (aP m c) (hd t h)) (D := fun h => yM (aY m c) (hd t h)) (B := fun h => bM (aR m c) (hd t h)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t)
    (hQ_at m c t) (hK_at m c t) (hV_at m c t) (hD_at m c t) (hT_at m c t) (fun h q => hf.good (hd t h) q) h n d

include hf in
/-- The key gradient of a point, by lane. -/
theorem at6_at (n : Fin 2048) (x : Fin 128) (hx : 128 * t.val + x.val < 1024) :
    @Eq EReal (at6 m c t (ix2 n x)) (gK (aP m c) (aR m c) (aY m c) n ⟨128 * t.val + x.val, hx⟩) := by
  have ht : t.val < 8 := t.isLt
  have key := at6_head m c t hf
  clear hf
  have e1 : x = ⟨64 * (⟨x.val / 64, by omega⟩ : Fin 2).val + (⟨x.val % 64, by omega⟩ : Fin 64).val, lane_lt _ _⟩ := Fin.ext (by show x.val = 64 * (x.val / 64) + x.val % 64; omega)
  have e2 : (⟨(128 * t.val + x.val) / 64, by omega⟩ : Fin 16) = hd t ⟨x.val / 64, by omega⟩ := Fin.ext (by show (128 * t.val + x.val) / 64 = 2 * t.val + x.val / 64; omega)
  have e3 : (⟨(128 * t.val + x.val) % 64, by omega⟩ : Fin 64) = ⟨x.val % 64, by omega⟩ := Fin.ext (by show (128 * t.val + x.val) % 64 = x.val % 64; omega)
  refine (congrArg (fun k => at6 m c t (ix2 n k)) e1).trans ((key ⟨x.val / 64, by omega⟩ n ⟨x.val % 64, by omega⟩).trans ?_)
  unfold gK
  show _ = dK (qM _ ⟨(128 * t.val + x.val) / 64, _⟩) _ _ _ _ n ⟨(128 * t.val + x.val) % 64, _⟩
  rw [e2, e3]

include hf in
/-- The value gradient of a point. -/
theorem at7_head (h : Fin 2) (n : Fin 2048) (d : Fin 64) :
    @Eq EReal (at7 m c t (ix2 n ⟨64 * h.val + d.val, lane_lt h d⟩)) (dV (qM (aP m c) (hd t h)) (kM (aP m c) (hd t h)) (yM (aY m c) (hd t h)) (bM (aR m c) (hd t h)) n d) :=
  outW7_at (Q := fun h => qM (aP m c) (hd t h)) (K := fun h => kM (aP m c) (hd t h)) (V := fun h => vM (aP m c) (hd t h)) (D := fun h => yM (aY m c) (hd t h)) (B := fun h => bM (aR m c) (hd t h)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t)
    (hQ_at m c t) (hK_at m c t) (hV_at m c t) (hD_at m c t) (hT_at m c t) (fun h q => hf.good (hd t h) q) h n d

include hf in
/-- The value gradient of a point, by lane. -/
theorem at7_at (n : Fin 2048) (x : Fin 128) (hx : 128 * t.val + x.val < 1024) :
    @Eq EReal (at7 m c t (ix2 n x)) (gV (aP m c) (aR m c) (aY m c) n ⟨128 * t.val + x.val, hx⟩) := by
  have ht : t.val < 8 := t.isLt
  have key := at7_head m c t hf
  clear hf
  have e1 : x = ⟨64 * (⟨x.val / 64, by omega⟩ : Fin 2).val + (⟨x.val % 64, by omega⟩ : Fin 64).val, lane_lt _ _⟩ := Fin.ext (by show x.val = 64 * (x.val / 64) + x.val % 64; omega)
  have e2 : (⟨(128 * t.val + x.val) / 64, by omega⟩ : Fin 16) = hd t ⟨x.val / 64, by omega⟩ := Fin.ext (by show (128 * t.val + x.val) / 64 = 2 * t.val + x.val / 64; omega)
  have e3 : (⟨(128 * t.val + x.val) % 64, by omega⟩ : Fin 64) = ⟨x.val % 64, by omega⟩ := Fin.ext (by show (128 * t.val + x.val) % 64 = x.val % 64; omega)
  refine (congrArg (fun k => at7 m c t (ix2 n k)) e1).trans ((key ⟨x.val / 64, by omega⟩ n ⟨x.val % 64, by omega⟩).trans ?_)
  unfold gV
  show _ = dV (qM _ ⟨(128 * t.val + x.val) / 64, _⟩) _ _ _ n ⟨(128 * t.val + x.val) % 64, _⟩
  rw [e2, e3]

include hf in
/-- The transposed gradients of a point. -/
theorem at8_head (h : Fin 2) (z : Fin 3) (d : Fin 64) (n : Fin 2048) :
    @Eq EReal (at8 m c t (ix3 z ⟨64 * h.val + d.val, lane_lt h d⟩ n))
      (if z.val = 0 then dQ (qM (aP m c) (hd t h)) (kM (aP m c) (hd t h)) (vM (aP m c) (hd t h)) (yM (aY m c) (hd t h)) (bM (aR m c) (hd t h)) n d else if z.val = 1 then dK (qM (aP m c) (hd t h)) (kM (aP m c) (hd t h)) (vM (aP m c) (hd t h)) (yM (aY m c) (hd t h)) (bM (aR m c) (hd t h)) n d else dV (qM (aP m c) (hd t h)) (kM (aP m c) (hd t h)) (yM (aY m c) (hd t h)) (bM (aR m c) (hd t h)) n d) :=
  outW8_at (Q := fun h => qM (aP m c) (hd t h)) (K := fun h => kM (aP m c) (hd t h)) (V := fun h => vM (aP m c) (hd t h)) (D := fun h => yM (aY m c) (hd t h)) (B := fun h => bM (aR m c) (hd t h)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t)
    (hQ_at m c t) (hK_at m c t) (hV_at m c t) (hD_at m c t) (hT_at m c t) (fun h q => hf.good (hd t h) q) h z d n

include hf in
/-- The transposed gradients of a point, by row. -/
theorem at8_at (z : Fin 3) (x : Fin 128) (n : Fin 2048) (hx : 128 * t.val + x.val < 1024) :
    @Eq EReal (at8 m c t (ix3 z x n)) (oT (aP m c) (aR m c) (aY m c) (ix3 z ⟨128 * t.val + x.val, hx⟩ n)) := by
  have ht : t.val < 8 := t.isLt
  have key := at8_head m c t hf
  clear hf
  have e1 : x = ⟨64 * (⟨x.val / 64, by omega⟩ : Fin 2).val + (⟨x.val % 64, by omega⟩ : Fin 64).val, lane_lt _ _⟩ := Fin.ext (by show x.val = 64 * (x.val / 64) + x.val % 64; omega)
  have e2 : (⟨(128 * t.val + x.val) / 64, by omega⟩ : Fin 16) = hd t ⟨x.val / 64, by omega⟩ := Fin.ext (by show (128 * t.val + x.val) / 64 = 2 * t.val + x.val / 64; omega)
  have e3 : (⟨(128 * t.val + x.val) % 64, by omega⟩ : Fin 64) = ⟨x.val % 64, by omega⟩ := Fin.ext (by show (128 * t.val + x.val) % 64 = x.val % 64; omega)
  refine (congrArg (fun k => at8 m c t (ix3 z k n)) e1).trans ((key ⟨x.val / 64, by omega⟩ z ⟨x.val % 64, by omega⟩ n).trans ?_)
  show _ = if z.val = 0 then gQ (aP m c) (aR m c) (aY m c) n ⟨128 * t.val + x.val, hx⟩ else if z.val = 1 then gK (aP m c) (aR m c) (aY m c) n ⟨128 * t.val + x.val, hx⟩ else gV (aP m c) (aR m c) (aY m c) n ⟨128 * t.val + x.val, hx⟩
  unfold gQ gK gV
  dsimp only
  rw [e2, e3]

end Finite

/-! ## The whole call -/

section Whole
variable (hf : Fin' (aP m c) (aR m c))

include hf in
/-- The query gradient after the call. -/
theorem end5 : (dats m 0 c).arrAt 5 cfg0.N = oQ (aP m c) (aR m c) (aY m c) := by
  refine (dats m 0 c).arrAt_eq_of_covers 5 _ (by decide +kernel) fun t _ y => ?_
  have ht : t.val < 8 := t.isLt
  have hy : (y 1).val < 128 := (y 1).isLt
  blk_simp
  rw [after0_5]
  refine ((congrArg (at5 m c t) (ValueIdx.eq_ix2 y)).trans (at5_at m c t hf (y 0) (y 1) (by omega))).trans ?_
  show oQ (aP m c) (aR m c) (aY m c) (ix2 (y 0) ⟨128 * t.val + (y 1).val, by omega⟩) = _
  generalize oQ (aP m c) (aR m c) (aY m c) = X
  blk_ext [idx t]

include hf in
/-- The key gradient after the call. -/
theorem end6 : (dats m 0 c).arrAt 6 cfg0.N = oK (aP m c) (aR m c) (aY m c) := by
  refine (dats m 0 c).arrAt_eq_of_covers 6 _ (by decide +kernel) fun t _ y => ?_
  have ht : t.val < 8 := t.isLt
  have hy : (y 1).val < 128 := (y 1).isLt
  blk_simp
  rw [after0_6]
  refine ((congrArg (at6 m c t) (ValueIdx.eq_ix2 y)).trans (at6_at m c t hf (y 0) (y 1) (by omega))).trans ?_
  show oK (aP m c) (aR m c) (aY m c) (ix2 (y 0) ⟨128 * t.val + (y 1).val, by omega⟩) = _
  generalize oK (aP m c) (aR m c) (aY m c) = X
  blk_ext [idx t]

include hf in
/-- The value gradient after the call. -/
theorem end7 : (dats m 0 c).arrAt 7 cfg0.N = oV (aP m c) (aR m c) (aY m c) := by
  refine (dats m 0 c).arrAt_eq_of_covers 7 _ (by decide +kernel) fun t _ y => ?_
  have ht : t.val < 8 := t.isLt
  have hy : (y 1).val < 128 := (y 1).isLt
  blk_simp
  rw [after0_7]
  refine ((congrArg (at7 m c t) (ValueIdx.eq_ix2 y)).trans (at7_at m c t hf (y 0) (y 1) (by omega))).trans ?_
  show oV (aP m c) (aR m c) (aY m c) (ix2 (y 0) ⟨128 * t.val + (y 1).val, by omega⟩) = _
  generalize oV (aP m c) (aR m c) (aY m c) = X
  blk_ext [idx t]

include hf in
/-- The transposed gradients after the call. -/
theorem end8 : (dats m 0 c).arrAt 8 cfg0.N = oT (aP m c) (aR m c) (aY m c) := by
  refine (dats m 0 c).arrAt_eq_of_covers 8 _ (by decide +kernel) fun t _ y => ?_
  have ht : t.val < 8 := t.isLt
  have hy : (y 1).val < 128 := (y 1).isLt
  blk_simp
  rw [after0_8]
  refine ((congrArg (at8 m c t) (ValueIdx.eq_ix3 y)).trans (at8_at m c t hf (y 0) (y 1) (y 2) (by omega))).trans ?_
  generalize oT (aP m c) (aR m c) (aY m c) = X
  blk_ext [idx t]

end Whole

/-! ## The run and the reference -/

/-- The compared word says that the element is a real number. -/
theorem real_of_lt (x : Ideal .f32)
    (h : FloatOps.cmpf .olt (FloatOps.hostAbsf x) (FloatOps.ofBits (F := Ideal) .f32 0x7F800000#32) = 1#1) : IsR x := by
  have htop : Ideal.ofBits .f32 0x7F800000#32 = ⊤ := by simp [Ideal.ofBits, Ideal.ieee]
  have h' : BitVec.ofBool (decide (max (x : EReal) (-(x : EReal)) < Ideal.ofBits .f32 0x7F800000#32)) = 1#1 := h
  rw [htop] at h'
  have hlt : max (x : EReal) (-(x : EReal)) < ⊤ := by
    by_contra hn
    rw [decide_eq_false hn] at h'
    exact absurd h' (by decide)
  have h1 : (x : EReal) ≠ ⊤ := fun e => absurd hlt (by rw [e]; simp)
  have h2 : (x : EReal) ≠ ⊥ := fun e => absurd hlt (by rw [e]; simp)
  exact ⟨(x : EReal).toReal, (EReal.coe_toReal h1 h2).symm⟩

/-- The printed precondition says that the queries, the keys and the biases are real numbers. -/
theorem finite (h : Cert.Pre_KernelIdeal_finite_scores (hPre_finite_scores := Cert.Pre_finite_scores.Gen.facts) m) (c : Dev nD) :
    Fin' (aP m c) (aR m c) := by
  obtain ⟨h1, h2⟩ := h c
  have hP : ∀ (n : Fin 2048) (x : Fin 2048), IsR (aP m c (ix2 n ⟨2048 + x.val, by omega⟩)) := fun n x => real_of_lt _ (by
    refine Eq.trans ?_ (congrFun h1 (ix2 n x))
    pointwise [Cert.Pre_finite_scores.fn]
    rfl)
  refine ⟨fun h q d => hP q ⟨h.val * 64 + d.val, by omega⟩, fun h q d => hP q ⟨1024 + (h.val * 64 + d.val), by omega⟩, fun h a b => ?_⟩
  exact real_of_lt _ (congrFun h2 (ix3 h ⟨min a 14, by omega⟩ ⟨min b 30, by omega⟩))

/-- Every execution of the call ends with the four gradients and the arguments unchanged. -/
theorem run (ρ : Dev nD → PrngReg) (hf : ∀ c, Fin' (aP m c) (aR m c)) :
    θ_run defs (onTc (τ := τ) (main (F := Ideal))) ⟨m, fun _ => 0, ρ⟩ (fun r => ∀ c : Dev nD,
      r.2.mem ((c.tc : Thread nD τ).loc main_v51_0) = oQ (aP m c) (aR m c) (aY m c)
      ∧ r.2.mem ((c.tc : Thread nD τ).loc main_v51_1) = oK (aP m c) (aR m c) (aY m c)
      ∧ r.2.mem ((c.tc : Thread nD τ).loc main_v51_2) = oV (aP m c) (aR m c) (aY m c)
      ∧ r.2.mem ((c.tc : Thread nD τ).loc main_v51_3) = oT (aP m c) (aR m c) (aY m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 5).trans (end5 m c (hf c)), ((h.1 c).1 6).trans (end6 m c (hf c)),
    ((h.1 c).1 7).trans (end7 m c (hf c)), ((h.1 c).1 8).trans (end8 m c (hf c)), (h.2 c).1, (h.2 c).2.1, (h.2 c).2.2⟩)
    (θ_run_and (run_main m ρ) (unchanged m ρ))

/-- The reference, from memories agreeing on the arguments, ends with the same four arrays. -/
theorem reference (m' : (ℓ : Loc Cert.ReferenceIdeal.nD Cert.ReferenceIdeal.τ Cert.ReferenceIdeal.sig) → Buf (Elt Ideal) ℓ)
    (g : Dev Cert.ReferenceIdeal.nD → PrngReg) (hf : ∀ c, Fin' (aP m c) (aR m c))
    (hag : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)) :
    θ_run (Cert.ReferenceIdeal.defs (F := Ideal)) (onTc (τ := Cert.ReferenceIdeal.τ) (Cert.ReferenceIdeal.main (F := Ideal))) ⟨m', fun _ => 0, g⟩
      (fun r => ∀ c : Dev Cert.ReferenceIdeal.nD,
        r.2.mem ((c.tc : Thread Cert.ReferenceIdeal.nD Cert.ReferenceIdeal.τ).loc Cert.ReferenceIdeal.main_v143) = oQ (aP m c) (aR m c) (aY m c)
        ∧ r.2.mem ((c.tc : Thread Cert.ReferenceIdeal.nD Cert.ReferenceIdeal.τ).loc Cert.ReferenceIdeal.main_v144) = oK (aP m c) (aR m c) (aY m c)
        ∧ r.2.mem ((c.tc : Thread Cert.ReferenceIdeal.nD Cert.ReferenceIdeal.τ).loc Cert.ReferenceIdeal.main_v145) = oV (aP m c) (aR m c) (aY m c)
        ∧ r.2.mem ((c.tc : Thread Cert.ReferenceIdeal.nD Cert.ReferenceIdeal.τ).loc Cert.ReferenceIdeal.main_v152) = oT (aP m c) (aR m c) (aY m c)
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) := by
  have hf' : ∀ c : Dev Cert.ReferenceIdeal.nD, Fin' (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) := fun c => by
    rw [(hag c).1, (hag c).2.1]; exact hf c
  refine (θ_run _ _ _).mono (fun r h c => ?_) (Cert.ReferenceIdeal.Value.reference m' g hf')
  obtain ⟨h0, h1, h2, h3, hargs⟩ := h c
  obtain ⟨e0, e1, e2⟩ := hag c
  rw [e0, e1, e2] at h0 h1 h2 h3
  exact ⟨h0, h1, h2, h3, hargs⟩

end Cert.KernelIdeal.Value
end
-- ==== Proof.FfnForward.lean ====
module

public import proofs.«01_k».proof.Proof.Gen.FfnIdeal.Frame
public import Idealize.ShloMosaic.Lib.Pipeline.ValueKit

/-!
# What the five calls of the feed-forward program leave, array by array

Each call is read at arbitrary entry contents `V`: every entry of its result arrays is written as sums and products of
entries of its operand arrays, over the extended reals (where a change of float format is the identity).
-/

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

/-! ## The formulas -/

/-- The sigmoid `1 / (1 + exp (-g))`. -/
def sigm (g : EReal) : EReal := Ideal.div 1 (1 + Ideal.exp (0 - g))

/-- The gradient that reaches the gate: `dh · up · σ(g) (1 + g (1 − σ(g)))`. -/
def gateGrad (dh g up : EReal) : EReal := dh * up * (sigm g * (1 + g * (1 - sigm g)))

/-- The gradient that reaches the up projection: `dh · silu(g)`. -/
def upGrad (dh g : EReal) : EReal := dh * (g * sigm g)

/-- Entry `(i, j)` of `x` times the transpose of half `a` of the transposed input weights. -/
def projOf (a : Fin 2) (x : FVec Ideal S2048x2048 .bf16) (w : FVec Ideal S2x5632x2048 .bf16) (i : Fin 2048) (j : Fin 5632) :
    EReal :=
  ∑ k : Fin 2048, (x (ix2 i k) * w (ix3 a j k) : EReal)

/-- Entry `(i, j)` of the hidden layer: `silu(gate) · up`. -/
def hidOf (x : FVec Ideal S2048x2048 .bf16) (w : FVec Ideal S2x5632x2048 .bf16) (i : Fin 2048) (j : Fin 5632) : EReal :=
  projOf 0 x w i j * sigm (projOf 0 x w i j) * projOf 1 x w i j

/-- Entry `(i, j)` of the gradient of the hidden layer: `df` times the transpose of the output weights. -/
def dhidOf (df : FVec Ideal S2048x2048 .bf16) (wo : FVec Ideal S5632x2048 .bf16) (i : Fin 2048) (j : Fin 5632) : EReal :=
  ∑ n : Fin 2048, (df (ix2 i n) * wo (ix2 j n) : EReal)

/-- Entry `(i, j)` of a matrix product. -/
def prodOf {M K N : Nat} (x : FVec Ideal ⟨2, ![M, K]⟩ .bf16) (y : FVec Ideal ⟨2, ![K, N]⟩ .bf16) (i : Fin M) (j : Fin N) : EReal :=
  ∑ k : Fin K, (x (ix2 i k) * y (ix2 k j) : EReal)

variable (V : (c : Dev nD) → (b : Ref sig .tc) → Buf (Elt Ideal) ((c : Thread nD τ).loc b))

/-! ## The hidden layer -/

/-- The blocks of the hidden layer's call at each grid point. -/
theorem idx0 : ∀ t : Fin cfg0.N, win0_0.index t = ![t.val / 11, 0] ∧ win0_1.index t = ![0, t.val % 11, 0]
    ∧ win0_2.index t = ![t.val / 11, t.val % 11] ∧ win0_3.index t = ![t.val / 11, t.val % 11]
    ∧ win0_4.index t = ![t.val / 11, t.val % 11] ∧ win0_5.index t = ![t.val % 11, t.val / 11] :=
  (by decide +kernel : ∀ t : Fin grid0.N, _)

/-- The first result is the gate projection. -/
theorem gate_at (c : Dev nD) : (dat0 V c).arrAt 2 cfg0.N
    = (fun i => projOf 0 (V c main_v0) (V c main_v5) (i 0) (i 1) : FVec Ideal S2048x5632 .bf16) := by
  refine (dat0 V c).arrAt_eq_of_covers 2 _ (by decide +kernel) fun t _ y => ?_
  blk_simp
  rw [after0_2]; frame_out
  pointwise [k0_pay4, k0_pay2, k0_pay1, projOf]
  blk_point [iblk0, idx0 t]

/-- The second result is the up projection. -/
theorem up_at (c : Dev nD) : (dat0 V c).arrAt 3 cfg0.N
    = (fun i => projOf 1 (V c main_v0) (V c main_v5) (i 0) (i 1) : FVec Ideal S2048x5632 .bf16) := by
  refine (dat0 V c).arrAt_eq_of_covers 3 _ (by decide +kernel) fun t _ y => ?_
  blk_simp
  rw [after0_3]; frame_out
  pointwise [k0_pay5, k0_pay3, k0_pay1, projOf]
  blk_point [iblk0, idx0 t]

/-- The third result is the hidden layer. -/
theorem hid_at (c : Dev nD) : (dat0 V c).arrAt 4 cfg0.N
    = (fun i => hidOf (V c main_v0) (V c main_v5) (i 0) (i 1) : FVec Ideal S2048x5632 .bf16) := by
  refine (dat0 V c).arrAt_eq_of_covers 4 _ (by decide +kernel) fun t _ y => ?_
  blk_simp
  rw [after0_4]; frame_out
  pointwise [k0_pay7, k0_pay6, k0_pay3, k0_pay2, k0_pay1, hidOf, sigm, projOf]
  blk_point [iblk0, idx0 t]

/-- The fourth result is the hidden layer transposed. -/
theorem hidT_at (c : Dev nD) : (dat0 V c).arrAt 5 cfg0.N
    = (fun i => hidOf (V c main_v0) (V c main_v5) (i 1) (i 0) : FVec Ideal S5632x2048 .bf16) := by
  refine (dat0 V c).arrAt_eq_of_covers 5 _ (by decide +kernel) fun t _ y => ?_
  blk_simp
  rw [after0_5]; frame_out
  pointwise [k0_pay8, k0_pay6, k0_pay3, k0_pay2, k0_pay1, hidOf, sigm, projOf]
  blk_point [iblk0, idx0 t]

/-! ## The output product and the two gradients of weights -/

/-- The blocks of the output product at each grid point. -/
theorem idx1 : ∀ t : Fin cfg1.N, win1_0.index t = ![t.val / 4, 0] ∧ win1_1.index t = ![0, t.val % 4]
    ∧ win1_2.index t = ![t.val / 4, t.val % 4] ∧ win1_3.index t = ![t.val / 4, t.val % 4] :=
  (by decide +kernel : ∀ t : Fin grid1.N, _)

/-- The output: the residual plus half of the hidden layer times the output weights. -/
theorem out_at (c : Dev nD) : (dat1 V c).arrAt 3 cfg1.N
    = (addf (V c main_arg3 : FVec Ideal S2048x2048 .f32) (mulf (broadcast S2048x2048 (Scalar.ofBits .f32 0x3F000000#32))
        (fun i => prodOf (M := 2048) (K := 5632) (N := 2048) (V c main_v6_2) (V c main_v3) (i 0) (i 1))) : FVec Ideal S2048x2048 .f32) := by
  refine (dat1 V c).arrAt_eq_of_covers 3 _ (by decide +kernel) fun t _ y => ?_
  blk_simp
  rw [after1_3]; frame_out
  pointwise [k1_pay1, prodOf]
  blk_point [iblk1, idx1 t]

/-- The blocks of the gradient of the output weights at each grid point. -/
theorem idx2 : ∀ t : Fin cfg2.N, win2_0.index t = ![t.val, 0] ∧ win2_1.index t = ![0, 0] ∧ win2_2.index t = ![t.val, 0] :=
  (by decide +kernel : ∀ t : Fin grid2.N, _)

/-- The gradient of the output weights: the transposed hidden layer times the incoming gradient. -/
theorem outGrad_at (c : Dev nD) : (dat2 V c).arrAt 2 cfg2.N
    = (fun i => prodOf (M := 5632) (K := 2048) (N := 2048) (V c main_v6_3) (V c main_v4) (i 0) (i 1) : FVec Ideal S5632x2048 .bf16) := by
  refine (dat2 V c).arrAt_eq_of_covers 2 _ (by decide +kernel) fun t _ y => ?_
  blk_simp
  rw [after2_2]; frame_out
  pointwise [k2_pay1, prodOf]
  blk_point [iblk2, idx2 t]

/-- The blocks of the gradient of the input weights at each grid point. -/
theorem idx4 : ∀ t : Fin cfg4.N, win4_0.index t = ![t.val, 0] ∧ win4_1.index t = ![0, 0] ∧ win4_2.index t = ![t.val, 0] :=
  (by decide +kernel : ∀ t : Fin grid4.N, _)

/-- The gradient of the input weights, transposed: the transposed gradients of gate and up times the input. -/
theorem inGrad_at (c : Dev nD) : (dat4 V c).arrAt 2 cfg4.N
    = (fun i => prodOf (M := 11264) (K := 2048) (N := 2048) (V c main_v11) (V c main_v0) (i 0) (i 1) : FVec Ideal S11264x2048 .bf16) := by
  refine (dat4 V c).arrAt_eq_of_covers 2 _ (by decide +kernel) fun t _ y => ?_
  blk_simp
  rw [after4_2]; frame_out
  pointwise [k4_pay1, prodOf]
  blk_point [iblk4, idx4 t]

end Cert.FfnIdeal.Value
end
-- ==== Proof.FfnBackward.lean ====
module

public import proofs.«01_k».proof.Proof.FfnForward

/-!
# The backward call of the feed-forward program

The call walks eleven column blocks of the hidden layer per block of tokens; it stores the transposed gradients of gate and
up block by block, and sums the gradient of the input over the eleven blocks in its first result.
-/

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

/-- Entry `(i, j)` of the gradient of the gate. -/
def dgOf (df : FVec Ideal S2048x2048 .bf16) (g up : FVec Ideal S2048x5632 .bf16) (wo : FVec Ideal S5632x2048 .bf16)
    (i : Fin 2048) (j : Fin 5632) : EReal :=
  gateGrad (dhidOf df wo i j) (g (ix2 i j)) (up (ix2 i j))

/-- Entry `(i, j)` of the gradient of the up projection. -/
def dupOf (df : FVec Ideal S2048x2048 .bf16) (g : FVec Ideal S2048x5632 .bf16) (wo : FVec Ideal S5632x2048 .bf16)
    (i : Fin 2048) (j : Fin 5632) : EReal :=
  upGrad (dhidOf df wo i j) (g (ix2 i j))

variable (V : (c : Dev nD) → (b : Ref sig .tc) → Buf (Elt Ideal) ((c : Thread nD τ).loc b))

/-- The blocks of the backward call at each grid point. -/
theorem idx3 : ∀ t : Fin cfg3.N, win3_0.index t = ![t.val / 11, 0] ∧ win3_1.index t = ![t.val / 11, t.val % 11]
    ∧ win3_2.index t = ![t.val / 11, t.val % 11] ∧ win3_3.index t = ![0, t.val % 11, 0] ∧ win3_4.index t = ![t.val % 11, 0]
    ∧ win3_5.index t = ![t.val / 11, 0] ∧ win3_6.index t = ![0, t.val % 11, t.val / 11] :=
  (by decide +kernel : ∀ t : Fin grid3.N, _)

/-- What one grid point stores: the transposed gradient of the gate in plane 0, that of the up projection in plane 1. -/
theorem pieces (df : FVec Ideal S1024x2048 .bf16) (wo : FVec Ideal S512x2048 .bf16) (g up : FVec Ideal S1024x512 .bf16)
    (y : S2x512x1024.Idx) :
    View.canon (Val := Elt Ideal) (e := .bf16)
      [⟨Rect.unit ![1, 0, 0] ![1, 512, 1024] inb_S2x512x1024_S1x512x1024_1_0_0, k3_pay1 (F := Ideal) (k3_pay10 df wo g)⟩,
        ⟨Rect.unit ![0, 0, 0] ![1, 512, 1024] inb_S2x512x1024_S1x512x1024_0_0_0, k3_pay9 (F := Ideal) df wo g up⟩] y
      = (if (y 0).val = 0 then gateGrad (∑ n : Fin 2048, (df (ix2 (y 2) n) * wo (ix2 (y 1) n) : EReal)) (g (ix2 (y 2) (y 1))) (up (ix2 (y 2) (y 1)))
        else upGrad (∑ n : Fin 2048, (df (ix2 (y 2) n) * wo (ix2 (y 1) n) : EReal)) (g (ix2 (y 2) (y 1))) : EReal) := by
  canon_tiles x h
  · rw [if_neg (by omega)]
    pointwise [k3_pay1, k3_pay10, k3_pay7, k3_pay4, k3_pay5, k3_pay6, upGrad, sigm]
    blk_point []
  · rw [if_pos (by omega)]
    pointwise [k3_pay9, k3_pay8, k3_pay4, k3_pay5, k3_pay6, gateGrad, sigm]
    blk_point []

theorem daT_at (c : Dev nD) : (dat3 V c).arrAt 6 cfg3.N
    = (fun i => if (i 0).val = 0 then dgOf (V c main_v4) (V c main_v6_0) (V c main_v6_1) (V c main_v3) (i 2) (i 1)
        else dupOf (V c main_v4) (V c main_v6_0) (V c main_v3) (i 2) (i 1) : FVec Ideal S2x5632x2048 .bf16) := by
  refine (dat3 V c).arrAt_eq_of_covers 6 _ (by decide +kernel) fun t _ y => ?_
  blk_simp
  rw [after3_6]
  have key : (outsAt3 V c t.val t.isLt).2 = View.canon (Val := Elt Ideal) (e := .bf16)
      [⟨Rect.unit ![1, 0, 0] ![1, 512, 1024] inb_S2x512x1024_S1x512x1024_1_0_0, k3_pay1 (k3_pay10 (iblk3 V c 0 t) (iblk3 V c 4 t) (iblk3 V c 1 t))⟩,
        ⟨Rect.unit ![0, 0, 0] ![1, 512, 1024] inb_S2x512x1024_S1x512x1024_0_0_0, k3_pay9 (iblk3 V c 0 t) (iblk3 V c 4 t) (iblk3 V c 1 t) (iblk3 V c 2 t)⟩] := by
    by_cases h : t.val % 11 = 0
    · rw [outsAt3_A V c t h]; frame_out
    · rw [outsAt3_B V c t h]; frame_out
  rw [key, pieces]
  unfold dgOf dupOf gateGrad upGrad sigm dhidOf
  blk_simp [idx3 t]
  split_ifs
  · blk_point [iblk3, idx3 t]
  · blk_point [iblk3, idx3 t]

/-- What one grid point adds to the gradient of the input. -/
theorem hpay (acc : FVec Ideal S1024x2048 .f32) (df : FVec Ideal S1024x2048 .bf16) (wo : FVec Ideal S512x2048 .bf16)
    (g up : FVec Ideal S1024x512 .bf16) (w : FVec Ideal S2x512x2048 .bf16) (j) :
    k3_pay2 (F := Ideal) (k3_pay7 df wo g) (k3_pay8 df wo g up) acc
        (View.ld (w : S2x512x2048.Idx → Elt Ideal .bf16) (Rect.unit (s := S2x512x2048) ![0, 0, 0] ![1, 512, 2048] inb_S2x512x2048_S1x512x2048_0_0_0))
        (View.ld (w : S2x512x2048.Idx → Elt Ideal .bf16) (Rect.unit (s := S2x512x2048) ![1, 0, 0] ![1, 512, 2048] inb_S2x512x2048_S1x512x2048_1_0_0)) j
      = (acc j + ∑ x : Fin 512, (gateGrad (∑ n : Fin 2048, (df (ix2 (j 0) n) * wo (ix2 x n) : EReal)) (g (ix2 (j 0) x)) (up (ix2 (j 0) x)) * w (ix3 0 x (j 1))
          + upGrad (∑ n : Fin 2048, (df (ix2 (j 0) n) * wo (ix2 x n) : EReal)) (g (ix2 (j 0) x)) * w (ix3 1 x (j 1))) : EReal) := by
  pointwise [k3_pay2, k3_pay7, k3_pay8, k3_pay4, k3_pay5, k3_pay6, gateGrad, upGrad, sigm]
  rw [Finset.sum_add_distrib]

/-- The cleared accumulator. -/
theorem hzero (j) : k3_pay3 (F := Ideal) j = 0 := by pointwise [k3_pay3]

theorem du_at (c : Dev nD) : (dat3 V c).arrAt 5 cfg3.N
    = (fun i => ∑ j : Fin 5632, (dgOf (V c main_v4) (V c main_v6_0) (V c main_v6_1) (V c main_v3) (i 0) j
          * (V c main_v9 : FVec Ideal S2x5632x2048 .bf16) (ix3 0 j (i 1))
        + dupOf (V c main_v4) (V c main_v6_0) (V c main_v3) (i 0) j
          * (show FVec Ideal S2x5632x2048 .bf16 from V c main_v9) (ix3 1 j (i 1)) : EReal) : FVec Ideal S2048x2048 .f32) := by
  refine (dat3 V c).arrAt_eq_of_covers 5 _ (by decide +kernel) fun t hf y => ?_
  blk_simp
  rw [after3_5, Pipeline.eq_sum_fin_of_reset_step_apply_of_flush (fun n h => (outsAt3 V c n h).1) 11 (fun _ => 0) _
    (fun t h j => by rw [outsAt3_A V c t h]; frame_out; rw [hpay, hzero])
    (fun t h j => by rw [outsAt3_B V c t h]; frame_out; rw [hpay])
    t ((flush3_5 t).mp hf) _, zero_add]
  refine Fin.sum_mul_add_congr fun s k hl => ?_
  unfold dgOf dupOf gateGrad upGrad sigm dhidOf
  blk_point [iblk3, idx3 t, idx3 ⟨_, Pipeline.run_point_lt_of_flush t ((flush3_5 t).mp hf) s⟩]

end Cert.FfnIdeal.Value
end
-- ==== Proof.FfnRun.lean ====
module

public import proofs.«01_k».proof.Proof.FfnBackward

/-!
# The whole feed-forward program: its results as functions of its arguments

The contents of every buffer between two calls are followed from the launch to the end, so that each result is written
with the formulas of the calls over the arguments alone.
-/

@[expose] public section

set_option maxRecDepth 16384

noncomputable section

namespace Cert.FfnIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable (m : (ℓ : Loc nD τ sig) → Buf (Elt Ideal) ℓ) (ρ : Dev nD → PrngReg)

/-! ## The arguments as the calls read them -/

/-- The input rows. -/
def argX (c : Dev nD) : FVec Ideal S2048x2048 .bf16 := truncf .bf16 (m ((c : Thread nD τ).loc main_arg0)) bitsLt_bf16_f32

/-- The output weights. -/
def argO (c : Dev nD) : FVec Ideal S5632x2048 .bf16 := truncf .bf16 (m ((c : Thread nD τ).loc main_arg2)) bitsLt_bf16_f32

/-- The incoming gradient. -/
def argD (c : Dev nD) : FVec Ideal S2048x2048 .bf16 := truncf .bf16 (m ((c : Thread nD τ).loc main_arg4)) bitsLt_bf16_f32

/-- The input weights, transposed and split into the gate's half and the up projection's. -/
def argW (c : Dev nD) : FVec Ideal S2x5632x2048 .bf16 :=
  shapeCast S2x5632x2048 (truncf .bf16 (transpose S11264x2048 [1, 0] (m ((c : Thread nD τ).loc main_arg1))
    transposes_S2048x11264_S11264x2048_1_0) bitsLt_bf16_f32) shapeCasts_S11264x2048_S2x5632x2048

theorem V1_v0 (c : Dev nD) : V1 m ρ c main_v0 = argX m c := by
  unfold argX; show StableHlo.after _ _ _ = _; after_results
theorem V1_v3 (c : Dev nD) : V1 m ρ c main_v3 = argO m c := by
  unfold argO; show StableHlo.after _ _ _ = _; after_results
theorem V1_v4 (c : Dev nD) : V1 m ρ c main_v4 = argD m c := by
  unfold argD; show StableHlo.after _ _ _ = _; after_results
theorem V1_v5 (c : Dev nD) : V1 m ρ c main_v5 = argW m c := by
  unfold argW; show StableHlo.after _ _ _ = _; after_results; rfl
theorem V1_v2 (c : Dev nD) : V1 m ρ c main_v2 = (truncf .bf16 (transpose S11264x2048 [1, 0] (m ((c : Thread nD τ).loc main_arg1))
    transposes_S2048x11264_S11264x2048_1_0) bitsLt_bf16_f32 : FVec Ideal S11264x2048 .bf16) := by
  show StableHlo.after _ _ _ = _; after_results

/-! ## Between the calls -/

theorem V2_hid (c : Dev nD) : V2 m ρ c main_v6_2 = (fun i => hidOf (argX m c) (argW m c) (i 0) (i 1) : FVec Ideal S2048x5632 .bf16) := by
  rw [← V1_v0 m ρ c, ← V1_v5 m ρ c]; exact (W2_arr m ρ c 4).trans (hid_at (V1 m ρ) c)
theorem V2_hidT (c : Dev nD) : V2 m ρ c main_v6_3 = (fun i => hidOf (argX m c) (argW m c) (i 1) (i 0) : FVec Ideal S5632x2048 .bf16) := by
  rw [← V1_v0 m ρ c, ← V1_v5 m ρ c]; exact (W2_arr m ρ c 5).trans (hidT_at (V1 m ρ) c)
theorem V2_gate (c : Dev nD) : V2 m ρ c main_v6_0 = (fun i => projOf 0 (argX m c) (argW m c) (i 0) (i 1) : FVec Ideal S2048x5632 .bf16) := by
  rw [← V1_v0 m ρ c, ← V1_v5 m ρ c]; exact (W2_arr m ρ c 2).trans (gate_at (V1 m ρ) c)
theorem V2_up (c : Dev nD) : V2 m ρ c main_v6_1 = (fun i => projOf 1 (argX m c) (argW m c) (i 0) (i 1) : FVec Ideal S2048x5632 .bf16) := by
  rw [← V1_v0 m ρ c, ← V1_v5 m ρ c]; exact (W2_arr m ρ c 3).trans (up_at (V1 m ρ) c)

/-- What the first call finds in a buffer it does not write, the second finds too. -/
theorem V2_v3 (c : Dev nD) : V2 m ρ c main_v3 = argO m c := (W2_of m ρ c main_v3 (by decide)).trans (V1_v3 m ρ c)
theorem V2_arg3 (c : Dev nD) : V2 m ρ c main_arg3 = m ((c : Thread nD τ).loc main_arg3) := W2_args m ρ c main_arg3 (by decide)
theorem V3_hidT (c : Dev nD) : V3 m ρ c main_v6_3 = (fun i => hidOf (argX m c) (argW m c) (i 1) (i 0) : FVec Ideal S5632x2048 .bf16) :=
  (W3_of m ρ c main_v6_3 (by decide)).trans (V2_hidT m ρ c)
theorem V3_v4 (c : Dev nD) : V3 m ρ c main_v4 = argD m c :=
  (W3_of m ρ c main_v4 (by decide)).trans ((W2_of m ρ c main_v4 (by decide)).trans (V1_v4 m ρ c))

/-- A buffer the second and third calls and the reshape after them do not write reaches the fourth call as the first left it. -/
theorem V5_of (c : Dev nD) (r : Ref sig .tc) (h1 : ∀ w : Fin cfg1.W, Pipeline.arrRef spec1 w = r → (cfg1.win w).isOut = false)
    (h2 : ∀ w : Fin cfg2.W, Pipeline.arrRef spec2 w = r → (cfg2.win w).isOut = false) (h : r ∉ hostOps3_W) :
    W5 m ρ c (Proc.devRef .tc r) = W2 m ρ c (Proc.devRef .tc r) :=
  (W5_of m ρ c r h).trans ((W4_of m ρ c r h2).trans (W3_of m ρ c r h1))

theorem V5_gate (c : Dev nD) : V5 m ρ c main_v6_0 = (fun i => projOf 0 (argX m c) (argW m c) (i 0) (i 1) : FVec Ideal S2048x5632 .bf16) :=
  (V5_of m ρ c main_v6_0 (by decide) (by decide) (by decide)).trans (V2_gate m ρ c)
theorem V5_up (c : Dev nD) : V5 m ρ c main_v6_1 = (fun i => projOf 1 (argX m c) (argW m c) (i 0) (i 1) : FVec Ideal S2048x5632 .bf16) :=
  (V5_of m ρ c main_v6_1 (by decide) (by decide) (by decide)).trans (V2_up m ρ c)
theorem V5_v3 (c : Dev nD) : V5 m ρ c main_v3 = argO m c :=
  (V5_of m ρ c main_v3 (by decide) (by decide) (by decide)).trans (V2_v3 m ρ c)
theorem V5_v4 (c : Dev nD) : V5 m ρ c main_v4 = argD m c :=
  (V5_of m ρ c main_v4 (by decide) (by decide) (by decide)).trans ((W2_of m ρ c main_v4 (by decide)).trans (V1_v4 m ρ c))
theorem V5_v9 (c : Dev nD) : V5 m ρ c main_v9 = argW m c := by
  have h : V5 m ρ c main_v9 = shapeCast S2x5632x2048 (W4 m ρ c (Proc.devRef .tc main_v2) : FVec Ideal S11264x2048 .bf16)
      shapeCasts_S11264x2048_S2x5632x2048 := by
    show StableHlo.after _ _ _ = _; after_results; rfl
  rw [h, W4_of m ρ c main_v2 (by decide), W3_of m ρ c main_v2 (by decide), W2_of m ρ c main_v2 (by decide)]
  unfold argW
  rw [← V1_v2 m ρ c]

theorem V7_v0 (c : Dev nD) : V7 m ρ c main_v0 = argX m c :=
  (W7_of m ρ c main_v0 (by decide)).trans ((W6_of m ρ c main_v0 (by decide)).trans
    ((V5_of m ρ c main_v0 (by decide) (by decide) (by decide)).trans ((W2_of m ρ c main_v0 (by decide)).trans (V1_v0 m ρ c))))

/-- The gradient of the gate over the arguments. -/
def dG (c : Dev nD) (i : Fin 2048) (j : Fin 5632) : EReal :=
  gateGrad (dhidOf (argD m c) (argO m c) i j) (projOf 0 (argX m c) (argW m c) i j) (projOf 1 (argX m c) (argW m c) i j)

/-- The gradient of the up projection over the arguments. -/
def dU (c : Dev nD) (i : Fin 2048) (j : Fin 5632) : EReal :=
  upGrad (dhidOf (argD m c) (argO m c) i j) (projOf 0 (argX m c) (argW m c) i j)

theorem V6_daT (c : Dev nD) : V6 m ρ c main_v10_1 = (fun i => if (i 0).val = 0 then dG m c (i 2) (i 1) else dU m c (i 2) (i 1)
    : FVec Ideal S2x5632x2048 .bf16) := by
  refine (W6_arr m ρ c 6).trans ((daT_at (V5 m ρ) c).trans ?_)
  rw [V5_v4, V5_v3, V5_gate, V5_up]; rfl

theorem V7_daT (c : Dev nD) : V7 m ρ c main_v11 = shapeCast S11264x2048 (fun i => if (i 0).val = 0 then dG m c (i 2) (i 1) else dU m c (i 2) (i 1)
    : FVec Ideal S2x5632x2048 .bf16) shapeCasts_S2x5632x2048_S11264x2048 := by
  rw [← V6_daT m ρ c]
  show StableHlo.after _ _ _ = _; after_results; rfl

/-! ## The results -/

/-- The layer's output. -/
def resOut (c : Dev nD) : FVec Ideal S2048x2048 .f32 :=
  addf (m ((c : Thread nD τ).loc main_arg3)) (mulf (broadcast S2048x2048 (Scalar.ofBits .f32 0x3F000000#32))
    (fun i => ∑ k : Fin 5632, (hidOf (argX m c) (argW m c) (i 0) k * argO m c (ix2 k (i 1)) : EReal)))

/-- The gradient of the input rows. -/
def resDx (c : Dev nD) : FVec Ideal S2048x2048 .f32 := fun i =>
  (∑ j : Fin 5632, (dG m c (i 0) j * argW m c (ix3 0 j (i 1)) + dU m c (i 0) j * argW m c (ix3 1 j (i 1))) : EReal)

/-- The gradient of the output weights. -/
def resDo (c : Dev nD) : FVec Ideal S5632x2048 .bf16 := fun i =>
  (∑ k : Fin 2048, (hidOf (argX m c) (argW m c) k (i 0) * argD m c (ix2 k (i 1))) : EReal)

/-- The gradient of the input weights, transposed. -/
def resDi (c : Dev nD) : FVec Ideal S11264x2048 .bf16 := fun i =>
  prodOf (M := 11264) (K := 2048) (N := 2048) (shapeCast S11264x2048 (fun i => if (i 0).val = 0 then dG m c (i 2) (i 1) else dU m c (i 2) (i 1)
    : FVec Ideal S2x5632x2048 .bf16) shapeCasts_S2x5632x2048_S11264x2048) (argX m c) (i 0) (i 1)

/-- What the launch's last boundary holds in the output's buffer. -/
theorem end_out (c : Dev nD) : W8 m ρ c (Proc.devRef .tc main_v7) = resOut m c := by
  refine ((W8_of m ρ c main_v7 (by decide)).trans ((W7_of m ρ c main_v7 (by decide)).trans ((W6_of m ρ c main_v7 (by decide)).trans
    ((W5_of m ρ c main_v7 (by decide)).trans ((W4_of m ρ c main_v7 (by decide)).trans ((W3_arr m ρ c 3).trans
      (out_at (V2 m ρ) c))))))).trans ?_
  rw [V2_arg3, V2_hid, V2_v3]; rfl

theorem end_do (c : Dev nD) : W8 m ρ c (Proc.devRef .tc main_v8) = resDo m c := by
  refine ((W8_of m ρ c main_v8 (by decide)).trans ((W7_of m ρ c main_v8 (by decide)).trans ((W6_of m ρ c main_v8 (by decide)).trans
    ((W5_of m ρ c main_v8 (by decide)).trans ((W4_arr m ρ c 2).trans (outGrad_at (V3 m ρ) c)))))).trans ?_
  rw [V3_hidT, V3_v4]; rfl

theorem end_dx (c : Dev nD) : W8 m ρ c (Proc.devRef .tc main_v10_0) = resDx m c := by
  refine ((W8_of m ρ c main_v10_0 (by decide)).trans ((W7_of m ρ c main_v10_0 (by decide)).trans ((W6_arr m ρ c 5).trans
    (du_at (V5 m ρ) c)))).trans ?_
  rw [V5_v4, V5_v3, V5_gate, V5_up, V5_v9]; rfl

theorem end_di (c : Dev nD) : W8 m ρ c (Proc.devRef .tc main_v12) = resDi m c := by
  refine ((W8_arr m ρ c 2).trans (inGrad_at (V7 m ρ) c)).trans ?_
  rw [V7_daT, V7_v0]; rfl

local notation "𝕄" => MT nD τ sig Unit (Elt Ideal) ℕ (UR sig nD τ) ℕ

set_option backward.isDefEq.respectTransparency.types false in
/-- Every execution ends with the four results at their formulas and the arguments unchanged. -/
theorem run : θ_run defs (onTc (τ := τ) (main (F := Ideal))) ⟨m, fun _ => 0, ρ⟩ (fun r => ∀ c : Dev nD,
      r.2.mem ((c.tc : Thread nD τ).loc main_v7) = resOut m c
      ∧ r.2.mem ((c.tc : Thread nD τ).loc main_v10_0) = resDx m c
      ∧ r.2.mem ((c.tc : Thread nD τ).loc main_v12) = resDi m c
      ∧ r.2.mem ((c.tc : Thread nD τ).loc main_v8) = resDo m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz c =>
      ⟨(h c _ (mem_uc main_v7 (by decide))).trans (end_out m ρ c),
       (h c _ (mem_uc main_v10_0 (by decide))).trans (end_dx m ρ c),
       (h c _ (mem_uc main_v12 (by decide))).trans (end_di m ρ c),
       (h c _ (mem_uc main_v8 (by decide))).trans (end_do m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.FfnIdeal.Value
end
-- ==== Proof.FfnValue.lean ====
module

public import proofs.«01_k».proof.Defs
public import proofs.«01_k».proof.Proof.FfnRun
public import proofs.«01_k».proof.Proof.Gen.FfnRefIdeal.Run
public import proofs.«01_k».proof.Proof.Gen.Pre_finite

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

variable (m : (ℓ : Loc nD τ sig) → Buf (Elt Ideal) ℓ) (ρ : Dev nD → PrngReg)

theorem argW_at (c : Dev nD) (a : Fin 2) (j : Fin 5632) (k : Fin 2048) :
    argW m c (ix3 a j k) = (m ((c : Thread nD τ).loc main_arg1) : FVec Ideal S2048x11264 .f32) (ix2 k ⟨a.val * 5632 + j.val, by omega⟩) := by
  unfold argW
  pointwise []

/-- A value whose magnitude is below the infinity is a real number. -/
theorem real_of_olt (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  have h' : BitVec.ofBool (decide (max (x : EReal) (-(x : EReal)) < Ideal.ofBits .f32 0x7F800000#32)) = 1#1 := h
  rw [htop] at h'
  have hlt : max (x : EReal) (-(x : EReal)) < ⊤ := by
    by_contra hn
    rw [decide_eq_false hn] at h'
    exact absurd h' (by decide)
  rw [max_lt_iff] at hlt
  refine ⟨EReal.toReal x, (EReal.coe_toReal hlt.1.ne ?_).symm⟩
  rintro hb
  rw [hb] at hlt
  exact absurd hlt.2 (by simp)

/-- A finite sum of real numbers is a real number. -/
theorem real_sum {n : Nat} (f : Fin n → EReal) (h : ∀ k, ∃ r : ℝ, f k = (r : EReal)) : ∃ r : ℝ, ∑ k, f k = (r : EReal) := by
  choose g hg using h
  refine ⟨∑ k, g k, ?_⟩
  rw [Finset.sum_congr rfl fun k _ => hg k]
  induction (Finset.univ : Finset (Fin n)) using Finset.induction_on with
  | empty => simp
  | insert a s ha ih => rw [Finset.sum_insert ha, Finset.sum_insert ha, ih, EReal.coe_add]

/-- A product of real numbers is a real number. -/
theorem real_mul {a b : EReal} (ha : ∃ r : ℝ, a = r) (hb : ∃ r : ℝ, b = r) : ∃ r : ℝ, a * b = (r : EReal) := by
  obtain ⟨x, rfl⟩ := ha; obtain ⟨y, rfl⟩ := hb
  exact ⟨x * y, (EReal.coe_mul x y).symm⟩

/-- The sigmoid of a real number is a real number. -/
theorem real_sigm (g : ℝ) : ∃ r : ℝ, sigm (g : EReal) = (r : EReal) := by
  refine ⟨(1 + Real.exp (-g))⁻¹, ?_⟩
  rw [← Ideal.logistic_coe, sigm, Ideal.logistic, zero_sub]

/-- On real numbers the product form of the gate's gradient is the sum that the chain rule gives. -/
theorem gateGrad_eq {dh g up : EReal} (hd : ∃ r : ℝ, dh = r) (hg : ∃ r : ℝ, g = r) (hu : ∃ r : ℝ, up = r) :
    gateGrad dh g up = dh * up * sigm g + g * (dh * up) * (sigm g * (1 - sigm g)) := by
  obtain ⟨d, rfl⟩ := hd; obtain ⟨x, rfl⟩ := hg; obtain ⟨u, rfl⟩ := hu
  obtain ⟨s, hs⟩ := real_sigm x
  unfold gateGrad
  rw [hs]
  norm_cast
  ring

/-! ## The kernel's formulas over the arguments themselves -/

/-- Column `j` of the input product: columns below 5632 are the gate's, the others the up projection's. -/
def colOf (x : FVec Ideal S2048x2048 .f32) (w : FVec Ideal S2048x11264 .f32) (i : Fin 2048) (j : Fin 11264) : EReal :=
  ∑ k : Fin 2048, (x (ix2 i k) * w (ix2 k j) : EReal)

/-- The gradient of the hidden layer over the arguments. -/
def dhOf (d : FVec Ideal S2048x2048 .f32) (o : FVec Ideal S5632x2048 .f32) (i : Fin 2048) (j : Fin 5632) : EReal :=
  ∑ n : Fin 2048, (d (ix2 i n) * o (ix2 j n) : EReal)

theorem proj_gate (c : Dev nD) (i : Fin 2048) (j : Fin 5632) : projOf 0 (argX m c) (argW m c) i j
    = colOf (m ((c : Thread nD τ).loc main_arg0)) (m ((c : Thread nD τ).loc main_arg1)) i ⟨j.val, by omega⟩ := by
  pointwise [projOf, argX, argW, colOf]

theorem proj_up (c : Dev nD) (i : Fin 2048) (j : Fin 5632) : projOf 1 (argX m c) (argW m c) i j
    = colOf (m ((c : Thread nD τ).loc main_arg0)) (m ((c : Thread nD τ).loc main_arg1)) i ⟨5632 + j.val, by omega⟩ := by
  pointwise [projOf, argX, argW, colOf]

theorem dhid_eq (c : Dev nD) (i : Fin 2048) (j : Fin 5632) : dhidOf (argD m c) (argO m c) i j
    = dhOf (m ((c : Thread nD τ).loc main_arg4)) (m ((c : Thread nD τ).loc main_arg2)) i j := by
  pointwise [dhidOf, argD, argO, dhOf]

/-- The arrays whose entries the two forms of the gate's gradient need to be real. -/
structure RealArgs (c : Dev nD) : Prop where
  x : ∀ i, ∃ r : ℝ, (m ((c : Thread nD τ).loc main_arg0) : FVec Ideal S2048x2048 .f32) i = (r : EReal)
  w : ∀ i, ∃ r : ℝ, (m ((c : Thread nD τ).loc main_arg1) : FVec Ideal S2048x11264 .f32) i = (r : EReal)
  o : ∀ i, ∃ r : ℝ, (m ((c : Thread nD τ).loc main_arg2) : FVec Ideal S5632x2048 .f32) i = (r : EReal)
  d : ∀ i, ∃ r : ℝ, (m ((c : Thread nD τ).loc main_arg4) : FVec Ideal S2048x2048 .f32) i = (r : EReal)

/-- The gate's gradient as the chain rule writes it, where the arguments are real. -/
theorem dG_at (c : Dev nD) (h : RealArgs m c) (i : Fin 2048) (j : Fin 5632) : dG m c i j
    = dhOf (m ((c : Thread nD τ).loc main_arg4)) (m ((c : Thread nD τ).loc main_arg2)) i j
          * colOf (m ((c : Thread nD τ).loc main_arg0)) (m ((c : Thread nD τ).loc main_arg1)) i ⟨5632 + j.val, by omega⟩
          * sigm (colOf (m ((c : Thread nD τ).loc main_arg0)) (m ((c : Thread nD τ).loc main_arg1)) i ⟨j.val, by omega⟩)
        + colOf (m ((c : Thread nD τ).loc main_arg0)) (m ((c : Thread nD τ).loc main_arg1)) i ⟨j.val, by omega⟩
          * (dhOf (m ((c : Thread nD τ).loc main_arg4)) (m ((c : Thread nD τ).loc main_arg2)) i j
            * colOf (m ((c : Thread nD τ).loc main_arg0)) (m ((c : Thread nD τ).loc main_arg1)) i ⟨5632 + j.val, by omega⟩)
          * (sigm (colOf (m ((c : Thread nD τ).loc main_arg0)) (m ((c : Thread nD τ).loc main_arg1)) i ⟨j.val, by omega⟩)
            * (1 - sigm (colOf (m ((c : Thread nD τ).loc main_arg0)) (m ((c : Thread nD τ).loc main_arg1)) i ⟨j.val, by omega⟩))) := by
  unfold dG
  rw [proj_gate, proj_up, dhid_eq]
  exact gateGrad_eq (real_sum _ fun k => real_mul (h.d _) (h.o _)) (real_sum _ fun k => real_mul (h.x _) (h.w _))
    (real_sum _ fun k => real_mul (h.x _) (h.w _))

/-- The up projection's gradient, in the reference's order of factors. -/
theorem dU_at (c : Dev nD) (i : Fin 2048) (j : Fin 5632) : dU m c i j
    = colOf (m ((c : Thread nD τ).loc main_arg0)) (m ((c : Thread nD τ).loc main_arg1)) i ⟨j.val, by omega⟩
        * sigm (colOf (m ((c : Thread nD τ).loc main_arg0)) (m ((c : Thread nD τ).loc main_arg1)) i ⟨j.val, by omega⟩)
        * dhOf (m ((c : Thread nD τ).loc main_arg4)) (m ((c : Thread nD τ).loc main_arg2)) i j := by
  unfold dU upGrad
  rw [proj_gate, dhid_eq, mul_comm]

/-- The printed precondition says that the four arrays hold real numbers. -/
theorem realArgs (h : Cert.Pre_FfnIdeal_finite (hPre_finite := Cert.Pre_finite.Gen.facts) m) (c : Dev nD) : RealArgs m c := by
  have hc := h c
  exact ⟨fun i => real_of_olt _ (congrFun hc.1 i), fun i => real_of_olt _ (congrFun hc.2.1 i),
    fun i => real_of_olt _ (congrFun hc.2.2.1 i), fun i => real_of_olt _ (congrFun hc.2.2.2 i)⟩

/-! ## The reference ends with the same arrays -/

theorem reference (m' : (ℓ : Loc Cert.FfnRefIdeal.nD Cert.FfnRefIdeal.τ Cert.FfnRefIdeal.sig) → Buf (Elt Ideal) ℓ)
    (g : Dev Cert.FfnRefIdeal.nD → PrngReg) (hr : ∀ c, RealArgs m c)
    (hag : ∀ c : Dev nD,
      m' ((c.tc : Thread Cert.FfnRefIdeal.nD Cert.FfnRefIdeal.τ).loc Cert.FfnRefIdeal.main_arg0) = m ((c.tc : Thread nD τ).loc main_arg0)
      ∧ m' ((c.tc : Thread Cert.FfnRefIdeal.nD Cert.FfnRefIdeal.τ).loc Cert.FfnRefIdeal.main_arg1) = m ((c.tc : Thread nD τ).loc main_arg1)
      ∧ m' ((c.tc : Thread Cert.FfnRefIdeal.nD Cert.FfnRefIdeal.τ).loc Cert.FfnRefIdeal.main_arg2) = m ((c.tc : Thread nD τ).loc main_arg2)
      ∧ m' ((c.tc : Thread Cert.FfnRefIdeal.nD Cert.FfnRefIdeal.τ).loc Cert.FfnRefIdeal.main_arg3) = m ((c.tc : Thread nD τ).loc main_arg3)
      ∧ m' ((c.tc : Thread Cert.FfnRefIdeal.nD Cert.FfnRefIdeal.τ).loc Cert.FfnRefIdeal.main_arg4) = m ((c.tc : Thread nD τ).loc main_arg4)) :
    θ_run (Cert.FfnRefIdeal.defs (F := Ideal)) (onTc (τ := Cert.FfnRefIdeal.τ) (Cert.FfnRefIdeal.main (F := Ideal))) ⟨m', fun _ => 0, g⟩
      (fun r => ∀ c : Dev Cert.FfnRefIdeal.nD,
        r.2.mem ((c.tc : Thread Cert.FfnRefIdeal.nD Cert.FfnRefIdeal.τ).loc Cert.FfnRefIdeal.main_v18) = resOut m c
        ∧ r.2.mem ((c.tc : Thread Cert.FfnRefIdeal.nD Cert.FfnRefIdeal.τ).loc Cert.FfnRefIdeal.main_v15) = resDx m c
        ∧ r.2.mem ((c.tc : Thread Cert.FfnRefIdeal.nD Cert.FfnRefIdeal.τ).loc Cert.FfnRefIdeal.main_v20) = resDi m c
        ∧ r.2.mem ((c.tc : Thread Cert.FfnRefIdeal.nD Cert.FfnRefIdeal.τ).loc Cert.FfnRefIdeal.main_v21) = resDo m c
        ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
        ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
        ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
        ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
        ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)) := by
  refine (θ_run _ _ _).mono (fun r h c => ?_) (Cert.FfnRefIdeal.Value.run m' g)
  obtain ⟨h0, h1, h2, h3, hargs⟩ := h c
  obtain ⟨e0, e1, e2, e3, e4⟩ := hag c
  rw [e0, e1, e2, e3] at h0
  rw [e0, e1, e2, e4] at h1
  rw [e0, e1, e2, e4] at h2
  rw [e0, e1, e4] at h3
  have hG := dG_at m c (hr c)
  refine ⟨h0.trans ?_, h1.trans ?_, h2.trans ?_, h3.trans ?_, hargs⟩ <;> clear h0 h1 h2 h3 h e0 e1 e2 e3 e4 hargs hag
  · funext i
    pointwise [resOut, hidOf, projOf, sigm, argX, argW, argO]
    simp only [zero_sub]
  · funext i
    pointwise [resDx, argX, argW, argO]
    rw [← Finset.sum_add_distrib]
    refine Finset.sum_congr rfl fun j _ => ?_
    refine Eq.trans ?_ (congrArg₂ (fun a b : EReal => a * _ + b * _) (hG (i 0) j).symm (dU_at m c (i 0) j).symm)
    simp only [sigm, zero_sub]
    rfl
  · funext i
    pointwise [resDi, prodOf, argX, argW, argO]
    refine Finset.sum_congr rfl fun k _ => ?_
    congr 1
    by_cases h : (i 0).val < 5632
    · have hd : (i 0).val / 5632 = 0 := Nat.div_eq_of_lt h
      rw [dif_pos h, if_pos hd, hG]
      simp only [sigm, zero_sub, Nat.mod_eq_of_lt h]
      rfl
    · have hi : (i 0).val < 11264 := (i 0).isLt
      have hj : (i 0).val % 5632 = (i 0).val - 5632 := by omega
      have hd : ¬ (i 0).val / 5632 = 0 := by omega
      rw [dif_neg h, if_neg hd, dU_at]
      simp only [sigm, zero_sub, hj]
      rfl
  · funext i
    pointwise [resDo, hidOf, projOf, sigm, argX, argW, argO, argD]
    refine Finset.sum_congr rfl fun k _ => ?_
    rw [zero_sub, mul_comm]

end Cert.FfnIdeal.Value
end
-- ==== Proof.MixCalls.lean ====
module

public import proofs.«01_k».proof.Proof.Gen.MixIdeal.Frame
public import Idealize.ShloMosaic.Lib.Pipeline.ValueKit

/-!
# What the seven products of the mixer's two projections leave, array by array

Each call is read at arbitrary entry contents `V`: every entry of its result is a sum of products of entries of its
operands, over the extended reals (where a change of float format is the identity).
-/

@[expose] public section

set_option maxRecDepth 16384

noncomputable section

open Idealize.ShloMosaic Idealize.ShloMosaic.TcCoe Idealize.SL.Sem
open Idealize.ShloMosaic.Pipeline (Dat)

namespace Cert.MixIdeal.Value

open Cert.MixIdeal Cert.MixIdeal.Gen

/-- Entry `(i, j)` of a matrix product. -/
def rowsCols {M K N : Nat} (x : FVec Ideal ⟨2, ![M, K]⟩ .bf16) (y : FVec Ideal ⟨2, ![K, N]⟩ .bf16) (i : Fin M) (j : Fin N) : EReal :=
  ∑ k : Fin K, (x (ix2 i k) * y (ix2 k j) : EReal)

/-- Entry `(i, j)` of a matrix times the transpose of another. -/
def rowsRows {M K N : Nat} (x : FVec Ideal ⟨2, ![M, K]⟩ .bf16) (y : FVec Ideal ⟨2, ![N, K]⟩ .bf16) (i : Fin M) (j : Fin N) : EReal :=
  ∑ k : Fin K, (x (ix2 i k) * y (ix2 j k) : EReal)

variable (V : (c : Dev nD) → (b : Ref sig .tc) → Buf (Elt Ideal) ((c : Thread nD τ).loc b))

/-! ## The input projection -/

/-- The blocks of the input projection at each grid point. -/
theorem idx0 : ∀ t : Fin cfg0.N, win0_0.index t = ![t.val / 10, 0] ∧ win0_1.index t = ![t.val % 10, 0]
    ∧ win0_2.index t = ![t.val / 10, t.val % 10] :=
  (by decide +kernel : ∀ t : Fin grid0.N, _)

/-- The input projection. -/
theorem proj_at (c : Dev nD) : (dat0 V c).arrAt 2 cfg0.N
    = (fun i => rowsRows (M := 2048) (K := 2048) (N := 5120) (V c main_v0) (V c main_v2) (i 0) (i 1) : FVec Ideal S2048x5120 .f32) := by
  refine (dat0 V c).arrAt_eq_of_covers 2 _ (by decide +kernel) fun t _ y => ?_
  blk_simp
  rw [after0_2]; frame_out
  pointwise [k0_pay1, rowsRows]
  blk_point [iblk0, idx0 t]

/-! ## The output projection -/

/-- The blocks of the output projection at each grid point. -/
theorem idx1 : ∀ t : Fin cfg1.N, win1_0.index t = ![t.val / 4, 0] ∧ win1_1.index t = ![0, t.val % 4]
    ∧ win1_2.index t = ![t.val / 4, t.val % 4] ∧ win1_3.index t = ![t.val / 4, t.val % 4] :=
  (by decide +kernel : ∀ t : Fin grid1.N, _)

/-- The output projection added to the residual. -/
theorem mixed_at (c : Dev nD) : (dat1 V c).arrAt 3 cfg1.N
    = (addf (V c main_arg5 : FVec Ideal S2048x2048 .f32)
        (fun i => rowsCols (M := 2048) (K := 2048) (N := 2048) (V c main_v3) (V c main_v4) (i 0) (i 1)) : FVec Ideal S2048x2048 .f32) := by
  refine (dat1 V c).arrAt_eq_of_covers 3 _ (by decide +kernel) fun t _ y => ?_
  blk_simp
  rw [after1_3]; frame_out
  pointwise [k1_pay1, rowsCols]
  blk_point [iblk1, idx1 t]

/-! ## The gradients of the output projection -/

/-- The blocks of the gradient of the output weights at each grid point. -/
theorem idx2 : ∀ t : Fin cfg2.N, win2_0.index t = ![t.val, 0] ∧ win2_1.index t = ![0, 0] ∧ win2_2.index t = ![t.val, 0] :=
  (by decide +kernel : ∀ t : Fin grid2.N, _)

/-- The gradient of the output weights. -/
theorem outGrad_at (c : Dev nD) : (dat2 V c).arrAt 2 cfg2.N
    = (fun i => rowsCols (M := 2048) (K := 2048) (N := 2048) (V c main_v24) (V c main_v5) (i 0) (i 1) : FVec Ideal S2048x2048 .bf16) := by
  refine (dat2 V c).arrAt_eq_of_covers 2 _ (by decide +kernel) fun t _ y => ?_
  blk_simp
  rw [after2_2]; frame_out
  pointwise [k2_pay1, rowsCols]
  blk_point [iblk2, idx2 t]

/-- The blocks of the gradient of the mixed rows at each grid point. -/
theorem idx3 : ∀ t : Fin cfg3.N, win3_0.index t = ![t.val / 4, 0] ∧ win3_1.index t = ![t.val % 4, 0]
    ∧ win3_2.index t = ![t.val / 4, t.val % 4] :=
  (by decide +kernel : ∀ t : Fin grid3.N, _)

/-- The gradient of the mixed rows. -/
theorem dy_at (c : Dev nD) : (dat3 V c).arrAt 2 cfg3.N
    = (fun i => rowsRows (M := 2048) (K := 2048) (N := 2048) (V c main_v5) (V c main_v4) (i 0) (i 1) : FVec Ideal S2048x2048 .f32) := by
  refine (dat3 V c).arrAt_eq_of_covers 2 _ (by decide +kernel) fun t _ y => ?_
  blk_simp
  rw [after3_2]; frame_out
  pointwise [k3_pay1, rowsRows]
  blk_point [iblk3, idx3 t]

/-! ## The gradient of the input weights: its first 2048 rows and its last 3072 rows are two calls -/

/-- The blocks of the first call at each grid point. -/
theorem idx4 : ∀ t : Fin cfg4.N, win4_0.index t = ![t.val, 0] ∧ win4_1.index t = ![0, 0] ∧ win4_2.index t = ![t.val, 0] :=
  (by decide +kernel : ∀ t : Fin grid4.N, _)

/-- The first call writes the first 2048 rows and leaves the others as they were. -/
theorem lruRows_at (c : Dev nD) : (dat4 V c).arrAt 2 cfg4.N
    = (fun i => if h : (i 0).val < 2048
        then rowsCols (M := 2048) (K := 2048) (N := 2048) (V c main_v18) (V c main_v0) ⟨(i 0).val, h⟩ (i 1)
        else (V c main_v27 : FVec Ideal S5120x2048 .bf16) i : FVec Ideal S5120x2048 .bf16) := by
  have key := (dat4 V c).arrAt_eq_of_coversWhere 2
    (fun i : S5120x2048.Idx => rowsCols (M := 2048) (K := 2048) (N := 2048) (V c main_v18) (V c main_v0)
      ⟨(i 0).val % 2048, Nat.mod_lt _ (by decide)⟩ (i 1))
    (P := fun i => (i 0).val < 2048) (fun β => β (0 : Fin _) < 4) (by decide +kernel) (fun t _ y => ?_)
    (fun j => by blk_simp [Pipeline.Window.cell_apply]; omega)
  · rw [key]
    funext i
    by_cases h : (i 0).val < 2048
    · rw [if_pos h, dif_pos h]
      simp only [rowsCols, Nat.mod_eq_of_lt h]
    · rw [if_neg h, dif_neg h]; rfl
  · have ht : t.val < 4 := t.isLt
    blk_simp
    rw [after4_2]; frame_out
    pointwise [k4_pay1, rowsCols]
    blk_point [iblk4, idx4 t]

/-- The blocks of the second call at each grid point. -/
theorem idx5 : ∀ t : Fin cfg5.N, win5_0.index t = ![t.val, 0] ∧ win5_1.index t = ![0, 0] ∧ win5_2.index t = ![4 + t.val, 0] :=
  (by decide +kernel : ∀ t : Fin grid5.N, _)

/-- Entry `i` of the last 3072 rows as a product. -/
def tailOf (x : FVec Ideal S3072x2048 .bf16) (y : FVec Ideal S2048x2048 .bf16) (i : S5120x2048.Idx) : EReal :=
  rowsCols (M := 3072) (K := 2048) (N := 2048) x y ⟨(i 0).val - 2048, by have : (i 0).val < 5120 := (i 0).isLt; omega⟩ (i 1)

/-- That entry in row `2048 + a`. -/
theorem tailOf_eq (x : FVec Ideal S3072x2048 .bf16) (y : FVec Ideal S2048x2048 .bf16) (i : S5120x2048.Idx) (a : Fin 3072)
    (h : (i 0).val = 2048 + a.val) : tailOf x y i = rowsCols (M := 3072) (K := 2048) (N := 2048) x y a (i 1) := by
  unfold tailOf
  congr 1
  exact Fin.ext (by dsimp only; omega)

/-- The second call writes the last 3072 rows and leaves the others as they were. -/
theorem attnRows_at (c : Dev nD) : (dat5 V c).arrAt 2 cfg5.N
    = (fun i => if h : (i 0).val < 2048 then (V c main_v28 : FVec Ideal S5120x2048 .bf16) i
        else tailOf (V c main_v21) (V c main_v0) i : FVec Ideal S5120x2048 .bf16) := by
  have key := (dat5 V c).arrAt_eq_of_coversWhere 2
    (fun i : S5120x2048.Idx => tailOf (V c main_v21) (V c main_v0) i)
    (P := fun i => 2048 ≤ (i 0).val) (fun β => 4 ≤ β (0 : Fin _)) (by decide +kernel) (fun t _ y => ?_)
    (fun j => by blk_simp [Pipeline.Window.cell_apply]; omega)
  · rw [key]
    funext i
    by_cases h : (i 0).val < 2048
    · rw [if_neg (by omega), dif_pos h]; rfl
    · rw [if_pos (by omega), dif_neg h]
  · have ht : t.val < 6 := t.isLt
    have hy : (y 0).val < 512 := (y 0).isLt
    rw [tailOf_eq _ _ _ ⟨t.val * 512 + (y 0).val, by omega⟩ (by blk_simp [idx5 t]; dsimp only; omega)]
    blk_simp
    rw [after5_2]; unfold outsAt5; frame_out
    pointwise [k5_pay1, rowsCols]
    blk_point [iblk5, idx5 t]

/-! ## The gradient of the input rows -/

/-- The blocks of the gradient of the input rows at each grid point. -/
theorem idx6 : ∀ t : Fin cfg6.N, win6_0.index t = ![t.val / 4, 0] ∧ win6_1.index t = ![t.val / 4, 0] ∧ win6_2.index t = ![t.val / 4, 0]
    ∧ win6_3.index t = ![t.val / 4, 0] ∧ win6_4.index t = ![t.val / 4, 0] ∧ win6_5.index t = ![0, t.val % 4]
    ∧ win6_6.index t = ![t.val / 4, t.val % 4] :=
  (by decide +kernel : ∀ t : Fin grid6.N, _)

/-- Entry `(i, j)` of one of five blocks of columns times its 1024 rows of the weights. -/
def partOf (s : Fin 5) (d : FVec Ideal S2048x1024 .bf16) (w : FVec Ideal S5120x2048 .bf16) (i j : Fin 2048) : EReal :=
  ∑ k : Fin 1024, (d (ix2 i k) * w (ix2 ⟨s.val * 1024 + k.val, by omega⟩ j) : EReal)

/-- The gradient of the input rows: five products added up. -/
theorem du_at (c : Dev nD) : (dat6 V c).arrAt 6 cfg6.N
    = (fun i => partOf 0 (V c main_v11) (V c main_v2) (i 0) (i 1) + partOf 1 (V c main_v12) (V c main_v2) (i 0) (i 1)
        + partOf 2 (V c main_v13) (V c main_v2) (i 0) (i 1) + partOf 3 (V c main_v14) (V c main_v2) (i 0) (i 1)
        + partOf 4 (V c main_v15) (V c main_v2) (i 0) (i 1) : FVec Ideal S2048x2048 .f32) := by
  refine (dat6 V c).arrAt_eq_of_covers 6 _ (by decide +kernel) fun t _ y => ?_
  blk_simp
  rw [after6_6]; frame_out
  pointwise [k6_pay1, partOf]
  blk_point [iblk6, idx6 t]

end Cert.MixIdeal.Value
end
-- ==== Proof.MixValue.lean ====
module

public import proofs.«01_k».proof.Proof.MixCalls
public import proofs.«01_k».proof.Proof.Gen.MixRefIdeal.Run

/-!
# The two projections of the mixer, forward and backward: the program's results and the reference's

The contents of the buffers are followed from the launch to the end, so that each result is a formula over the arguments;
the reference's run ends with the same arrays.
-/

@[expose] public section

set_option maxRecDepth 16384

noncomputable section

namespace Cert.MixIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixIdeal Cert.MixIdeal.Gen

variable (m : (ℓ : Loc nD τ sig) → Buf (Elt Ideal) ℓ) (ρ : Dev nD → PrngReg)

/-! ## The arguments as the calls read them -/

/-- The input rows. -/
def argU (c : Dev nD) : FVec Ideal S2048x2048 .bf16 := truncf .bf16 (m ((c : Thread nD τ).loc main_arg0)) bitsLt_bf16_f32

/-- The input weights, transposed. -/
def argWi (c : Dev nD) : FVec Ideal S5120x2048 .bf16 :=
  truncf .bf16 (transpose S5120x2048 [1, 0] (m ((c : Thread nD τ).loc main_arg1)) transposes_S2048x5120_S5120x2048_1_0) bitsLt_bf16_f32

/-- The mixed rows. -/
def argY (c : Dev nD) : FVec Ideal S2048x2048 .bf16 := truncf .bf16 (m ((c : Thread nD τ).loc main_arg3)) bitsLt_bf16_f32

/-- The output weights. -/
def argWo (c : Dev nD) : FVec Ideal S2048x2048 .bf16 := truncf .bf16 (m ((c : Thread nD τ).loc main_arg4)) bitsLt_bf16_f32

/-- The gradient of the mixer's output. -/
def argDh (c : Dev nD) : FVec Ideal S2048x2048 .bf16 := truncf .bf16 (m ((c : Thread nD τ).loc main_arg6)) bitsLt_bf16_f32

/-- The first 2048 rows of the transposed gradient of the input projection. -/
def argDxg (c : Dev nD) : FVec Ideal S2048x2048 .bf16 :=
  truncf .bf16 (extractStridedSlice S2048x2048 ![0, 0] (transpose S5120x2048 [1, 0] (m ((c : Thread nD τ).loc main_arg2))
    transposes_S2048x5120_S5120x2048_1_0) slices_S5120x2048_S2048x2048_0_0) bitsLt_bf16_f32

/-- Its last 3072 rows. -/
def argDqkv (c : Dev nD) : FVec Ideal S3072x2048 .bf16 :=
  truncf .bf16 (extractStridedSlice S3072x2048 ![2048, 0] (transpose S5120x2048 [1, 0] (m ((c : Thread nD τ).loc main_arg2))
    transposes_S2048x5120_S5120x2048_1_0) slices_S5120x2048_S3072x2048_2048_0) bitsLt_bf16_f32

/-! ## What each call finds -/

/-- The first call finds the input rows. -/
theorem V1_v0 (c : Dev nD) : V1 m ρ c main_v0 = argU m c := by
  unfold argU; show StableHlo.after _ _ _ = _; after_results
/-- The first call finds the transposed input weights. -/
theorem V1_v2 (c : Dev nD) : V1 m ρ c main_v2 = argWi m c := by
  unfold argWi; show StableHlo.after _ _ _ = _; after_results
/-- After the first host operations the mixed rows are there. -/
theorem V1_v3 (c : Dev nD) : V1 m ρ c main_v3 = argY m c := by
  unfold argY; show StableHlo.after _ _ _ = _; after_results
/-- And the output weights. -/
theorem V1_v4 (c : Dev nD) : V1 m ρ c main_v4 = argWo m c := by
  unfold argWo; show StableHlo.after _ _ _ = _; after_results
/-- And the gradient of the mixer's output. -/
theorem V1_v5 (c : Dev nD) : V1 m ρ c main_v5 = argDh m c := by
  unfold argDh; show StableHlo.after _ _ _ = _; after_results
/-- And the first rows of the transposed gradient. -/
theorem V1_v18 (c : Dev nD) : V1 m ρ c main_v18 = argDxg m c := by
  unfold argDxg; show StableHlo.after _ _ _ = _; after_results
/-- And its last rows. -/
theorem V1_v21 (c : Dev nD) : V1 m ρ c main_v21 = argDqkv m c := by
  unfold argDqkv; show StableHlo.after _ _ _ = _; after_results
/-- And the five blocks of columns of the gradient of the input projection: the first, -/
theorem V1_v11 (c : Dev nD) : V1 m ρ c main_v11 = (truncf .bf16 (extractStridedSlice S2048x1024 ![0, 0] (m ((c : Thread nD τ).loc main_arg2))
    slices_S2048x5120_S2048x1024_0_0) bitsLt_bf16_f32 : FVec Ideal S2048x1024 .bf16) := by
  show StableHlo.after _ _ _ = _; after_results
/-- the second, -/
theorem V1_v12 (c : Dev nD) : V1 m ρ c main_v12 = (truncf .bf16 (extractStridedSlice S2048x1024 ![0, 1024] (m ((c : Thread nD τ).loc main_arg2))
    slices_S2048x5120_S2048x1024_0_1024) bitsLt_bf16_f32 : FVec Ideal S2048x1024 .bf16) := by
  show StableHlo.after _ _ _ = _; after_results
/-- the third, -/
theorem V1_v13 (c : Dev nD) : V1 m ρ c main_v13 = (truncf .bf16 (extractStridedSlice S2048x1024 ![0, 2048] (m ((c : Thread nD τ).loc main_arg2))
    slices_S2048x5120_S2048x1024_0_2048) bitsLt_bf16_f32 : FVec Ideal S2048x1024 .bf16) := by
  show StableHlo.after _ _ _ = _; after_results
/-- the fourth -/
theorem V1_v14 (c : Dev nD) : V1 m ρ c main_v14 = (truncf .bf16 (extractStridedSlice S2048x1024 ![0, 3072] (m ((c : Thread nD τ).loc main_arg2))
    slices_S2048x5120_S2048x1024_0_3072) bitsLt_bf16_f32 : FVec Ideal S2048x1024 .bf16) := by
  show StableHlo.after _ _ _ = _; after_results
/-- and the fifth. -/
theorem V1_v15 (c : Dev nD) : V1 m ρ c main_v15 = (truncf .bf16 (extractStridedSlice S2048x1024 ![0, 4096] (m ((c : Thread nD τ).loc main_arg2))
    slices_S2048x5120_S2048x1024_0_4096) bitsLt_bf16_f32 : FVec Ideal S2048x1024 .bf16) := by
  show StableHlo.after _ _ _ = _; after_results

/-- A buffer that no call and no later host operation writes reaches the sixth call as the first host operations left it. -/
theorem V8_of (c : Dev nD) (r : Ref sig .tc) (h0 : ∀ w : Fin cfg0.W, Pipeline.arrRef spec0 w = r → (cfg0.win w).isOut = false)
    (h1 : ∀ w : Fin cfg1.W, Pipeline.arrRef spec1 w = r → (cfg1.win w).isOut = false) (k2 : r ∉ hostOps2_W)
    (h2 : ∀ w : Fin cfg2.W, Pipeline.arrRef spec2 w = r → (cfg2.win w).isOut = false)
    (h3 : ∀ w : Fin cfg3.W, Pipeline.arrRef spec3 w = r → (cfg3.win w).isOut = false)
    (h4 : ∀ w : Fin cfg4.W, Pipeline.arrRef spec4 w = r → (cfg4.win w).isOut = false) (k5 : r ∉ hostOps5_W) :
    V8 m ρ c r = V1 m ρ c r :=
  (W8_of m ρ c r k5).trans ((W7_of m ρ c r h4).trans ((W6_of m ρ c r h3).trans ((W5_of m ρ c r h2).trans
    ((W4_of m ρ c r k2).trans ((W3_of m ρ c r h1).trans (W2_of m ρ c r h0))))))

/-- Such a buffer reaches the seventh call too, where the sixth does not write it. -/
theorem V9_of (c : Dev nD) (r : Ref sig .tc) (h0 : ∀ w : Fin cfg0.W, Pipeline.arrRef spec0 w = r → (cfg0.win w).isOut = false)
    (h1 : ∀ w : Fin cfg1.W, Pipeline.arrRef spec1 w = r → (cfg1.win w).isOut = false) (k2 : r ∉ hostOps2_W)
    (h2 : ∀ w : Fin cfg2.W, Pipeline.arrRef spec2 w = r → (cfg2.win w).isOut = false)
    (h3 : ∀ w : Fin cfg3.W, Pipeline.arrRef spec3 w = r → (cfg3.win w).isOut = false)
    (h4 : ∀ w : Fin cfg4.W, Pipeline.arrRef spec4 w = r → (cfg4.win w).isOut = false) (k5 : r ∉ hostOps5_W)
    (h5 : ∀ w : Fin cfg5.W, Pipeline.arrRef spec5 w = r → (cfg5.win w).isOut = false) : V9 m ρ c r = V1 m ρ c r :=
  (W9_of m ρ c r h5).trans (V8_of m ρ c r h0 h1 k2 h2 h3 h4 k5)

/-- The transposed mixed rows, as the third call finds them. -/
theorem V4_v24 (c : Dev nD) : V4 m ρ c main_v24 = (transpose S2048x2048 [1, 0] (argY m c) transposes_S2048x2048_S2048x2048_1_0
    : FVec Ideal S2048x2048 .bf16) := by
  have h : V4 m ρ c main_v24 = (transpose S2048x2048 [1, 0] (W3 m ρ c (Proc.devRef .tc main_v3) : FVec Ideal S2048x2048 .bf16)
      transposes_S2048x2048_S2048x2048_1_0 : FVec Ideal S2048x2048 .bf16) := by
    show StableHlo.after _ _ _ = _; after_results
  rw [h, W3_of m ρ c main_v3 (by decide), W2_of m ρ c main_v3 (by decide)]
  rw [← V1_v3 m ρ c]

/-! ## The results -/

/-- The input projection. -/
def resProj (c : Dev nD) : FVec Ideal S2048x5120 .f32 := fun i => rowsRows (M := 2048) (K := 2048) (N := 5120) (argU m c) (argWi m c) (i 0) (i 1)

/-- The residual plus the output projection. -/
def resH (c : Dev nD) : FVec Ideal S2048x2048 .f32 :=
  addf (m ((c : Thread nD τ).loc main_arg5)) (fun i => rowsCols (M := 2048) (K := 2048) (N := 2048) (argY m c) (argWo m c) (i 0) (i 1))

/-- The gradient of the output weights. -/
def resDo (c : Dev nD) : FVec Ideal S2048x2048 .bf16 := fun i =>
  rowsCols (M := 2048) (K := 2048) (N := 2048) (transpose S2048x2048 [1, 0] (argY m c) transposes_S2048x2048_S2048x2048_1_0) (argDh m c) (i 0) (i 1)

/-- The gradient of the mixed rows. -/
def resDy (c : Dev nD) : FVec Ideal S2048x2048 .f32 := fun i => rowsRows (M := 2048) (K := 2048) (N := 2048) (argDh m c) (argWo m c) (i 0) (i 1)

/-- The gradient of the input weights, transposed: the rows of the recurrence and of the attention. -/
def resDi (c : Dev nD) : FVec Ideal S5120x2048 .bf16 := fun i =>
  if h : (i 0).val < 2048 then rowsCols (M := 2048) (K := 2048) (N := 2048) (argDxg m c) (argU m c) ⟨(i 0).val, h⟩ (i 1)
  else tailOf (argDqkv m c) (argU m c) i

/-- The cotangent of the projected rows. -/
def argDp (c : Dev nD) : FVec Ideal S2048x5120 .f32 := m ((c : Thread nD τ).loc main_arg2)

/-- The gradient of the input rows: the sum over the five parts of the projection's columns. -/
def resDu (c : Dev nD) : FVec Ideal S2048x2048 .f32 := fun i =>
  ∑ s : Fin 5, ∑ k : Fin 1024, (argDp m c (ix2 (i 0) ⟨s.val * 1024 + k.val, by omega⟩)
    * argWi m c (ix2 ⟨s.val * 1024 + k.val, by omega⟩ (i 1)) : EReal)

/-- The end of the input projection's buffer. -/
theorem end_proj (c : Dev nD) : W10 m ρ c (Proc.devRef .tc main_v22) = resProj m c := by
  refine ((W10_of m ρ c main_v22 (by decide)).trans ((W9_of m ρ c main_v22 (by decide)).trans ((W8_of m ρ c main_v22 (by decide)).trans
    ((W7_of m ρ c main_v22 (by decide)).trans ((W6_of m ρ c main_v22 (by decide)).trans ((W5_of m ρ c main_v22 (by decide)).trans
    ((W4_of m ρ c main_v22 (by decide)).trans ((W3_of m ρ c main_v22 (by decide)).trans ((W2_arr m ρ c 2).trans
      (proj_at (V1 m ρ) c)))))))))).trans ?_
  rw [V1_v0, V1_v2]; rfl

/-- The end of the mixer's output. -/
theorem end_h (c : Dev nD) : W10 m ρ c (Proc.devRef .tc main_v23) = resH m c := by
  refine ((W10_of m ρ c main_v23 (by decide)).trans ((W9_of m ρ c main_v23 (by decide)).trans ((W8_of m ρ c main_v23 (by decide)).trans
    ((W7_of m ρ c main_v23 (by decide)).trans ((W6_of m ρ c main_v23 (by decide)).trans ((W5_of m ρ c main_v23 (by decide)).trans
    ((W4_of m ρ c main_v23 (by decide)).trans ((W3_arr m ρ c 3).trans (mixed_at (V2 m ρ) c))))))))).trans ?_
  have h3 : V2 m ρ c main_v3 = argY m c := (W2_of m ρ c main_v3 (by decide)).trans (V1_v3 m ρ c)
  have h4 : V2 m ρ c main_v4 = argWo m c := (W2_of m ρ c main_v4 (by decide)).trans (V1_v4 m ρ c)
  have h5 : V2 m ρ c main_arg5 = m ((c : Thread nD τ).loc main_arg5) := W2_args m ρ c main_arg5 (by decide)
  rw [h3, h4, h5]; rfl

/-- The end of the gradient of the output weights. -/
theorem end_do (c : Dev nD) : W10 m ρ c (Proc.devRef .tc main_v25) = resDo m c := by
  refine ((W10_of m ρ c main_v25 (by decide)).trans ((W9_of m ρ c main_v25 (by decide)).trans ((W8_of m ρ c main_v25 (by decide)).trans
    ((W7_of m ρ c main_v25 (by decide)).trans ((W6_of m ρ c main_v25 (by decide)).trans ((W5_arr m ρ c 2).trans
      (outGrad_at (V4 m ρ) c))))))).trans ?_
  have h5 : V4 m ρ c main_v5 = argDh m c := (W4_of m ρ c main_v5 (by decide)).trans ((W3_of m ρ c main_v5 (by decide)).trans
    ((W2_of m ρ c main_v5 (by decide)).trans (V1_v5 m ρ c)))
  rw [V4_v24, h5]; rfl

/-- The end of the gradient of the mixed rows. -/
theorem end_dy (c : Dev nD) : W10 m ρ c (Proc.devRef .tc main_v26) = resDy m c := by
  refine ((W10_of m ρ c main_v26 (by decide)).trans ((W9_of m ρ c main_v26 (by decide)).trans ((W8_of m ρ c main_v26 (by decide)).trans
    ((W7_of m ρ c main_v26 (by decide)).trans ((W6_arr m ρ c 2).trans (dy_at (V5 m ρ) c)))))).trans ?_
  have h (r : Ref sig .tc) (h0 : ∀ w : Fin cfg0.W, Pipeline.arrRef spec0 w = r → (cfg0.win w).isOut = false)
      (h1 : ∀ w : Fin cfg1.W, Pipeline.arrRef spec1 w = r → (cfg1.win w).isOut = false) (k2 : r ∉ hostOps2_W)
      (h2 : ∀ w : Fin cfg2.W, Pipeline.arrRef spec2 w = r → (cfg2.win w).isOut = false) : V5 m ρ c r = V1 m ρ c r :=
    (W5_of m ρ c r h2).trans ((W4_of m ρ c r k2).trans ((W3_of m ρ c r h1).trans (W2_of m ρ c r h0)))
  rw [h main_v5 (by decide) (by decide) (by decide) (by decide), h main_v4 (by decide) (by decide) (by decide) (by decide), V1_v5, V1_v4]; rfl

/-- What the sixth call finds in the buffer it completes: the fifth call's rows. -/
theorem V8_v28 (c : Dev nD) : V8 m ρ c main_v28 = (W7 m ρ c (Proc.devRef .tc main_v27) : FVec Ideal S5120x2048 .bf16) := by
  show StableHlo.after _ _ _ = _; after_results; rfl

/-- The end of the gradient of the input weights. -/
theorem end_di (c : Dev nD) : W10 m ρ c (Proc.devRef .tc main_v28) = resDi m c := by
  have h0 : V6 m ρ c main_v0 = argU m c := (W6_of m ρ c main_v0 (by decide)).trans ((W5_of m ρ c main_v0 (by decide)).trans
    ((W4_of m ρ c main_v0 (by decide)).trans ((W3_of m ρ c main_v0 (by decide)).trans ((W2_of m ρ c main_v0 (by decide)).trans (V1_v0 m ρ c)))))
  have h18 : V6 m ρ c main_v18 = argDxg m c := (W6_of m ρ c main_v18 (by decide)).trans ((W5_of m ρ c main_v18 (by decide)).trans
    ((W4_of m ρ c main_v18 (by decide)).trans ((W3_of m ρ c main_v18 (by decide)).trans ((W2_of m ρ c main_v18 (by decide)).trans (V1_v18 m ρ c)))))
  have h0' : V8 m ρ c main_v0 = argU m c :=
    (V8_of m ρ c main_v0 (by decide) (by decide) (by decide) (by decide) (by decide) (by decide) (by decide)).trans (V1_v0 m ρ c)
  have h21 : V8 m ρ c main_v21 = argDqkv m c :=
    (V8_of m ρ c main_v21 (by decide) (by decide) (by decide) (by decide) (by decide) (by decide) (by decide)).trans (V1_v21 m ρ c)
  refine ((W10_of m ρ c main_v28 (by decide)).trans ((W9_arr m ρ c 2).trans (attnRows_at (V8 m ρ) c))).trans ?_
  rw [h0', h21, V8_v28, show W7 m ρ c (Proc.devRef .tc main_v27) = _ from (W7_arr m ρ c 2).trans (lruRows_at (V6 m ρ) c), h0, h18]
  funext i
  unfold resDi
  by_cases h : (i 0).val < 2048
  · rw [dif_pos h, dif_pos h]
    exact dif_pos h
  · rw [dif_neg h, dif_neg h]

/-- The end of the gradient of the input rows. -/
theorem end_du (c : Dev nD) : W10 m ρ c (Proc.devRef .tc main_v29) = resDu m c := by
  have h2 : V9 m ρ c main_v2 = argWi m c :=
    (V9_of m ρ c main_v2 (by decide) (by decide) (by decide) (by decide) (by decide) (by decide) (by decide) (by decide)).trans (V1_v2 m ρ c)
  have h11 := (V9_of m ρ c main_v11 (by decide) (by decide) (by decide) (by decide) (by decide) (by decide) (by decide) (by decide)).trans (V1_v11 m ρ c)
  have h12 := (V9_of m ρ c main_v12 (by decide) (by decide) (by decide) (by decide) (by decide) (by decide) (by decide) (by decide)).trans (V1_v12 m ρ c)
  have h13 := (V9_of m ρ c main_v13 (by decide) (by decide) (by decide) (by decide) (by decide) (by decide) (by decide) (by decide)).trans (V1_v13 m ρ c)
  have h14 := (V9_of m ρ c main_v14 (by decide) (by decide) (by decide) (by decide) (by decide) (by decide) (by decide) (by decide)).trans (V1_v14 m ρ c)
  have h15 := (V9_of m ρ c main_v15 (by decide) (by decide) (by decide) (by decide) (by decide) (by decide) (by decide) (by decide)).trans (V1_v15 m ρ c)
  refine ((W10_arr m ρ c 6).trans (du_at (V9 m ρ) c)).trans ?_
  rw [h2, h11, h12, h13, h14, h15]
  funext i
  unfold resDu
  simp only [Fin.sum_univ_five]
  pointwise [partOf, argDp]

local notation "𝕄" => MT nD τ sig Unit (Elt Ideal) ℕ (UR sig nD τ) ℕ

set_option backward.isDefEq.respectTransparency.types false in
/-- Every execution ends with the six results at their formulas and the arguments unchanged. -/
theorem run : θ_run defs (onTc (τ := τ) (main (F := Ideal))) ⟨m, fun _ => 0, ρ⟩ (fun r => ∀ c : Dev nD,
      r.2.mem ((c.tc : Thread nD τ).loc main_v22) = resProj m c
      ∧ r.2.mem ((c.tc : Thread nD τ).loc main_v23) = resH m c
      ∧ r.2.mem ((c.tc : Thread nD τ).loc main_v25) = resDo m c
      ∧ r.2.mem ((c.tc : Thread nD τ).loc main_v26) = resDy m c
      ∧ r.2.mem ((c.tc : Thread nD τ).loc main_v28) = resDi m c
      ∧ r.2.mem ((c.tc : Thread nD τ).loc main_v29) = resDu m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz c =>
      ⟨(h c _ (mem_uc main_v22 (by decide))).trans (end_proj m ρ c),
       (h c _ (mem_uc main_v23 (by decide))).trans (end_h m ρ c),
       (h c _ (mem_uc main_v25 (by decide))).trans (end_do m ρ c),
       (h c _ (mem_uc main_v26 (by decide))).trans (end_dy m ρ c),
       (h c _ (mem_uc main_v28 (by decide))).trans (end_di m ρ c),
       (h c _ (mem_uc main_v29 (by decide))).trans (end_du m ρ c),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

/-! ## The reference ends with the same arrays -/

/-- The reference's run ends with the same six results. -/
theorem reference (m' : (ℓ : Loc Cert.MixRefIdeal.nD Cert.MixRefIdeal.τ Cert.MixRefIdeal.sig) → Buf (Elt Ideal) ℓ)
    (g : Dev Cert.MixRefIdeal.nD → PrngReg)
    (hag : ∀ c : Dev nD, m' ((c.tc : Thread Cert.MixRefIdeal.nD Cert.MixRefIdeal.τ).loc Cert.MixRefIdeal.main_arg0) = m ((c.tc : Thread nD τ).loc main_arg0)
      ∧ m' ((c.tc : Thread Cert.MixRefIdeal.nD Cert.MixRefIdeal.τ).loc Cert.MixRefIdeal.main_arg1) = m ((c.tc : Thread nD τ).loc main_arg1)
      ∧ m' ((c.tc : Thread Cert.MixRefIdeal.nD Cert.MixRefIdeal.τ).loc Cert.MixRefIdeal.main_arg2) = m ((c.tc : Thread nD τ).loc main_arg2)
      ∧ m' ((c.tc : Thread Cert.MixRefIdeal.nD Cert.MixRefIdeal.τ).loc Cert.MixRefIdeal.main_arg3) = m ((c.tc : Thread nD τ).loc main_arg3)
      ∧ m' ((c.tc : Thread Cert.MixRefIdeal.nD Cert.MixRefIdeal.τ).loc Cert.MixRefIdeal.main_arg4) = m ((c.tc : Thread nD τ).loc main_arg4)
      ∧ m' ((c.tc : Thread Cert.MixRefIdeal.nD Cert.MixRefIdeal.τ).loc Cert.MixRefIdeal.main_arg5) = m ((c.tc : Thread nD τ).loc main_arg5)
      ∧ m' ((c.tc : Thread Cert.MixRefIdeal.nD Cert.MixRefIdeal.τ).loc Cert.MixRefIdeal.main_arg6) = m ((c.tc : Thread nD τ).loc main_arg6)) :
    θ_run (Cert.MixRefIdeal.defs (F := Ideal)) (onTc (τ := Cert.MixRefIdeal.τ) (Cert.MixRefIdeal.main (F := Ideal))) ⟨m', fun _ => 0, g⟩
      (fun r => ∀ c : Dev Cert.MixRefIdeal.nD,
        r.2.mem ((c.tc : Thread Cert.MixRefIdeal.nD Cert.MixRefIdeal.τ).loc Cert.MixRefIdeal.main_v0) = resProj m c
        ∧ r.2.mem ((c.tc : Thread Cert.MixRefIdeal.nD Cert.MixRefIdeal.τ).loc Cert.MixRefIdeal.main_v8) = resH m c
        ∧ r.2.mem ((c.tc : Thread Cert.MixRefIdeal.nD Cert.MixRefIdeal.τ).loc Cert.MixRefIdeal.main_v9) = resDo m c
        ∧ r.2.mem ((c.tc : Thread Cert.MixRefIdeal.nD Cert.MixRefIdeal.τ).loc Cert.MixRefIdeal.main_v7) = resDy m c
        ∧ r.2.mem ((c.tc : Thread Cert.MixRefIdeal.nD Cert.MixRefIdeal.τ).loc Cert.MixRefIdeal.main_v11) = resDi m c
        ∧ r.2.mem ((c.tc : Thread Cert.MixRefIdeal.nD Cert.MixRefIdeal.τ).loc Cert.MixRefIdeal.main_v4) = resDu m c
        ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
        ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
        ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
        ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
        ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
        ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
        ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)) := by
  refine (θ_run _ _ _).mono (fun r h c => ?_) (Cert.MixRefIdeal.Value.run m' g)
  obtain ⟨h0, h1, h2, h3, h4, h5, hargs⟩ := h c
  obtain ⟨e0, e1, e2, e3, e4, e5, e6⟩ := hag c
  rw [e0, e1] at h0
  rw [e3, e4, e5] at h1
  rw [e3, e6] at h2
  rw [e4, e6] at h3
  rw [e0, e2] at h4
  rw [e1, e2] at h5
  refine ⟨h0.trans ?_, h1.trans ?_, h2.trans ?_, h3.trans ?_, h4.trans ?_, h5.trans ?_, hargs⟩ <;>
    clear h0 h1 h2 h3 h4 h5 h e0 e1 e2 e3 e4 e5 e6 hargs hag
  · funext i
    pointwise [resProj, rowsRows, argU, argWi]
  · funext i
    pointwise [resH, rowsCols, argY, argWo]
  · funext i
    pointwise [resDo, rowsCols, argY, argDh]
    exact Finset.sum_congr rfl fun k _ => mul_comm _ _
  · funext i
    pointwise [resDy, rowsRows, argDh, argWo]
  · funext i
    pointwise [resDi, tailOf, rowsCols, argDxg, argDqkv, argU]
    split
    · rfl
    · refine Finset.sum_congr rfl fun k _ => ?_
      congr 3
      exact Fin.ext (by simp only []; omega)
  · funext i
    pointwise [resDu, argDp, argWi]
    refine (Fin.sum_mul_add_congr fun s k hl => ?_).symm
    rfl

end Cert.MixIdeal.Value
end
-- ==== Proof.HalfValue.lean ====
module

public import proofs.«01_k».proof.Proof.Gen.HalfIdeal.Frame
public import proofs.«01_k».proof.Proof.Gen.HalfRefIdeal.Run
public import Idealize.ShloMosaic.Lib.Pipeline.ValueKit

/-!
# The gradient of the first feed-forward layer's input weights, in two calls

Each device owns a share of the transposed gradient's rows; the first call computes the first half of every share, the
second call the second half. Entry `(i, j)` of half `h` is entry `(1408 (i / 704) + 704 h + i % 704, j)` of the transposed
cotangent times the input rows.
-/

@[expose] public section

set_option maxRecDepth 16384

noncomputable section

namespace Cert.HalfIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.HalfIdeal Cert.HalfIdeal.Gen

/-- Row `i` of half `h` is this row of the whole. -/
def rowOf (h : Fin 2) (i : Fin 5632) : Fin 11264 := ⟨i.val / 704 * 1408 + h.val * 704 + i.val % 704, by omega⟩

/-- Half `h` of the product. -/
def halfOf (h : Fin 2) (x : FVec Ideal S11264x2048 .bf16) (y : FVec Ideal S2048x2048 .bf16) : FVec Ideal S5632x2048 .bf16 := fun i =>
  (∑ k : Fin 2048, (x (ix2 (rowOf h (i 0)) k) * y (ix2 k (i 1)) : EReal))

section Calls

variable (V : (c : Dev nD) → (b : Ref sig .tc) → Buf (Elt Ideal) ((c : Thread nD τ).loc b))

/-- The blocks of the first call at each grid point. -/
theorem idx0 : ∀ t : Fin cfg0.N, win0_0.index t = ![2 * t.val, 0] ∧ win0_1.index t = ![0, 0] ∧ win0_2.index t = ![t.val, 0] :=
  (by decide +kernel : ∀ t : Fin grid0.N, _)

/-- The blocks of the second call at each grid point. -/
theorem idx1 : ∀ t : Fin cfg1.N, win1_0.index t = ![2 * t.val + 1, 0] ∧ win1_1.index t = ![0, 0] ∧ win1_2.index t = ![t.val, 0] :=
  (by decide +kernel : ∀ t : Fin grid1.N, _)

/-- The first half of the product. -/
theorem first_at (c : Dev nD) : (dat0 V c).arrAt 2 cfg0.N = halfOf 0 (V c main_v2) (V c main_v0) := by
  refine (dat0 V c).arrAt_eq_of_covers 2 _ (by decide +kernel) fun t _ y => ?_
  have ht : t.val < 8 := t.isLt
  have hy : (y 0).val < 704 := (y 0).isLt
  blk_simp
  rw [after0_2]; frame_out
  pointwise [k0_pay1, halfOf, rowOf]
  blk_point [iblk0, idx0 t]

/-- The second half of the product. -/
theorem second_at (c : Dev nD) : (dat1 V c).arrAt 2 cfg1.N = halfOf 1 (V c main_v2) (V c main_v0) := by
  refine (dat1 V c).arrAt_eq_of_covers 2 _ (by decide +kernel) fun t _ y => ?_
  have ht : t.val < 8 := t.isLt
  have hy : (y 0).val < 704 := (y 0).isLt
  blk_simp
  rw [after1_2]; frame_out
  pointwise [k1_pay1, halfOf, rowOf]
  blk_point [iblk1, idx1 t]

end Calls

variable (m : (ℓ : Loc nD τ sig) → Buf (Elt Ideal) ℓ) (ρ : Dev nD → PrngReg)

/-- The input rows. -/
def argU (c : Dev nD) : FVec Ideal S2048x2048 .bf16 := truncf .bf16 (m ((c : Thread nD τ).loc main_arg0)) bitsLt_bf16_f32

/-- The cotangent, transposed. -/
def argDa (c : Dev nD) : FVec Ideal S11264x2048 .bf16 :=
  truncf .bf16 (transpose S11264x2048 [1, 0] (m ((c : Thread nD τ).loc main_arg1)) transposes_S2048x11264_S11264x2048_1_0) bitsLt_bf16_f32

/-- The first call finds the input rows. -/
theorem V1_v0 (c : Dev nD) : V1 m ρ c main_v0 = argU m c := by
  unfold argU; show StableHlo.after _ _ _ = _; after_results
/-- The first call finds the transposed cotangent. -/
theorem V1_v2 (c : Dev nD) : V1 m ρ c main_v2 = argDa m c := by
  unfold argDa; show StableHlo.after _ _ _ = _; after_results

/-- The end of the first half. -/
theorem end_a (c : Dev nD) : W3 m ρ c (Proc.devRef .tc main_v3) = halfOf 0 (argDa m c) (argU m c) := by
  refine ((W3_of m ρ c main_v3 (by decide)).trans ((W2_arr m ρ c 2).trans (first_at (V1 m ρ) c))).trans ?_
  rw [V1_v0, V1_v2]

/-- The end of the second half. -/
theorem end_b (c : Dev nD) : W3 m ρ c (Proc.devRef .tc main_v4) = halfOf 1 (argDa m c) (argU m c) := by
  refine ((W3_arr m ρ c 2).trans (second_at (V2 m ρ) c)).trans ?_
  have h0 : V2 m ρ c main_v0 = argU m c := (W2_of m ρ c main_v0 (by decide)).trans (V1_v0 m ρ c)
  have h2 : V2 m ρ c main_v2 = argDa m c := (W2_of m ρ c main_v2 (by decide)).trans (V1_v2 m ρ c)
  rw [h0, h2]

local notation "𝕄" => MT nD τ sig Unit (Elt Ideal) ℕ (UR sig nD τ) ℕ

set_option backward.isDefEq.respectTransparency.types false in
/-- Every execution ends with the two halves and the arguments unchanged. -/
theorem run : θ_run defs (onTc (τ := τ) (main (F := Ideal))) ⟨m, fun _ => 0, ρ⟩ (fun r => ∀ c : Dev nD,
      r.2.mem ((c.tc : Thread nD τ).loc main_v3) = halfOf 0 (argDa m c) (argU m c)
      ∧ r.2.mem ((c.tc : Thread nD τ).loc main_v4) = halfOf 1 (argDa m c) (argU m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v3 (by decide))).trans (end_a m ρ c),
       (h c _ (mem_uc main_v4 (by decide))).trans (end_b m ρ c),
       (h c _ (mem_uc main_arg0 (by decide))).trans (W3_main_arg0 m ρ c),
       (h c _ (mem_uc main_arg1 (by decide))).trans (W3_main_arg1 m ρ c)⟩)

/-- The reference's run ends with the same two halves. -/
theorem reference (m' : (ℓ : Loc Cert.HalfRefIdeal.nD Cert.HalfRefIdeal.τ Cert.HalfRefIdeal.sig) → Buf (Elt Ideal) ℓ)
    (g : Dev Cert.HalfRefIdeal.nD → PrngReg)
    (hag : ∀ c : Dev nD, m' ((c.tc : Thread Cert.HalfRefIdeal.nD Cert.HalfRefIdeal.τ).loc Cert.HalfRefIdeal.main_arg0) = m ((c.tc : Thread nD τ).loc main_arg0)
      ∧ m' ((c.tc : Thread Cert.HalfRefIdeal.nD Cert.HalfRefIdeal.τ).loc Cert.HalfRefIdeal.main_arg1) = m ((c.tc : Thread nD τ).loc main_arg1)) :
    θ_run (Cert.HalfRefIdeal.defs (F := Ideal)) (onTc (τ := Cert.HalfRefIdeal.τ) (Cert.HalfRefIdeal.main (F := Ideal))) ⟨m', fun _ => 0, g⟩
      (fun r => ∀ c : Dev Cert.HalfRefIdeal.nD,
        r.2.mem ((c.tc : Thread Cert.HalfRefIdeal.nD Cert.HalfRefIdeal.τ).loc Cert.HalfRefIdeal.main_v9) = halfOf 0 (argDa m c) (argU m c)
        ∧ r.2.mem ((c.tc : Thread Cert.HalfRefIdeal.nD Cert.HalfRefIdeal.τ).loc Cert.HalfRefIdeal.main_v12) = halfOf 1 (argDa m c) (argU m c)
        ∧ r.2.mem ((c.tc : Thread Cert.HalfRefIdeal.nD Cert.HalfRefIdeal.τ).loc Cert.HalfRefIdeal.main_arg0) = m' ((c.tc : Thread Cert.HalfRefIdeal.nD Cert.HalfRefIdeal.τ).loc Cert.HalfRefIdeal.main_arg0)
        ∧ r.2.mem ((c.tc : Thread Cert.HalfRefIdeal.nD Cert.HalfRefIdeal.τ).loc Cert.HalfRefIdeal.main_arg1) = m' ((c.tc : Thread Cert.HalfRefIdeal.nD Cert.HalfRefIdeal.τ).loc Cert.HalfRefIdeal.main_arg1)) := by
  refine (θ_run _ _ _).mono (fun r h c => ?_) (Cert.HalfRefIdeal.Value.run m' g)
  obtain ⟨ha, hb, hargs⟩ := h c
  obtain ⟨e0, e1⟩ := hag c
  rw [e0, e1] at ha hb
  refine ⟨ha.trans ?_, hb.trans ?_, hargs⟩ <;> clear ha hb h e0 e1 hargs hag
  · funext i
    pointwise [halfOf, rowOf, argDa, argU]
  · funext i
    pointwise [halfOf, rowOf, argDa, argU]

end Cert.HalfIdeal.Value
end
-- ==== Proof.NormAlg.lean ====
module

public import proofs.«01_k».proof.Proof.Gen.NormIdeal.Frame
public import Idealize.ShloMosaic.Lib.Pipeline.ValueKit

/-!
# The gradient of a normalised row

The kernel takes the gradient of a row `x` divided by its root mean square in the form
`r (D - x r mean (D x r))`, the chain rule in the form `D r + x T + T x`; the two agree for every row, also where the row's
mean square is infinite.
-/

@[expose] public section

set_option maxRecDepth 16384

noncomputable section

namespace Cert.NormIdeal.Value

open Idealize.ShloMosaic

/-- The small constant added to the mean square. -/
def eps : EReal := Ideal.ofBits .f32 0x358637BD#32

/-- The mean square of a row plus the small constant. -/
def msq {n : Nat} (w : EReal) (x : Fin n → EReal) : EReal := Ideal.div (∑ k, x k * x k) w + eps

/-- The reciprocal root of the mean square. -/
def rstd {n : Nat} (w : EReal) (x : Fin n → EReal) : EReal := Ideal.rsqrt (msq w x)

/-- An entry of the gradient as the kernel computes it; `D` is the cotangent times the gain. -/
def rowGrad {n : Nat} (w : EReal) (x D : Fin n → EReal) (j : Fin n) : EReal :=
  rstd w x * (D j - x j * rstd w x * Ideal.div (∑ k, D k * (x k * rstd w x)) w)

/-- The gradient of the mean square's contribution as the chain rule computes it. -/
def meanGrad {n : Nat} (w : EReal) (x D : Fin n → EReal) : EReal :=
  Ideal.div ((∑ k, x k * D k) * (Ideal.ofBits .f32 0xBF000000#32 * Ideal.div (rstd w x) (msq w x))) w

/-- The small constant is a positive real number. -/
theorem eps_pos : ∃ e : ℝ, 0 < e ∧ eps = (e : EReal) := by
  refine ⟨8796093 * (1 / 8796093022208), by norm_num, ?_⟩
  unfold eps
  simp [Ideal.ofBits, Ideal.ieee]
  norm_cast

/-- The chain rule's factor for the reciprocal root. -/
theorem half_eq : Ideal.ofBits .f32 0xBF000000#32 = ((-(1 / 2) : ℝ) : EReal) := by
  simp [Ideal.ofBits, Ideal.ieee]
  norm_num
  norm_cast
  norm_num

/-- A square is not negative. -/
theorem sq_nonneg' (x : EReal) : 0 ≤ x * x := by
  induction x with
  | bot => simp
  | top => simp
  | coe r => exact_mod_cast mul_self_nonneg r

/-- A non-negative real factor goes into a sum. -/
theorem mul_sum_real {n : Nat} (ρ : ℝ) (h : 0 ≤ ρ) (f : Fin n → EReal) : ∑ k, (ρ : EReal) * f k = ρ * ∑ k, f k := by
  induction (Finset.univ : Finset (Fin n)) using Finset.induction_on with
  | empty => simp
  | insert a s ha ih =>
    rw [Finset.sum_insert ha, Finset.sum_insert ha, ih,
      EReal.left_distrib_of_nonneg_of_ne_top (by exact_mod_cast h) (EReal.coe_ne_top ρ)]

/-- The mean square is infinite, or a positive real number. -/
theorem msq_cases {n : Nat} {c : ℝ} (hc : 0 < c) (x : Fin n → EReal) :
    msq (c : EReal) x = ⊤ ∨ ∃ v : ℝ, 0 < v ∧ msq (c : EReal) x = (v : EReal) := by
  obtain ⟨e, he, hev⟩ := eps_pos
  have hs : 0 ≤ ∑ k, x k * x k := Finset.sum_nonneg fun k _ => sq_nonneg' _
  unfold msq
  rw [hev, Ideal.div_coe hc.ne']
  generalize (∑ k, x k * x k) = s at hs
  induction s with
  | bot => exact absurd hs (by simp)
  | top => left; rw [EReal.top_mul_coe_of_pos (by positivity)]; rfl
  | coe r =>
    right
    have hr : 0 ≤ r := by exact_mod_cast hs
    exact ⟨r * (1 / c) + e, by positivity, by norm_cast⟩

/-- The two forms of the gradient agree. -/
theorem rowGrad_eq {n : Nat} {c : ℝ} (hc : 0 < c) (x D : Fin n → EReal) (j : Fin n) :
    rowGrad (c : EReal) x D j = D j * rstd (c : EReal) x + x j * meanGrad (c : EReal) x D + meanGrad (c : EReal) x D * x j := by
  unfold rowGrad meanGrad
  rcases msq_cases hc x with h | ⟨v, hv, h⟩
  · have hr : rstd (c : EReal) x = 0 := by unfold rstd; rw [h]; rfl
    have h0 : Ideal.div (0 : EReal) ⊤ = 0 := by simp [Ideal.div]
    rw [hr, h, h0, mul_zero, mul_zero, Ideal.div_coe hc.ne', Ideal.div_coe hc.ne']
    simp
  · obtain ⟨ρ, hρ, hr, hv'⟩ : ∃ ρ : ℝ, 0 < ρ ∧ rstd (c : EReal) x = (ρ : EReal) ∧ ρ * (1 / v) = ρ ^ 3 := by
      have hq := Real.sqrt_pos.mpr hv
      refine ⟨(Real.sqrt v)⁻¹, by positivity, ?_, ?_⟩
      · unfold rstd; rw [h, Ideal.rsqrt_coe, if_neg (not_lt.mpr hv.le), if_neg hv.ne']
      · have : v = Real.sqrt v ^ 2 := (Real.sq_sqrt hv.le).symm
        rw [this]
        generalize Real.sqrt v = q at hq
        rw [Real.sqrt_sq hq.le]
        field_simp
    rw [hr, h, half_eq, Ideal.div_coe hv.ne', Ideal.div_coe hc.ne', Ideal.div_coe hc.ne',
      Finset.sum_congr rfl fun k _ => show D k * (x k * (ρ : EReal)) = ρ * (x k * D k) by rw [mul_comm, mul_comm (x k), mul_assoc],
      mul_sum_real ρ hρ.le]
    generalize (∑ k, x k * D k) = M
    generalize D j = d
    generalize x j = y
    rw [sub_eq_add_neg, EReal.left_distrib_of_nonneg_of_ne_top (by exact_mod_cast hρ.le) (EReal.coe_ne_top ρ), mul_comm d, add_assoc]
    congr 1
    have e1 : (ρ : EReal) * -(y * ρ * (ρ * M * ((1 / c : ℝ) : EReal))) = -(((ρ ^ 3 / c : ℝ) : EReal) * (y * M)) := by
      rw [mul_neg, show (ρ ^ 3 / c : ℝ) = ρ * ρ * ρ * (1 / c) by ring]
      push_cast
      congr 1
      ac_rfl
    have e2 : M * (((-(1 / 2) : ℝ) : EReal) * ((ρ : EReal) * ((1 / v : ℝ) : EReal))) * ((1 / c : ℝ) : EReal)
        = -(((ρ ^ 3 / c / 2 : ℝ) : EReal) * M) := by
      rw [← EReal.coe_mul, hv', ← EReal.coe_mul, mul_assoc, ← EReal.coe_mul, mul_comm, ← EReal.neg_mul, ← EReal.coe_neg]
      congr 2
      ring
    rw [e1, e2, mul_neg, neg_mul,
      show y * (((ρ ^ 3 / c / 2 : ℝ) : EReal) * M) = ((ρ ^ 3 / c / 2 : ℝ) : EReal) * (y * M) by ac_rfl,
      show ((ρ ^ 3 / c / 2 : ℝ) : EReal) * M * y = ((ρ ^ 3 / c / 2 : ℝ) : EReal) * (y * M) by ac_rfl]
    have hk : 0 < ρ ^ 3 / c := by positivity
    generalize ρ ^ 3 / c = κ at hk
    generalize y * M = z
    induction z with
    | bot => rw [EReal.coe_mul_bot_of_pos hk, EReal.coe_mul_bot_of_pos (half_pos hk)]; rfl
    | top => rw [EReal.coe_mul_top_of_pos hk, EReal.coe_mul_top_of_pos (half_pos hk)]; rfl
    | coe r => norm_cast; ring

end Cert.NormIdeal.Value
end
-- ==== Proof.NormCalls.lean ====
module

public import proofs.«01_k».proof.Proof.NormAlg

/-!
# The four calls of the normalisation program, entry by entry
-/

@[expose] public section

set_option maxRecDepth 16384

noncomputable section

open Idealize.ShloMosaic Idealize.ShloMosaic.TcCoe Idealize.SL.Sem
open Idealize.ShloMosaic.Pipeline (Dat)

namespace Cert.NormIdeal.Value

open Cert.NormIdeal Cert.NormIdeal.Gen

/-- Row `i` of an array. -/
def rowOf {a n : Nat} (x : (⟨2, ![a, n]⟩ : Shape).Idx → EReal) (i : Fin a) : Fin n → EReal := fun k => x (ix2 i k)

/-- The width of the model, as the division's constant. -/
def width : EReal := Ideal.ofBits .f32 0x45000000#32

/-- The width of one half, as the division's constant. -/
def halfWidth : EReal := Ideal.ofBits .f32 0x44800000#32

/-- A normalised entry times its gain. -/
def normOf {a n : Nat} (w : EReal) (x : (⟨2, ![a, n]⟩ : Shape).Idx → EReal) (g : (⟨2, ![1, n]⟩ : Shape).Idx → EReal) (i : Fin a) (j : Fin n) : EReal :=
  x (ix2 i j) * rstd w (rowOf x i) * g (ix2 0 j)

/-- The gradient of the normalised rows. -/
def gradOf {a n : Nat} (w : EReal) (x d : (⟨2, ![a, n]⟩ : Shape).Idx → EReal) (g : (⟨2, ![1, n]⟩ : Shape).Idx → EReal) (i : Fin a) (j : Fin n) : EReal :=
  rowGrad w (rowOf x i) (fun k => d (ix2 i k) * g (ix2 0 k)) j

/-- The gradient of the gain. -/
def gainOf {a n : Nat} (w : EReal) (x d : (⟨2, ![a, n]⟩ : Shape).Idx → EReal) (j : Fin n) : EReal :=
  ∑ i : Fin a, d (ix2 i j) * (x (ix2 i j) * rstd w (rowOf x i))

/-- The left half of an array's columns. -/
def leftOf {a : Nat} (d : (⟨2, ![a, 2048]⟩ : Shape).Idx → EReal) : (⟨2, ![a, 1024]⟩ : Shape).Idx → EReal :=
  fun i => d (ix2 (i 0) ⟨(i 1).val, lt_trans (show (i 1).val < 1024 from (i 1).isLt) (by decide)⟩)

/-- The right half of an array's columns. -/
def rightOf {a : Nat} (d : (⟨2, ![a, 2048]⟩ : Shape).Idx → EReal) : (⟨2, ![a, 1024]⟩ : Shape).Idx → EReal :=
  fun i => d (ix2 (i 0) ⟨1024 + (i 1).val, Nat.add_lt_add_left (show (i 1).val < 1024 from (i 1).isLt) 1024⟩)

/-- An entry of the left half. -/
theorem left_at {a : Nat} (d : (⟨2, ![a, 2048]⟩ : Shape).Idx → EReal) (i : Fin a) (j : Fin 1024) :
    leftOf d (ix2 i j) = d (ix2 i ⟨j.val, lt_trans j.isLt (by decide)⟩) := rfl

/-- An entry of the right half. -/
theorem right_at {a : Nat} (d : (⟨2, ![a, 2048]⟩ : Shape).Idx → EReal) (i : Fin a) (j : Fin 1024) :
    rightOf d (ix2 i j) = d (ix2 i ⟨1024 + j.val, Nat.add_lt_add_left j.isLt 1024⟩) := rfl

/-- The two normalised halves side by side. -/
def mixOf {a : Nat} (xa xb : (⟨2, ![a, 1024]⟩ : Shape).Idx → EReal) (ga gb : (⟨2, ![1, 1024]⟩ : Shape).Idx → EReal) (i : Fin a) (j : Fin 2048) : EReal :=
  if h : j.val < 1024 then normOf halfWidth xa ga i ⟨j.val, h⟩
  else normOf halfWidth xb gb i ⟨j.val - 1024, Nat.sub_lt_left_of_lt_add (not_lt.mp h) j.isLt⟩

/-- The gradient of the normalised rows, added to another gradient. -/
def addGrad {a n : Nat} (w : EReal) (r x d : (⟨2, ![a, n]⟩ : Shape).Idx → EReal) (g : (⟨2, ![1, n]⟩ : Shape).Idx → EReal) (i : Fin a) (j : Fin n) : EReal :=
  r (ix2 i j) + gradOf w x d g i j

section Payloads

/-- What a grid point of the forward norm stores. -/
theorem pay_u (x : FVec Ideal S256x2048 .f32) (g : FVec Ideal S1x2048 .f32) (j) :
    k0_pay1 (F := Ideal) x g j = (normOf width x g (j 0) (j 1) : EReal) := by
  pointwise [k0_pay1, normOf, rstd, msq, rowOf, width, eps]

/-- What a grid point of the backward norm stores. -/
theorem pay_dh (x : FVec Ideal S256x2048 .f32) (g : FVec Ideal S1x2048 .f32) (d r : FVec Ideal S256x2048 .f32) (j) :
    k1_pay6 (F := Ideal) x g d r j = (r j + gradOf width x d g (j 0) (j 1) : EReal) := by
  pointwise [k1_pay6, k1_pay4, k1_pay3, gradOf, rowGrad, rstd, msq, rowOf, width, eps]

/-- What it stores halved. -/
theorem pay_dhb (x : FVec Ideal S256x2048 .f32) (g : FVec Ideal S1x2048 .f32) (d r : FVec Ideal S256x2048 .f32) (j) :
    k1_pay7 (F := Ideal) x g d r j = (Ideal.ofBits .f32 0x3F000000#32 * k1_pay6 (F := Ideal) x g d r j : EReal) := by
  pointwise [k1_pay7]

/-- What it adds to the gradient of the gain. -/
theorem pay_dg (x d : FVec Ideal S256x2048 .f32) (acc : FVec Ideal S1x2048 .f32) (j) :
    k1_pay1 (F := Ideal) (k1_pay5 x d) acc j = (acc j + gainOf width x d (j 1) : EReal) := by
  pointwise [k1_pay1, k1_pay5, k1_pay4, k1_pay3, gainOf, rstd, msq, rowOf, width, eps]

/-- The cleared gradient of the gain. -/
theorem zero1 (j) : k1_pay2 (F := Ideal) j = 0 := by pointwise [k1_pay2]

/-- The cleared gradient of the left half's gain. -/
theorem zero3 (j) : k3_pay6 (F := Ideal) j = 0 := by pointwise [k3_pay6]

/-- The cleared gradient of the right half's gain. -/
theorem zero3' (j) : k3_pay7 (F := Ideal) j = 0 := by pointwise [k3_pay7]

/-- What a grid point of the backward mixer norm stores for the left half. -/
theorem pay_dya (x : FVec Ideal S256x1024 .f32) (g : FVec Ideal S1x1024 .f32) (d : FVec Ideal S256x1024 .f32) (j) :
    k3_pay10 (F := Ideal) x g d j = (gradOf halfWidth x d g (j 0) (j 1) : EReal) := by
  pointwise [k3_pay10, k3_pay9, k3_pay8, gradOf, rowGrad, rstd, msq, rowOf, halfWidth, eps]

/-- What it stores for the right half. -/
theorem pay_dyb (x : FVec Ideal S256x1024 .f32) (g : FVec Ideal S1x1024 .f32) (d : FVec Ideal S256x1024 .f32) (j) :
    k3_pay3 (F := Ideal) x g d (k3_pay12 x) j = (gradOf halfWidth x d g (j 0) (j 1) : EReal) := by
  pointwise [k3_pay3, k3_pay2, k3_pay1, k3_pay12, gradOf, rowGrad, rstd, msq, rowOf, halfWidth, eps]

/-- What it adds to the gradient of the left half's gain. -/
theorem pay_dga (x d : FVec Ideal S256x1024 .f32) (acc : FVec Ideal S1x1024 .f32) (j) :
    k3_pay4 (F := Ideal) (k3_pay11 x d) acc j = (acc j + gainOf halfWidth x d (j 1) : EReal) := by
  pointwise [k3_pay4, k3_pay11, k3_pay9, k3_pay8, gainOf, rstd, msq, rowOf, halfWidth, eps]

/-- What it adds to the gradient of the right half's gain. -/
theorem pay_dgb (x d : FVec Ideal S256x1024 .f32) (acc : FVec Ideal S1x1024 .f32) (j) :
    k3_pay5 (F := Ideal) x d (k3_pay12 x) acc j = (acc j + gainOf halfWidth x d (j 1) : EReal) := by
  pointwise [k3_pay5, k3_pay2, k3_pay1, k3_pay12, gainOf, rstd, msq, rowOf, halfWidth, eps]

/-- What a grid point of the forward mixer norm stores. -/
theorem pay_y (xa xb : FVec Ideal S256x1024 .f32) (ga gb : FVec Ideal S1x1024 .f32) (y : S256x2048.Idx) :
    out2_4 (F := Ideal) xa xb ga gb y = (mixOf xa xb ga gb (y 0) (y 1) : EReal) := by
  unfold out2_4 r2_4 r2_2 r2_0 r2_1
  canon_tiles x h
  · unfold mixOf
    rw [dif_neg (by omega)]
    pointwise [k2_pay6, k2_pay5, normOf, rstd, msq, rowOf, halfWidth, eps]
    blk_point []
  · unfold mixOf
    rw [dif_pos (by omega)]
    pointwise [k2_pay3, k2_pay2, normOf, rstd, msq, rowOf, halfWidth, eps]
    blk_point []

/-- What it stores transposed. -/
theorem pay_yt (xa xb : FVec Ideal S256x1024 .f32) (ga gb : FVec Ideal S1x1024 .f32) (y : S2048x256.Idx) :
    out2_5 (F := Ideal) xa xb ga gb y = (mixOf xa xb ga gb (y 1) (y 0) : EReal) := by
  unfold out2_5 r2_5 r2_3 r2_0 r2_1
  canon_tiles x h
  · unfold mixOf
    rw [dif_neg (by omega)]
    pointwise [k2_pay1, k2_pay7, k2_pay5, normOf, rstd, msq, rowOf, halfWidth, eps]
    blk_point []
  · unfold mixOf
    rw [dif_pos (by omega)]
    pointwise [k2_pay4, k2_pay2, normOf, rstd, msq, rowOf, halfWidth, eps]
    blk_point []

end Payloads

section Calls

variable (V : (c : Dev nD) → (b : Ref sig .tc) → Buf (Elt Ideal) ((c : Thread nD τ).loc b))

/-- The blocks of the forward norm at each grid point. -/
theorem idx0 : ∀ t : Fin cfg0.N, win0_0.index t = ![t.val, 0] ∧ win0_1.index t = ![0, 0] ∧ win0_2.index t = ![t.val, 0] :=
  (by decide +kernel : ∀ t : Fin grid0.N, _)

/-- The blocks of the backward norm at each grid point. -/
theorem idx1 : ∀ t : Fin cfg1.N, win1_0.index t = ![t.val, 0] ∧ win1_1.index t = ![t.val, 0] ∧ win1_2.index t = ![0, 0]
    ∧ win1_3.index t = ![t.val, 0] ∧ win1_4.index t = ![t.val, 0] ∧ win1_5.index t = ![t.val, 0] ∧ win1_6.index t = ![0, 0] :=
  (by decide +kernel : ∀ t : Fin grid1.N, _)

/-- The blocks of the forward mixer norm at each grid point. -/
theorem idx2 : ∀ t : Fin cfg2.N, win2_0.index t = ![t.val, 0] ∧ win2_1.index t = ![t.val, 0] ∧ win2_2.index t = ![0, 0]
    ∧ win2_3.index t = ![0, 0] ∧ win2_4.index t = ![t.val, 0] ∧ win2_5.index t = ![0, t.val] :=
  (by decide +kernel : ∀ t : Fin grid2.N, _)

/-- The blocks of the backward mixer norm at each grid point. -/
theorem idx3 : ∀ t : Fin cfg3.N, win3_0.index t = ![t.val, 0] ∧ win3_1.index t = ![t.val, 0] ∧ win3_2.index t = ![t.val, 0]
    ∧ win3_3.index t = ![0, 0] ∧ win3_4.index t = ![0, 0] ∧ win3_5.index t = ![t.val, 0] ∧ win3_6.index t = ![t.val, 0]
    ∧ win3_7.index t = ![0, 0] ∧ win3_8.index t = ![0, 0] :=
  (by decide +kernel : ∀ t : Fin grid3.N, _)

/-- The normalised rows. -/
theorem u_at (c : Dev nD) : (dat0 V c).arrAt 2 cfg0.N
    = (fun i => normOf width (V c main_arg0) (V c main_arg1) (i 0) (i 1) : FVec Ideal S2048x2048 .bf16) := by
  refine (dat0 V c).arrAt_eq_of_covers 2 _ (by decide +kernel) fun t _ y => ?_
  blk_simp
  rw [after0_2]; frame_out
  rw [pay_u]
  unfold normOf rstd msq rowOf
  blk_point [iblk0, idx0 t]

/-- The gradient of the rows, added to the gradient that goes round the layer. -/
theorem dh_at (c : Dev nD) : (dat1 V c).arrAt 4 cfg1.N
    = (fun i => addGrad width (V c main_arg3) (V c main_arg0) (V c main_arg2) (V c main_arg1) (i 0) (i 1) : FVec Ideal S2048x2048 .f32) := by
  refine (dat1 V c).arrAt_eq_of_covers 4 _ (by decide +kernel) fun t _ y => ?_
  blk_simp
  rw [after1_4]
  have key : (outsAt1 V c t.val t.isLt).1 = k1_pay6 (F := Ideal) (iblk1 V c 1 t) (iblk1 V c 2 t) (iblk1 V c 0 t) (iblk1 V c 3 t) := by
    by_cases h : t.val % 8 = 0
    · rw [outsAt1_A V c t h]; frame_out
    · rw [outsAt1_B V c t h]; frame_out
  rw [key, pay_dh]
  unfold addGrad gradOf rowGrad rstd msq rowOf
  dsimp only
  blk_point [iblk1, idx1 t]

/-- The same gradient, halved. -/
theorem dhb_at (c : Dev nD) : (dat1 V c).arrAt 5 cfg1.N
    = (fun i => Ideal.ofBits .f32 0x3F000000#32 * addGrad width (V c main_arg3) (V c main_arg0) (V c main_arg2) (V c main_arg1) (i 0) (i 1) : FVec Ideal S2048x2048 .bf16) := by
  refine (dat1 V c).arrAt_eq_of_covers 5 _ (by decide +kernel) fun t _ y => ?_
  blk_simp
  rw [after1_5]
  have key : (outsAt1 V c t.val t.isLt).2.1 = k1_pay7 (F := Ideal) (iblk1 V c 1 t) (iblk1 V c 2 t) (iblk1 V c 0 t) (iblk1 V c 3 t) := by
    by_cases h : t.val % 8 = 0
    · rw [outsAt1_A V c t h]; frame_out
    · rw [outsAt1_B V c t h]; frame_out
  rw [key, pay_dhb, pay_dh]
  unfold addGrad gradOf rowGrad rstd msq rowOf
  blk_point [iblk1, idx1 t]
  all_goals
    congr 1
    congr 1 <;> blk_point [iblk1, idx1 t]

/-- The gradient of the gain, summed over the grid. -/
theorem dg_at (c : Dev nD) : (dat1 V c).arrAt 6 cfg1.N
    = (fun i => gainOf width (V c main_arg0) (V c main_arg2) (i 1) : FVec Ideal S1x2048 .f32) := by
  refine (dat1 V c).arrAt_eq_of_covers 6 _ (by decide +kernel) fun t hf y => ?_
  blk_simp
  rw [after1_6, Pipeline.eq_sum_fin_of_reset_step_apply_of_flush (fun n h => (outsAt1 V c n h).2.2) 8 (fun _ => 0) _
    (fun t h j => by rw [outsAt1_A V c t h]; frame_out; rw [pay_dg, zero1])
    (fun t h j => by rw [outsAt1_B V c t h]; frame_out; rw [pay_dg])
    t ((flush1_6 t).mp hf) _, zero_add]
  refine Fin.sum_mul_add_congr fun s k hl => ?_
  unfold rstd msq rowOf
  blk_point [iblk1, idx1 t, idx1 ⟨_, Pipeline.run_point_lt_of_flush t ((flush1_6 t).mp hf) s⟩]

/-- The two normalised halves. -/
theorem y_at (c : Dev nD) : (dat2 V c).arrAt 4 cfg2.N
    = (fun i => mixOf (V c main_arg4) (V c main_arg5) (V c main_arg6) (V c main_arg7) (i 0) (i 1) : FVec Ideal S2048x2048 .bf16) := by
  refine (dat2 V c).arrAt_eq_of_covers 4 _ (by decide +kernel) fun t _ y => ?_
  blk_simp
  rw [after2_4, pay_y]
  unfold mixOf normOf rstd msq rowOf
  blk_simp [idx2 t]
  split_ifs
  · blk_point [iblk2, idx2 t]
  · blk_point [iblk2, idx2 t]

/-- The two normalised halves, transposed. -/
theorem yt_at (c : Dev nD) : (dat2 V c).arrAt 5 cfg2.N
    = (fun i => mixOf (V c main_arg4) (V c main_arg5) (V c main_arg6) (V c main_arg7) (i 1) (i 0) : FVec Ideal S2048x2048 .bf16) := by
  refine (dat2 V c).arrAt_eq_of_covers 5 _ (by decide +kernel) fun t _ y => ?_
  blk_simp
  rw [after2_5, pay_yt]
  unfold mixOf normOf rstd msq rowOf
  blk_simp [idx2 t]
  split_ifs
  · blk_point [iblk2, idx2 t]
  · blk_point [iblk2, idx2 t]

/-- The left half of the cotangent's block. -/
theorem ld_left (d : S256x2048.Idx → Elt Ideal .f32) :
    View.ld d (Rect.unit (s := S256x2048) ![0, 0] ![256, 1024] inb_S256x2048_S256x1024_0_0) = (leftOf d : FVec Ideal S256x1024 .f32) := by
  refine funext fun i => View.ld_unit_apply_of d _ _ _ i _ (Fin.forall_fin_two.mpr ⟨?_, ?_⟩)
  · exact (Nat.zero_add _).symm
  · exact (Nat.zero_add _).symm

/-- The right half of the cotangent's block. -/
theorem ld_right (d : S256x2048.Idx → Elt Ideal .f32) :
    View.ld d (Rect.unit (s := S256x2048) ![0, 1024] ![256, 1024] inb_S256x2048_S256x1024_0_1024) = (rightOf d : FVec Ideal S256x1024 .f32) := by
  refine funext fun i => View.ld_unit_apply_of d _ _ _ i _ (Fin.forall_fin_two.mpr ⟨?_, ?_⟩)
  · exact (Nat.zero_add _).symm
  · exact rfl

/-- The gradient of the left half's rows. -/
theorem dya_at (c : Dev nD) : (dat3 V c).arrAt 5 cfg3.N
    = (fun i => gradOf halfWidth (V c main_arg4) (leftOf (V c main_arg8)) (V c main_arg6) (i 0) (i 1) : FVec Ideal S2048x1024 .f32) := by
  refine (dat3 V c).arrAt_eq_of_covers 5 _ (by decide +kernel) fun t _ y => ?_
  blk_simp
  rw [after3_5]
  have key : (outsAt3 V c t.val t.isLt).1 = k3_pay10 (F := Ideal) (iblk3 V c 1 t) (iblk3 V c 3 t)
      (View.ld (iblk3 V c 0 t : S256x2048.Idx → Elt Ideal .f32) (Rect.unit (s := S256x2048) ![0, 0] ![256, 1024] inb_S256x2048_S256x1024_0_0)) := by
    by_cases h : t.val % 8 = 0
    · rw [outsAt3_A V c t h]; frame_out; rfl
    · rw [outsAt3_B V c t h]; frame_out; rfl
  rw [key, ld_left, pay_dya]
  unfold gradOf rowGrad rstd msq rowOf
  dsimp only
  blk_point [iblk3, idx3 t]
  all_goals
    refine (left_at _ _ _).trans (Eq.trans ?_ (left_at _ _ _).symm)
    blk_point [iblk3, idx3 t]

/-- The gradient of the right half's rows. -/
theorem dyb_at (c : Dev nD) : (dat3 V c).arrAt 6 cfg3.N
    = (fun i => gradOf halfWidth (V c main_arg5) (rightOf (V c main_arg8)) (V c main_arg7) (i 0) (i 1) : FVec Ideal S2048x1024 .f32) := by
  refine (dat3 V c).arrAt_eq_of_covers 6 _ (by decide +kernel) fun t _ y => ?_
  blk_simp
  rw [after3_6]
  have key : (outsAt3 V c t.val t.isLt).2.1 = k3_pay3 (F := Ideal) (iblk3 V c 2 t) (iblk3 V c 4 t)
      (View.ld (iblk3 V c 0 t : S256x2048.Idx → Elt Ideal .f32) (Rect.unit (s := S256x2048) ![0, 1024] ![256, 1024] inb_S256x2048_S256x1024_0_1024))
      (k3_pay12 (F := Ideal) (iblk3 V c 2 t)) := by
    by_cases h : t.val % 8 = 0
    · rw [outsAt3_A V c t h]; frame_out; rfl
    · rw [outsAt3_B V c t h]; frame_out; rfl
  rw [key, ld_right, pay_dyb]
  unfold gradOf rowGrad rstd msq rowOf
  dsimp only
  blk_point [iblk3, idx3 t]
  all_goals
    refine (right_at _ _ _).trans (Eq.trans ?_ (right_at _ _ _).symm)
    blk_point [iblk3, idx3 t]

/-- The gradient of the left half's gain, summed over the grid. -/
theorem dga_at (c : Dev nD) : (dat3 V c).arrAt 7 cfg3.N
    = (fun i => gainOf halfWidth (V c main_arg4) (leftOf (V c main_arg8)) (i 1) : FVec Ideal S1x1024 .f32) := by
  refine (dat3 V c).arrAt_eq_of_covers 7 _ (by decide +kernel) fun t hf y => ?_
  blk_simp
  rw [after3_7, Pipeline.eq_sum_fin_of_reset_step_apply_of_flush (fun n h => (outsAt3 V c n h).2.2.1) 8 (fun _ => 0) _
    (fun t h j => by rw [outsAt3_A V c t h]; frame_out; rw [ld_left, pay_dga, zero3])
    (fun t h j => by rw [outsAt3_B V c t h]; frame_out; rw [ld_left, pay_dga])
    t ((flush3_7 t).mp hf) _, zero_add]
  refine Fin.sum_mul_add_congr fun s k hl => ?_
  unfold rstd msq rowOf
  dsimp only
  blk_point [iblk3, idx3 t, idx3 ⟨_, Pipeline.run_point_lt_of_flush t ((flush3_7 t).mp hf) s⟩]
  all_goals
    refine (left_at _ _ _).trans (Eq.trans ?_ (left_at _ _ _).symm)
    blk_point [iblk3, idx3 t, idx3 ⟨_, Pipeline.run_point_lt_of_flush t ((flush3_7 t).mp hf) s⟩]

/-- The gradient of the right half's gain, summed over the grid. -/
theorem dgb_at (c : Dev nD) : (dat3 V c).arrAt 8 cfg3.N
    = (fun i => gainOf halfWidth (V c main_arg5) (rightOf (V c main_arg8)) (i 1) : FVec Ideal S1x1024 .f32) := by
  refine (dat3 V c).arrAt_eq_of_covers 8 _ (by decide +kernel) fun t hf y => ?_
  blk_simp
  rw [after3_8, Pipeline.eq_sum_fin_of_reset_step_apply_of_flush (fun n h => (outsAt3 V c n h).2.2.2) 8 (fun _ => 0) _
    (fun t h j => by rw [outsAt3_A V c t h]; frame_out; rw [ld_right, pay_dgb, zero3'])
    (fun t h j => by rw [outsAt3_B V c t h]; frame_out; rw [ld_right, pay_dgb])
    t ((flush3_8 t).mp hf) _, zero_add]
  refine Fin.sum_mul_add_congr fun s k hl => ?_
  unfold rstd msq rowOf
  dsimp only
  blk_point [iblk3, idx3 t, idx3 ⟨_, Pipeline.run_point_lt_of_flush t ((flush3_8 t).mp hf) s⟩]
  all_goals
    refine (right_at _ _ _).trans (Eq.trans ?_ (right_at _ _ _).symm)
    blk_point [iblk3, idx3 t, idx3 ⟨_, Pipeline.run_point_lt_of_flush t ((flush3_8 t).mp hf) s⟩]

end Calls

end Cert.NormIdeal.Value
end
-- ==== Proof.NormValue.lean ====
module

public import proofs.«01_k».proof.Proof.NormCalls
public import proofs.«01_k».proof.Proof.Gen.NormRefIdeal.Run

/-!
# The runs of the normalisation program and of its reference
-/

@[expose] public section

set_option maxRecDepth 16384

noncomputable section

namespace Cert.NormIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.NormIdeal Cert.NormIdeal.Gen

variable (m : (ℓ : Loc nD τ sig) → Buf (Elt Ideal) ℓ) (ρ : Dev nD → PrngReg)

/-- The gradient of the normalised rows, of the arguments. -/
def resDh (c : Dev nD) : FVec Ideal S2048x2048 .f32 := fun i => addGrad width (m ((c : Thread nD τ).loc main_arg3)) (m ((c : Thread nD τ).loc main_arg0)) (m ((c : Thread nD τ).loc main_arg2)) (m ((c : Thread nD τ).loc main_arg1)) (i 0) (i 1)

/-- The same gradient, halved, of the arguments. -/
def resDhb (c : Dev nD) : FVec Ideal S2048x2048 .bf16 := fun i => Ideal.ofBits .f32 0x3F000000#32 * addGrad width (m ((c : Thread nD τ).loc main_arg3)) (m ((c : Thread nD τ).loc main_arg0)) (m ((c : Thread nD τ).loc main_arg2)) (m ((c : Thread nD τ).loc main_arg1)) (i 0) (i 1)

/-- The gradient of the gain, of the arguments. -/
def resDg (c : Dev nD) : FVec Ideal S1x2048 .f32 := fun i => gainOf width (m ((c : Thread nD τ).loc main_arg0)) (m ((c : Thread nD τ).loc main_arg2)) (i 1)

/-- The gradient of the left half's rows, of the arguments. -/
def resDya (c : Dev nD) : FVec Ideal S2048x1024 .f32 := fun i => gradOf halfWidth (m ((c : Thread nD τ).loc main_arg4)) (leftOf (m ((c : Thread nD τ).loc main_arg8))) (m ((c : Thread nD τ).loc main_arg6)) (i 0) (i 1)

/-- The gradient of the right half's rows, of the arguments. -/
def resDyb (c : Dev nD) : FVec Ideal S2048x1024 .f32 := fun i => gradOf halfWidth (m ((c : Thread nD τ).loc main_arg5)) (rightOf (m ((c : Thread nD τ).loc main_arg8))) (m ((c : Thread nD τ).loc main_arg7)) (i 0) (i 1)

/-- The gradient of the left half's gain, of the arguments. -/
def resDga (c : Dev nD) : FVec Ideal S1x1024 .f32 := fun i => gainOf halfWidth (m ((c : Thread nD τ).loc main_arg4)) (leftOf (m ((c : Thread nD τ).loc main_arg8))) (i 1)

/-- The gradient of the right half's gain, of the arguments. -/
def resDgb (c : Dev nD) : FVec Ideal S1x1024 .f32 := fun i => gainOf halfWidth (m ((c : Thread nD τ).loc main_arg5)) (rightOf (m ((c : Thread nD τ).loc main_arg8))) (i 1)

/-- The normalised rows, of the arguments. -/
def resU (c : Dev nD) : FVec Ideal S2048x2048 .bf16 := fun i => normOf width (m ((c : Thread nD τ).loc main_arg0)) (m ((c : Thread nD τ).loc main_arg1)) (i 0) (i 1)

/-- The two normalised halves, of the arguments. -/
def resY (c : Dev nD) : FVec Ideal S2048x2048 .bf16 := fun i => mixOf (m ((c : Thread nD τ).loc main_arg4)) (m ((c : Thread nD τ).loc main_arg5)) (m ((c : Thread nD τ).loc main_arg6)) (m ((c : Thread nD τ).loc main_arg7)) (i 0) (i 1)

/-- The two normalised halves, transposed, of the arguments. -/
def resYt (c : Dev nD) : FVec Ideal S2048x2048 .bf16 := fun i => mixOf (m ((c : Thread nD τ).loc main_arg4)) (m ((c : Thread nD τ).loc main_arg5)) (m ((c : Thread nD τ).loc main_arg6)) (m ((c : Thread nD τ).loc main_arg7)) (i 1) (i 0)

/-- Argument 0 after one call. -/
theorem V1_arg0 (c : Dev nD) : V1 m ρ c main_arg0 = m ((c : Thread nD τ).loc main_arg0) :=
  (W1_of m ρ c main_arg0 (by decide)).trans rfl

/-- Argument 0 after two calls. -/
theorem V2_arg0 (c : Dev nD) : V2 m ρ c main_arg0 = m ((c : Thread nD τ).loc main_arg0) :=
  (W2_of m ρ c main_arg0 (by decide)).trans (V1_arg0 m ρ c)

/-- Argument 0 after three calls. -/
theorem V3_arg0 (c : Dev nD) : V3 m ρ c main_arg0 = m ((c : Thread nD τ).loc main_arg0) :=
  (W3_of m ρ c main_arg0 (by decide)).trans (V2_arg0 m ρ c)

/-- Argument 1 after one call. -/
theorem V1_arg1 (c : Dev nD) : V1 m ρ c main_arg1 = m ((c : Thread nD τ).loc main_arg1) :=
  (W1_of m ρ c main_arg1 (by decide)).trans rfl

/-- Argument 1 after two calls. -/
theorem V2_arg1 (c : Dev nD) : V2 m ρ c main_arg1 = m ((c : Thread nD τ).loc main_arg1) :=
  (W2_of m ρ c main_arg1 (by decide)).trans (V1_arg1 m ρ c)

/-- Argument 1 after three calls. -/
theorem V3_arg1 (c : Dev nD) : V3 m ρ c main_arg1 = m ((c : Thread nD τ).loc main_arg1) :=
  (W3_of m ρ c main_arg1 (by decide)).trans (V2_arg1 m ρ c)

/-- Argument 2 after one call. -/
theorem V1_arg2 (c : Dev nD) : V1 m ρ c main_arg2 = m ((c : Thread nD τ).loc main_arg2) :=
  (W1_of m ρ c main_arg2 (by decide)).trans rfl

/-- Argument 2 after two calls. -/
theorem V2_arg2 (c : Dev nD) : V2 m ρ c main_arg2 = m ((c : Thread nD τ).loc main_arg2) :=
  (W2_of m ρ c main_arg2 (by decide)).trans (V1_arg2 m ρ c)

/-- Argument 2 after three calls. -/
theorem V3_arg2 (c : Dev nD) : V3 m ρ c main_arg2 = m ((c : Thread nD τ).loc main_arg2) :=
  (W3_of m ρ c main_arg2 (by decide)).trans (V2_arg2 m ρ c)

/-- Argument 3 after one call. -/
theorem V1_arg3 (c : Dev nD) : V1 m ρ c main_arg3 = m ((c : Thread nD τ).loc main_arg3) :=
  (W1_of m ρ c main_arg3 (by decide)).trans rfl

/-- Argument 3 after two calls. -/
theorem V2_arg3 (c : Dev nD) : V2 m ρ c main_arg3 = m ((c : Thread nD τ).loc main_arg3) :=
  (W2_of m ρ c main_arg3 (by decide)).trans (V1_arg3 m ρ c)

/-- Argument 3 after three calls. -/
theorem V3_arg3 (c : Dev nD) : V3 m ρ c main_arg3 = m ((c : Thread nD τ).loc main_arg3) :=
  (W3_of m ρ c main_arg3 (by decide)).trans (V2_arg3 m ρ c)

/-- Argument 4 after one call. -/
theorem V1_arg4 (c : Dev nD) : V1 m ρ c main_arg4 = m ((c : Thread nD τ).loc main_arg4) :=
  (W1_of m ρ c main_arg4 (by decide)).trans rfl

/-- Argument 4 after two calls. -/
theorem V2_arg4 (c : Dev nD) : V2 m ρ c main_arg4 = m ((c : Thread nD τ).loc main_arg4) :=
  (W2_of m ρ c main_arg4 (by decide)).trans (V1_arg4 m ρ c)

/-- Argument 4 after three calls. -/
theorem V3_arg4 (c : Dev nD) : V3 m ρ c main_arg4 = m ((c : Thread nD τ).loc main_arg4) :=
  (W3_of m ρ c main_arg4 (by decide)).trans (V2_arg4 m ρ c)

/-- Argument 5 after one call. -/
theorem V1_arg5 (c : Dev nD) : V1 m ρ c main_arg5 = m ((c : Thread nD τ).loc main_arg5) :=
  (W1_of m ρ c main_arg5 (by decide)).trans rfl

/-- Argument 5 after two calls. -/
theorem V2_arg5 (c : Dev nD) : V2 m ρ c main_arg5 = m ((c : Thread nD τ).loc main_arg5) :=
  (W2_of m ρ c main_arg5 (by decide)).trans (V1_arg5 m ρ c)

/-- Argument 5 after three calls. -/
theorem V3_arg5 (c : Dev nD) : V3 m ρ c main_arg5 = m ((c : Thread nD τ).loc main_arg5) :=
  (W3_of m ρ c main_arg5 (by decide)).trans (V2_arg5 m ρ c)

/-- Argument 6 after one call. -/
theorem V1_arg6 (c : Dev nD) : V1 m ρ c main_arg6 = m ((c : Thread nD τ).loc main_arg6) :=
  (W1_of m ρ c main_arg6 (by decide)).trans rfl

/-- Argument 6 after two calls. -/
theorem V2_arg6 (c : Dev nD) : V2 m ρ c main_arg6 = m ((c : Thread nD τ).loc main_arg6) :=
  (W2_of m ρ c main_arg6 (by decide)).trans (V1_arg6 m ρ c)

/-- Argument 6 after three calls. -/
theorem V3_arg6 (c : Dev nD) : V3 m ρ c main_arg6 = m ((c : Thread nD τ).loc main_arg6) :=
  (W3_of m ρ c main_arg6 (by decide)).trans (V2_arg6 m ρ c)

/-- Argument 7 after one call. -/
theorem V1_arg7 (c : Dev nD) : V1 m ρ c main_arg7 = m ((c : Thread nD τ).loc main_arg7) :=
  (W1_of m ρ c main_arg7 (by decide)).trans rfl

/-- Argument 7 after two calls. -/
theorem V2_arg7 (c : Dev nD) : V2 m ρ c main_arg7 = m ((c : Thread nD τ).loc main_arg7) :=
  (W2_of m ρ c main_arg7 (by decide)).trans (V1_arg7 m ρ c)

/-- Argument 7 after three calls. -/
theorem V3_arg7 (c : Dev nD) : V3 m ρ c main_arg7 = m ((c : Thread nD τ).loc main_arg7) :=
  (W3_of m ρ c main_arg7 (by decide)).trans (V2_arg7 m ρ c)

/-- Argument 8 after one call. -/
theorem V1_arg8 (c : Dev nD) : V1 m ρ c main_arg8 = m ((c : Thread nD τ).loc main_arg8) :=
  (W1_of m ρ c main_arg8 (by decide)).trans rfl

/-- Argument 8 after two calls. -/
theorem V2_arg8 (c : Dev nD) : V2 m ρ c main_arg8 = m ((c : Thread nD τ).loc main_arg8) :=
  (W2_of m ρ c main_arg8 (by decide)).trans (V1_arg8 m ρ c)

/-- Argument 8 after three calls. -/
theorem V3_arg8 (c : Dev nD) : V3 m ρ c main_arg8 = m ((c : Thread nD τ).loc main_arg8) :=
  (W3_of m ρ c main_arg8 (by decide)).trans (V2_arg8 m ρ c)

/-- At the end a buffer holds the gradient of the normalised rows. -/
theorem end_dh (c : Dev nD) : W4 m ρ c (Proc.devRef .tc main_v1_0) = resDh m c := by
  refine ((W4_of m ρ c main_v1_0 (by decide)).trans ((W3_of m ρ c main_v1_0 (by decide)).trans ((W2_arr m ρ c 4).trans (dh_at (V1 m ρ) c)))).trans ?_
  rw [V1_arg0, V1_arg1, V1_arg2, V1_arg3]
  rfl

/-- At the end a buffer holds the same gradient, halved. -/
theorem end_dhb (c : Dev nD) : W4 m ρ c (Proc.devRef .tc main_v1_1) = resDhb m c := by
  refine ((W4_of m ρ c main_v1_1 (by decide)).trans ((W3_of m ρ c main_v1_1 (by decide)).trans ((W2_arr m ρ c 5).trans (dhb_at (V1 m ρ) c)))).trans ?_
  rw [V1_arg0, V1_arg1, V1_arg2, V1_arg3]
  rfl

/-- At the end a buffer holds the gradient of the gain. -/
theorem end_dg (c : Dev nD) : W4 m ρ c (Proc.devRef .tc main_v1_2) = resDg m c := by
  refine ((W4_of m ρ c main_v1_2 (by decide)).trans ((W3_of m ρ c main_v1_2 (by decide)).trans ((W2_arr m ρ c 6).trans (dg_at (V1 m ρ) c)))).trans ?_
  rw [V1_arg0, V1_arg2]
  rfl

/-- At the end a buffer holds the gradient of the left half's rows. -/
theorem end_dya (c : Dev nD) : W4 m ρ c (Proc.devRef .tc main_v3_0) = resDya m c := by
  refine ((W4_arr m ρ c 5).trans (dya_at (V3 m ρ) c)).trans ?_
  rw [V3_arg4, V3_arg6, V3_arg8]
  rfl

/-- At the end a buffer holds the gradient of the right half's rows. -/
theorem end_dyb (c : Dev nD) : W4 m ρ c (Proc.devRef .tc main_v3_1) = resDyb m c := by
  refine ((W4_arr m ρ c 6).trans (dyb_at (V3 m ρ) c)).trans ?_
  rw [V3_arg5, V3_arg7, V3_arg8]
  rfl

/-- At the end a buffer holds the gradient of the left half's gain. -/
theorem end_dga (c : Dev nD) : W4 m ρ c (Proc.devRef .tc main_v3_2) = resDga m c := by
  refine ((W4_arr m ρ c 7).trans (dga_at (V3 m ρ) c)).trans ?_
  rw [V3_arg4, V3_arg8]
  rfl

/-- At the end a buffer holds the gradient of the right half's gain. -/
theorem end_dgb (c : Dev nD) : W4 m ρ c (Proc.devRef .tc main_v3_3) = resDgb m c := by
  refine ((W4_arr m ρ c 8).trans (dgb_at (V3 m ρ) c)).trans ?_
  rw [V3_arg5, V3_arg8]
  rfl

/-- At the end a buffer holds the normalised rows. -/
theorem end_u (c : Dev nD) : W4 m ρ c (Proc.devRef .tc main_v0) = resU m c := by
  refine ((W4_of m ρ c main_v0 (by decide)).trans ((W3_of m ρ c main_v0 (by decide)).trans ((W2_of m ρ c main_v0 (by decide)).trans ((W1_arr m ρ c 2).trans (u_at (V0 m ρ) c))))).trans ?_
  rfl

/-- At the end a buffer holds the two normalised halves. -/
theorem end_y (c : Dev nD) : W4 m ρ c (Proc.devRef .tc main_v2_0) = resY m c := by
  refine ((W4_of m ρ c main_v2_0 (by decide)).trans ((W3_arr m ρ c 4).trans (y_at (V2 m ρ) c))).trans ?_
  rw [V2_arg4, V2_arg5, V2_arg6, V2_arg7]
  rfl

/-- At the end a buffer holds the two normalised halves, transposed. -/
theorem end_yt (c : Dev nD) : W4 m ρ c (Proc.devRef .tc main_v2_1) = resYt m c := by
  refine ((W4_of m ρ c main_v2_1 (by decide)).trans ((W3_arr m ρ c 5).trans (yt_at (V2 m ρ) c))).trans ?_
  rw [V2_arg4, V2_arg5, V2_arg6, V2_arg7]
  rfl

local notation "𝕄" => MT nD τ sig Unit (Elt Ideal) ℕ (UR sig nD τ) ℕ

set_option backward.isDefEq.respectTransparency.types false in
/-- Every execution ends with the ten results and the arguments unchanged. -/
theorem run : θ_run defs (onTc (τ := τ) (main (F := Ideal))) ⟨m, fun _ => 0, ρ⟩ (fun r => ∀ c : Dev nD,
      r.2.mem ((c.tc : Thread nD τ).loc main_v1_0) = resDh m c
      ∧ r.2.mem ((c.tc : Thread nD τ).loc main_v1_1) = resDhb m c
      ∧ r.2.mem ((c.tc : Thread nD τ).loc main_v1_2) = resDg m c
      ∧ r.2.mem ((c.tc : Thread nD τ).loc main_v3_0) = resDya m c
      ∧ r.2.mem ((c.tc : Thread nD τ).loc main_v3_1) = resDyb m c
      ∧ r.2.mem ((c.tc : Thread nD τ).loc main_v3_2) = resDga m c
      ∧ r.2.mem ((c.tc : Thread nD τ).loc main_v3_3) = resDgb m c
      ∧ r.2.mem ((c.tc : Thread nD τ).loc main_v0) = resU m c
      ∧ r.2.mem ((c.tc : Thread nD τ).loc main_v2_0) = resY m c
      ∧ r.2.mem ((c.tc : Thread nD τ).loc main_v2_1) = resYt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v1_0 (by decide))).trans (end_dh m ρ c),
       (h c _ (mem_uc main_v1_1 (by decide))).trans (end_dhb m ρ c),
       (h c _ (mem_uc main_v1_2 (by decide))).trans (end_dg m ρ c),
       (h c _ (mem_uc main_v3_0 (by decide))).trans (end_dya m ρ c),
       (h c _ (mem_uc main_v3_1 (by decide))).trans (end_dyb m ρ c),
       (h c _ (mem_uc main_v3_2 (by decide))).trans (end_dga m ρ c),
       (h c _ (mem_uc main_v3_3 (by decide))).trans (end_dgb m ρ c),
       (h c _ (mem_uc main_v0 (by decide))).trans (end_u m ρ c),
       (h c _ (mem_uc main_v2_0 (by decide))).trans (end_y m ρ c),
       (h c _ (mem_uc main_v2_1 (by decide))).trans (end_yt m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

/-- The width of the model is a positive real number. -/
theorem width_eq : width = ((2048 : ℝ) : EReal) := by
  unfold width
  simp [Ideal.ofBits, Ideal.ieee]
  norm_num
  norm_cast
  norm_num

/-- The width of one half is a positive real number. -/
theorem halfWidth_eq : halfWidth = ((1024 : ℝ) : EReal) := by
  unfold halfWidth
  simp [Ideal.ofBits, Ideal.ieee]
  norm_num
  norm_cast
  norm_num

/-- An entry of the gradient of the normalised rows, as the chain rule computes it. -/
def chainOf {a n : Nat} (w : EReal) (x d : (⟨2, ![a, n]⟩ : Shape).Idx → EReal) (g : (⟨2, ![1, n]⟩ : Shape).Idx → EReal) (i : Fin a) (j : Fin n) : EReal :=
  d (ix2 i j) * g (ix2 0 j) * rstd w (rowOf x i) + x (ix2 i j) * meanGrad w (rowOf x i) (fun k => d (ix2 i k) * g (ix2 0 k))
    + meanGrad w (rowOf x i) (fun k => d (ix2 i k) * g (ix2 0 k)) * x (ix2 i j)

/-- The gradient of the normalised rows at the model's width, as the chain rule computes it. -/
theorem gradOf_width {a n : Nat} (x d : (⟨2, ![a, n]⟩ : Shape).Idx → EReal) (g : (⟨2, ![1, n]⟩ : Shape).Idx → EReal) :
    gradOf width x d g = chainOf width x d g := by
  funext i j
  unfold gradOf chainOf
  rw [width_eq]; exact rowGrad_eq (by norm_num) _ _ j

/-- The gradient of the normalised rows at one half's width, as the chain rule computes it. -/
theorem gradOf_halfWidth {a n : Nat} (x d : (⟨2, ![a, n]⟩ : Shape).Idx → EReal) (g : (⟨2, ![1, n]⟩ : Shape).Idx → EReal) :
    gradOf halfWidth x d g = chainOf halfWidth x d g := by
  funext i j
  unfold gradOf chainOf
  rw [halfWidth_eq]; exact rowGrad_eq (by norm_num) _ _ j

/-- The reference's value for the gradient of the normalised rows. -/
theorem ref_Dh (m' : (ℓ : Loc Cert.NormRefIdeal.nD Cert.NormRefIdeal.τ Cert.NormRefIdeal.sig) → Buf (Elt Ideal) ℓ) (c : Dev Cert.NormRefIdeal.nD) : Cert.NormRefIdeal.Value.res_main_v37 m' c
    = (fun i => addGrad width (m' ((c.tc : Thread Cert.NormRefIdeal.nD Cert.NormRefIdeal.τ).loc Cert.NormRefIdeal.main_arg3)) (m' ((c.tc : Thread Cert.NormRefIdeal.nD Cert.NormRefIdeal.τ).loc Cert.NormRefIdeal.main_arg0)) (m' ((c.tc : Thread Cert.NormRefIdeal.nD Cert.NormRefIdeal.τ).loc Cert.NormRefIdeal.main_arg2)) (m' ((c.tc : Thread Cert.NormRefIdeal.nD Cert.NormRefIdeal.τ).loc Cert.NormRefIdeal.main_arg1)) (i 0) (i 1) : FVec Ideal S2048x2048 .f32) := by
  unfold addGrad; rw [gradOf_width]
  funext i
  pointwise [chainOf, Cert.NormRefIdeal.Value.res_main_v37, meanGrad, rstd, msq, rowOf, width, eps]
  simp only [Fin.sum_univ_one]

/-- The reference's value for the same gradient, halved. -/
theorem ref_Dhb (m' : (ℓ : Loc Cert.NormRefIdeal.nD Cert.NormRefIdeal.τ Cert.NormRefIdeal.sig) → Buf (Elt Ideal) ℓ) (c : Dev Cert.NormRefIdeal.nD) : Cert.NormRefIdeal.Value.res_main_v117 m' c
    = (fun i => Ideal.ofBits .f32 0x3F000000#32 * addGrad width (m' ((c.tc : Thread Cert.NormRefIdeal.nD Cert.NormRefIdeal.τ).loc Cert.NormRefIdeal.main_arg3)) (m' ((c.tc : Thread Cert.NormRefIdeal.nD Cert.NormRefIdeal.τ).loc Cert.NormRefIdeal.main_arg0)) (m' ((c.tc : Thread Cert.NormRefIdeal.nD Cert.NormRefIdeal.τ).loc Cert.NormRefIdeal.main_arg2)) (m' ((c.tc : Thread Cert.NormRefIdeal.nD Cert.NormRefIdeal.τ).loc Cert.NormRefIdeal.main_arg1)) (i 0) (i 1) : FVec Ideal S2048x2048 .bf16) := by
  unfold addGrad; rw [gradOf_width]
  funext i
  pointwise [chainOf, Cert.NormRefIdeal.Value.res_main_v117, meanGrad, rstd, msq, rowOf, width, eps]
  simp only [Fin.sum_univ_one]

/-- The reference's value for the gradient of the left half's rows. -/
theorem ref_Dya (m' : (ℓ : Loc Cert.NormRefIdeal.nD Cert.NormRefIdeal.τ Cert.NormRefIdeal.sig) → Buf (Elt Ideal) ℓ) (c : Dev Cert.NormRefIdeal.nD) : Cert.NormRefIdeal.Value.res_main_v114 m' c
    = (fun i => gradOf halfWidth (m' ((c.tc : Thread Cert.NormRefIdeal.nD Cert.NormRefIdeal.τ).loc Cert.NormRefIdeal.main_arg4)) (leftOf (m' ((c.tc : Thread Cert.NormRefIdeal.nD Cert.NormRefIdeal.τ).loc Cert.NormRefIdeal.main_arg8))) (m' ((c.tc : Thread Cert.NormRefIdeal.nD Cert.NormRefIdeal.τ).loc Cert.NormRefIdeal.main_arg6)) (i 0) (i 1) : FVec Ideal S2048x1024 .f32) := by
  rw [gradOf_halfWidth]
  funext i
  pointwise [chainOf, Cert.NormRefIdeal.Value.res_main_v114, meanGrad, rstd, msq, rowOf, halfWidth, leftOf, rightOf, eps]
  simp only [Fin.sum_univ_one]

/-- The reference's value for the gradient of the right half's rows. -/
theorem ref_Dyb (m' : (ℓ : Loc Cert.NormRefIdeal.nD Cert.NormRefIdeal.τ Cert.NormRefIdeal.sig) → Buf (Elt Ideal) ℓ) (c : Dev Cert.NormRefIdeal.nD) : Cert.NormRefIdeal.Value.res_main_v94 m' c
    = (fun i => gradOf halfWidth (m' ((c.tc : Thread Cert.NormRefIdeal.nD Cert.NormRefIdeal.τ).loc Cert.NormRefIdeal.main_arg5)) (rightOf (m' ((c.tc : Thread Cert.NormRefIdeal.nD Cert.NormRefIdeal.τ).loc Cert.NormRefIdeal.main_arg8))) (m' ((c.tc : Thread Cert.NormRefIdeal.nD Cert.NormRefIdeal.τ).loc Cert.NormRefIdeal.main_arg7)) (i 0) (i 1) : FVec Ideal S2048x1024 .f32) := by
  rw [gradOf_halfWidth]
  funext i
  pointwise [chainOf, Cert.NormRefIdeal.Value.res_main_v94, meanGrad, rstd, msq, rowOf, halfWidth, leftOf, rightOf, eps]
  simp only [Fin.sum_univ_one]

set_option maxHeartbeats 4000000 in
/-- The reference's run ends with the same ten results. -/
theorem reference (m' : (ℓ : Loc Cert.NormRefIdeal.nD Cert.NormRefIdeal.τ Cert.NormRefIdeal.sig) → Buf (Elt Ideal) ℓ)
    (g : Dev Cert.NormRefIdeal.nD → PrngReg)
    (hag : ∀ c : Dev nD, m' ((c.tc : Thread Cert.NormRefIdeal.nD Cert.NormRefIdeal.τ).loc Cert.NormRefIdeal.main_arg0) = m ((c.tc : Thread nD τ).loc main_arg0)
      ∧ m' ((c.tc : Thread Cert.NormRefIdeal.nD Cert.NormRefIdeal.τ).loc Cert.NormRefIdeal.main_arg1) = m ((c.tc : Thread nD τ).loc main_arg1)
      ∧ m' ((c.tc : Thread Cert.NormRefIdeal.nD Cert.NormRefIdeal.τ).loc Cert.NormRefIdeal.main_arg2) = m ((c.tc : Thread nD τ).loc main_arg2)
      ∧ m' ((c.tc : Thread Cert.NormRefIdeal.nD Cert.NormRefIdeal.τ).loc Cert.NormRefIdeal.main_arg3) = m ((c.tc : Thread nD τ).loc main_arg3)
      ∧ m' ((c.tc : Thread Cert.NormRefIdeal.nD Cert.NormRefIdeal.τ).loc Cert.NormRefIdeal.main_arg4) = m ((c.tc : Thread nD τ).loc main_arg4)
      ∧ m' ((c.tc : Thread Cert.NormRefIdeal.nD Cert.NormRefIdeal.τ).loc Cert.NormRefIdeal.main_arg5) = m ((c.tc : Thread nD τ).loc main_arg5)
      ∧ m' ((c.tc : Thread Cert.NormRefIdeal.nD Cert.NormRefIdeal.τ).loc Cert.NormRefIdeal.main_arg6) = m ((c.tc : Thread nD τ).loc main_arg6)
      ∧ m' ((c.tc : Thread Cert.NormRefIdeal.nD Cert.NormRefIdeal.τ).loc Cert.NormRefIdeal.main_arg7) = m ((c.tc : Thread nD τ).loc main_arg7)
      ∧ m' ((c.tc : Thread Cert.NormRefIdeal.nD Cert.NormRefIdeal.τ).loc Cert.NormRefIdeal.main_arg8) = m ((c.tc : Thread nD τ).loc main_arg8)) :
    θ_run (Cert.NormRefIdeal.defs (F := Ideal)) (onTc (τ := Cert.NormRefIdeal.τ) (Cert.NormRefIdeal.main (F := Ideal))) ⟨m', fun _ => 0, g⟩
      (fun r => ∀ c : Dev Cert.NormRefIdeal.nD,
        r.2.mem ((c.tc : Thread Cert.NormRefIdeal.nD Cert.NormRefIdeal.τ).loc Cert.NormRefIdeal.main_v37) = resDh m c
        ∧ r.2.mem ((c.tc : Thread Cert.NormRefIdeal.nD Cert.NormRefIdeal.τ).loc Cert.NormRefIdeal.main_v117) = resDhb m c
        ∧ r.2.mem ((c.tc : Thread Cert.NormRefIdeal.nD Cert.NormRefIdeal.τ).loc Cert.NormRefIdeal.main_v118) = resDg m c
        ∧ r.2.mem ((c.tc : Thread Cert.NormRefIdeal.nD Cert.NormRefIdeal.τ).loc Cert.NormRefIdeal.main_v114) = resDya m c
        ∧ r.2.mem ((c.tc : Thread Cert.NormRefIdeal.nD Cert.NormRefIdeal.τ).loc Cert.NormRefIdeal.main_v94) = resDyb m c
        ∧ r.2.mem ((c.tc : Thread Cert.NormRefIdeal.nD Cert.NormRefIdeal.τ).loc Cert.NormRefIdeal.main_v119) = resDga m c
        ∧ r.2.mem ((c.tc : Thread Cert.NormRefIdeal.nD Cert.NormRefIdeal.τ).loc Cert.NormRefIdeal.main_v120) = resDgb m c
        ∧ r.2.mem ((c.tc : Thread Cert.NormRefIdeal.nD Cert.NormRefIdeal.τ).loc Cert.NormRefIdeal.main_v121) = resU m c
        ∧ r.2.mem ((c.tc : Thread Cert.NormRefIdeal.nD Cert.NormRefIdeal.τ).loc Cert.NormRefIdeal.main_v122) = resY m c
        ∧ r.2.mem ((c.tc : Thread Cert.NormRefIdeal.nD Cert.NormRefIdeal.τ).loc Cert.NormRefIdeal.main_v124) = resYt m c
        ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
        ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
        ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
        ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
        ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
        ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
        ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6)
        ∧ r.2.mem ((c.tc : Thread Cert.NormRefIdeal.nD Cert.NormRefIdeal.τ).loc Cert.NormRefIdeal.main_arg7) = m' ((c.tc : Thread Cert.NormRefIdeal.nD Cert.NormRefIdeal.τ).loc Cert.NormRefIdeal.main_arg7)
        ∧ r.2.mem ((c.tc : Thread Cert.NormRefIdeal.nD Cert.NormRefIdeal.τ).loc Cert.NormRefIdeal.main_arg8) = m' ((c.tc : Thread Cert.NormRefIdeal.nD Cert.NormRefIdeal.τ).loc Cert.NormRefIdeal.main_arg8)) := by
  refine (θ_run _ _ _).mono (fun r h c => ?_) (Cert.NormRefIdeal.Value.run m' g)
  obtain ⟨h0, h1, h2, h3, h4, h5, h6, h7, h8, h9, hargs⟩ := h c
  obtain ⟨e0, e1, e2, e3, e4, e5, e6, e7, e8⟩ := hag c
  rw [ref_Dh, e0, e1, e2, e3] at h0
  rw [ref_Dhb, e0, e1, e2, e3] at h1
  rw [e0, e2] at h2
  rw [ref_Dya, e4, e6, e8] at h3
  rw [ref_Dyb, e5, e7, e8] at h4
  rw [e4, e8] at h5
  rw [e5, e8] at h6
  rw [e0, e1] at h7
  refine ⟨h0, h1, h2.trans ?_, h3, h4, h5.trans ?_, h6.trans ?_, h7.trans ?_, h8.trans ?_, h9.trans ?_, hargs⟩ <;>
    clear h h0 h1 h2 h3 h4 h5 h6 h7 h8 h9 hargs hag e0 e1 e2 e3 e8
  · funext i
    pointwise [resDg, gainOf, rstd, msq, rowOf, width, eps]
    refine (Fin.sum_univ_one _).trans ?_
    exact Finset.sum_congr rfl fun k _ => mul_comm (_ : EReal) _
  · funext i
    pointwise [resDga, gainOf, rstd, msq, rowOf, halfWidth, leftOf, eps]
    refine (Fin.sum_univ_one _).trans ?_
    exact Finset.sum_congr rfl fun k _ => mul_comm (_ : EReal) _
  · funext i
    pointwise [resDgb, gainOf, rstd, msq, rowOf, halfWidth, rightOf, eps]
    refine (Fin.sum_univ_one _).trans ?_
    exact Finset.sum_congr rfl fun k _ => mul_comm (_ : EReal) _
  · funext i
    pointwise [resU, normOf, rstd, msq, rowOf, width, eps]
  · funext i
    pointwise [resY, mixOf, normOf, rstd, msq, rowOf, halfWidth, eps]
    simp only [e4, e5, e6, e7]
  · funext i
    pointwise [resYt, mixOf, normOf, rstd, msq, rowOf, halfWidth, eps]
    simp only [e4, e5, e6, e7]

end Cert.NormIdeal.Value
end
-- ==== Proof.LossCalls.lean ====
module

public import proofs.«01_k».proof.Proof.NormValue
public import proofs.«01_k».proof.Proof.Gen.LossIdeal.Frame

/-!
# The loss of a device's tokens and its gradients
-/

@[expose] public section

set_option maxRecDepth 16384

noncomputable section

open Idealize.ShloMosaic Idealize.ShloMosaic.TcCoe Idealize.ShloMosaic.Tactic Idealize.SL.Sem
open Idealize.ShloMosaic.Pipeline (Dat)

namespace Cert.LossIdeal.Value

open Cert.LossIdeal Cert.LossIdeal.Gen
open Cert.NormIdeal.Value (normOf gradOf gainOf rstd msq rowOf width eps rowGrad chainOf gradOf_width meanGrad mul_sum_real width_eq)

/-- One half, as a factor. -/
def half : EReal := Ideal.ofBits .f32 0x3F000000#32

/-- An entry of the error: the normalised row less its target. -/
def errOf {a n : Nat} (x : (⟨2, ![a, n]⟩ : Shape).Idx → EReal) (g : (⟨2, ![1, n]⟩ : Shape).Idx → EReal) (t : (⟨2, ![a, n]⟩ : Shape).Idx → EReal)
    (i : Fin a) (j : Fin n) : EReal :=
  normOf width x g i j - t (ix2 i j)

/-- The mean squared error of a row. -/
def rowLoss {a n : Nat} (x : (⟨2, ![a, n]⟩ : Shape).Idx → EReal) (g : (⟨2, ![1, n]⟩ : Shape).Idx → EReal) (t : (⟨2, ![a, n]⟩ : Shape).Idx → EReal)
    (i : Fin a) : EReal :=
  Ideal.div (∑ k, errOf x g t i k * errOf x g t i k) width

/-- The cotangent of the normalised rows. -/
def cotOf {a n : Nat} (x : (⟨2, ![a, n]⟩ : Shape).Idx → EReal) (g : (⟨2, ![1, n]⟩ : Shape).Idx → EReal) (t : (⟨2, ![a, n]⟩ : Shape).Idx → EReal) :
    (⟨2, ![a, n]⟩ : Shape).Idx → EReal :=
  fun i => errOf x g t (i 0) (i 1) * Ideal.ofBits .f32 0x3A000000#32

/-- One half is a real number. -/
theorem half_eq : half = ((1 / 2 : ℝ) : EReal) := by
  unfold half
  simp [Ideal.ofBits, Ideal.ieee]
  norm_num
  norm_cast
  norm_num

/-- The reciprocal of the width is a real number. -/
theorem recip_eq : Ideal.ofBits .f32 0x3A000000#32 = ((1 / 2048 : ℝ) : EReal) := by
  simp [Ideal.ofBits, Ideal.ieee]
  norm_num
  norm_cast
  norm_num

/-- The half of a sum is the sum of the halves. -/
theorem half_sum {n : Nat} (f : Fin n → EReal) : ∑ k, half * f k = half * ∑ k, f k := by
  rw [half_eq]; exact mul_sum_real _ (by norm_num) f

section Payloads

/-- The error at a grid point. -/
theorem pay_err (x : FVec Ideal S256x2048 .f32) (g : FVec Ideal S1x2048 .f32) (t : FVec Ideal S256x2048 .f32) (j) :
    k0_pay8 (F := Ideal) x g t j = (errOf x g t (j 0) (j 1) : EReal) := by
  pointwise [k0_pay8, errOf, normOf, rstd, msq, rowOf, width, eps]

/-- The cotangent at a grid point. -/
theorem pay_cot (x : FVec Ideal S256x2048 .f32) (g : FVec Ideal S1x2048 .f32) (t : FVec Ideal S256x2048 .f32) :
    k0_pay10 (F := Ideal) x g t = cotOf x g t := by
  funext j
  pointwise [k0_pay10, cotOf]
  rw [pay_err]

/-- What a grid point adds to the loss. -/
theorem pay_loss (x : FVec Ideal S256x2048 .f32) (g : FVec Ideal S1x2048 .f32) (t : FVec Ideal S256x2048 .f32) (acc : FVec Ideal S8x128 .f32) (j) :
    k0_pay9 (F := Ideal) x g t acc j = (acc j + ∑ i, half * rowLoss x g t i : EReal) := by
  rw [half_sum]
  pointwise [k0_pay9, rowLoss, half, width]
  simp only [pay_err, Fin.sum_univ_one]
  rfl

/-- The gradient of the rows at a grid point. -/
theorem pay_dh (x : FVec Ideal S256x2048 .f32) (g : FVec Ideal S1x2048 .f32) (d : FVec Ideal S256x2048 .f32) (j) :
    k0_pay3 (F := Ideal) x g d (k0_pay11 x) j = (gradOf width x d g (j 0) (j 1) : EReal) := by
  pointwise [k0_pay3, k0_pay2, k0_pay1, k0_pay11, gradOf, rowGrad, rstd, msq, rowOf, width, eps]

/-- The same gradient halved. -/
theorem pay_dhb (x : FVec Ideal S256x2048 .f32) (g : FVec Ideal S1x2048 .f32) (d : FVec Ideal S256x2048 .f32) (s : FVec Ideal S256x2048 .f32) (j) :
    k0_pay4 (F := Ideal) x g d s j = (half * k0_pay3 (F := Ideal) x g d s j : EReal) := by
  pointwise [k0_pay4, half]

/-- What a grid point adds to the gradient of the gain. -/
theorem pay_dg (x d : FVec Ideal S256x2048 .f32) (acc : FVec Ideal S1x2048 .f32) (j) :
    k0_pay5 (F := Ideal) x d (k0_pay11 x) acc j = (acc j + gainOf width x d (j 1) : EReal) := by
  pointwise [k0_pay5, k0_pay2, k0_pay1, k0_pay11, gainOf, rstd, msq, rowOf, width, eps]

/-- The cleared gradient of the gain. -/
theorem zero_dg (j) : k0_pay6 (F := Ideal) j = 0 := by pointwise [k0_pay6]

/-- The cleared loss. -/
theorem zero_loss (j) : k0_pay7 (F := Ideal) j = 0 := by pointwise [k0_pay7]

end Payloads

section Call

variable (m : (ℓ : Loc nD τ sig) → Buf (Elt Ideal) ℓ) (ρ : Dev nD → PrngReg)

/-- The rows. -/
abbrev aX (c : Dev nD) : FVec Ideal S2048x2048 .f32 := m ((c : Thread nD τ).loc main_arg0)

/-- The gain. -/
abbrev aG (c : Dev nD) : FVec Ideal S1x2048 .f32 := m ((c : Thread nD τ).loc main_arg1)

/-- The targets. -/
abbrev aT (c : Dev nD) : FVec Ideal S2048x2048 .f32 := m ((c : Thread nD τ).loc main_arg2)

/-- The gradient of the rows. -/
def oDh (x : FVec Ideal S2048x2048 .f32) (g : FVec Ideal S1x2048 .f32) (t : FVec Ideal S2048x2048 .f32) : FVec Ideal S2048x2048 .f32 :=
  fun i => gradOf width x (cotOf x g t) g (i 0) (i 1)

/-- The gradient of the rows, halved. -/
def oDhb (x : FVec Ideal S2048x2048 .f32) (g : FVec Ideal S1x2048 .f32) (t : FVec Ideal S2048x2048 .f32) : FVec Ideal S2048x2048 .bf16 :=
  fun i => half * gradOf width x (cotOf x g t) g (i 0) (i 1)

/-- The gradient of the gain. -/
def oDg (x : FVec Ideal S2048x2048 .f32) (g : FVec Ideal S1x2048 .f32) (t : FVec Ideal S2048x2048 .f32) : FVec Ideal S1x2048 .f32 :=
  fun i => gainOf width x (cotOf x g t) (i 1)

/-- The loss: one half of the sum of the rows' mean squared errors. -/
def oLoss (x : FVec Ideal S2048x2048 .f32) (g : FVec Ideal S1x2048 .f32) (t : FVec Ideal S2048x2048 .f32) : FVec Ideal S_ .f32 :=
  fun _ => ∑ i, half * rowLoss x g t i

/-- The blocks at each grid point. -/
theorem idx0 : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0] :=
  (by decide +kernel : ∀ t : Fin grid0.N, _)

/-- The gradient of the rows. -/
theorem dh_at (c : Dev nD) : (dats m 0 c).arrAt 3 cfg0.N = oDh (aX m c) (aG m c) (aT m c) := by
  refine (dats m 0 c).arrAt_eq_of_covers 3 _ (by decide +kernel) fun t _ y => ?_
  blk_simp
  rw [after0_3]
  have key : (outsAt0 m c t.val t.isLt).1
      = k0_pay3 (F := Ideal) (iblk m c 0 t) (iblk m c 1 t) (k0_pay10 (iblk m c 0 t) (iblk m c 1 t) (iblk m c 2 t)) (k0_pay11 (iblk m c 0 t)) := by
    by_cases h : t.val % 8 = 0
    · rw [outsAt0_A m c t h]; frame_out
    · rw [outsAt0_B m c t h]; frame_out
  rw [key, pay_cot, pay_dh]
  unfold oDh gradOf cotOf errOf normOf rowGrad rstd msq rowOf
  dsimp only
  blk_point [iblk, idx0 t]

set_option maxHeartbeats 4000000 in
/-- The same gradient, halved. -/
theorem dhb_at (c : Dev nD) : (dats m 0 c).arrAt 4 cfg0.N = oDhb (aX m c) (aG m c) (aT m c) := by
  refine (dats m 0 c).arrAt_eq_of_covers 4 _ (by decide +kernel) fun t _ y => ?_
  blk_simp
  rw [after0_4]
  have key : (outsAt0 m c t.val t.isLt).2.1
      = k0_pay4 (F := Ideal) (iblk m c 0 t) (iblk m c 1 t) (k0_pay10 (iblk m c 0 t) (iblk m c 1 t) (iblk m c 2 t)) (k0_pay11 (iblk m c 0 t)) := by
    by_cases h : t.val % 8 = 0
    · rw [outsAt0_A m c t h]; frame_out
    · rw [outsAt0_B m c t h]; frame_out
  rw [key, pay_cot, pay_dhb, pay_dh]
  unfold oDhb gradOf cotOf errOf normOf rowGrad rstd msq rowOf
  dsimp only
  congr 1
  blk_point [iblk, idx0 t]

set_option maxHeartbeats 4000000 in
/-- The loss, summed over the grid, in every entry of its tile. -/
theorem loss_at (c : Dev nD) : (dats m 0 c).arrAt 5 cfg0.N
    = (fun _ => ∑ i, half * rowLoss (aX m c) (aG m c) (aT m c) i : FVec Ideal S8x128 .f32) := by
  refine (dats m 0 c).arrAt_eq_of_covers 5 _ (by decide +kernel) fun t hf y => ?_
  blk_simp
  rw [after0_5, Pipeline.eq_sum_fin_of_reset_step_apply_of_flush (fun n h => (outsAt0 m c n h).2.2.1) 8 (fun _ => 0) _
    (fun t h j => by rw [outsAt0_A m c t h]; frame_out; rw [pay_loss, zero_loss])
    (fun t h j => by rw [outsAt0_B m c t h]; frame_out; rw [pay_loss])
    t ((flush0_5 t).mp hf) _, zero_add]
  refine Fin.sum_mul_add_congr fun s k hl => ?_
  congr 1
  unfold rowLoss errOf normOf rstd msq rowOf
  blk_point [iblk, idx0 t, idx0 ⟨_, Pipeline.run_point_lt_of_flush t ((flush0_5 t).mp hf) s⟩]

/-- The gradient of the gain, summed over the grid. -/
theorem dg_at (c : Dev nD) : (dats m 0 c).arrAt 6 cfg0.N = oDg (aX m c) (aG m c) (aT m c) := by
  refine (dats m 0 c).arrAt_eq_of_covers 6 _ (by decide +kernel) fun t hf y => ?_
  blk_simp
  rw [after0_6, Pipeline.eq_sum_fin_of_reset_step_apply_of_flush (fun n h => (outsAt0 m c n h).2.2.2) 8 (fun _ => 0) _
    (fun t h j => by rw [outsAt0_A m c t h]; frame_out; rw [pay_cot, pay_dg, zero_dg])
    (fun t h j => by rw [outsAt0_B m c t h]; frame_out; rw [pay_cot, pay_dg])
    t ((flush0_6 t).mp hf) _, zero_add]
  refine Fin.sum_mul_add_congr fun s k hl => ?_
  unfold cotOf errOf normOf rstd msq rowOf
  dsimp only
  blk_point [iblk, idx0 t, idx0 ⟨_, Pipeline.run_point_lt_of_flush t ((flush0_6 t).mp hf) s⟩]

/-- After the region the host reads the loss off the first entry of its tile. -/
theorem loss_end (c : Dev nD) : Pipeline.afterTail₀ cfgs (dats m) 0 (V0 m) [hostOps1] c main_v2 = oLoss (aX m c) (aG m c) (aT m c) := by
  unfold Pipeline.afterTail₀
  have e : Pipeline.withArrays (cfgs 0).spec c (V0 m c) (fun w => (dats m 0 c).arrAt w (cfgs 0).N) (Proc.devRef .tc main_v0_2)
      = (dats m 0 c).arrAt 5 cfg0.N := Pipeline.withArrays_arr _ launch0.win.arr_inj _ _ _ 5
  simp only [List.flatten_cons, List.flatten_nil, List.append_nil]
  after_results
  rw [e, loss_at]
  rfl

/-- Every execution of the call ends with the loss, the gradients and the arguments unchanged. -/
theorem run : θ_run defs (onTc (τ := τ) (main (F := Ideal))) ⟨m, fun _ => 0, ρ⟩ (fun r => ∀ c : Dev nD,
      r.2.mem ((c.tc : Thread nD τ).loc main_v2) = oLoss (aX m c) (aG m c) (aT m c)
      ∧ r.2.mem ((c.tc : Thread nD τ).loc main_v0_0) = oDh (aX m c) (aG m c) (aT m c)
      ∧ r.2.mem ((c.tc : Thread nD τ).loc main_v0_1) = oDhb (aX m c) (aG m c) (aT m c)
      ∧ r.2.mem ((c.tc : Thread nD τ).loc main_v0_3) = oDg (aX m c) (aG m c) (aT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).2 main_v2 (by decide)).trans (loss_end m c), ((h.1 c).1 3).trans (dh_at m c),
    ((h.1 c).1 4).trans (dhb_at m c), ((h.1 c).1 6).trans (dg_at m c), (h.2 c).1, (h.2 c).2.1, (h.2 c).2.2⟩)
    (θ_run_and (run_main m ρ) (unchanged m ρ))

end Call

end Cert.LossIdeal.Value
end
-- ==== Proof.LossValue.lean ====
module

public import proofs.«01_k».proof.Proof.LossCalls
public import proofs.«01_k».proof.Proof.Gen.LossRefIdeal.Run

/-!
# The reference of the loss
-/

@[expose] public section

set_option maxRecDepth 16384

noncomputable section

open Idealize.ShloMosaic Idealize.ShloMosaic.TcCoe Idealize.ShloMosaic.Tactic Idealize.SL.Sem

namespace Cert.LossIdeal.Value

open Cert.LossIdeal Cert.LossIdeal.Gen
open Cert.NormIdeal.Value (normOf gradOf gainOf rstd msq rowOf width eps rowGrad chainOf gradOf_width meanGrad mul_sum_real width_eq)

/-- The chain rule's factors make the cotangent. -/
theorem cot_chain (e : EReal) :
    Ideal.div (Ideal.ofBits .f32 0x3F000000#32) (Ideal.ofBits .f32 0x45000000#32) * (Ideal.ofBits .f32 0x40000000#32 * e)
      = e * Ideal.ofBits .f32 0x3A000000#32 := by
  have h2 : Ideal.ofBits .f32 0x40000000#32 = ((2 : ℝ) : EReal) := by
    simp [Ideal.ofBits, Ideal.ieee]; norm_num; norm_cast; norm_num
  have h0 : Ideal.ofBits .f32 0x3F000000#32 = ((1 / 2 : ℝ) : EReal) := half_eq
  have hw : Ideal.ofBits .f32 0x45000000#32 = ((2048 : ℝ) : EReal) := width_eq
  rw [h0, hw, h2, recip_eq, Ideal.div_coe (by norm_num), ← mul_assoc, ← EReal.coe_mul, ← EReal.coe_mul, mul_comm]
  norm_num

/-- An index of a single row is its column's. -/
theorem idx_row (i : S1x2048.Idx) : i = ix2 0 (i 1) := by
  funext a
  match a with
  | 0 => exact Subsingleton.elim (α := Fin 1) _ _
  | 1 => rfl

set_option maxHeartbeats 4000000 in
/-- The reference's gradient of the rows. -/
theorem ref_Dh (m' : (ℓ : Loc Cert.LossRefIdeal.nD Cert.LossRefIdeal.τ Cert.LossRefIdeal.sig) → Buf (Elt Ideal) ℓ) (c : Dev Cert.LossRefIdeal.nD) : Cert.LossRefIdeal.Value.res_main_v51 m' c
    = oDh (m' ((c.tc : Thread Cert.LossRefIdeal.nD Cert.LossRefIdeal.τ).loc Cert.LossRefIdeal.main_arg0)) (m' ((c.tc : Thread Cert.LossRefIdeal.nD Cert.LossRefIdeal.τ).loc Cert.LossRefIdeal.main_arg1)) (m' ((c.tc : Thread Cert.LossRefIdeal.nD Cert.LossRefIdeal.τ).loc Cert.LossRefIdeal.main_arg2)) := by
  unfold oDh; rw [gradOf_width]
  funext i
  pointwise [chainOf, Cert.LossRefIdeal.Value.res_main_v51, meanGrad, cotOf, errOf, normOf, rstd, msq, rowOf, half, width, eps]
  simp only [Fin.sum_univ_one, cot_chain]

set_option maxHeartbeats 4000000 in
/-- The reference's gradient of the rows, halved. -/
theorem ref_Dhb (m' : (ℓ : Loc Cert.LossRefIdeal.nD Cert.LossRefIdeal.τ Cert.LossRefIdeal.sig) → Buf (Elt Ideal) ℓ) (c : Dev Cert.LossRefIdeal.nD) : Cert.LossRefIdeal.Value.res_main_v54 m' c
    = oDhb (m' ((c.tc : Thread Cert.LossRefIdeal.nD Cert.LossRefIdeal.τ).loc Cert.LossRefIdeal.main_arg0)) (m' ((c.tc : Thread Cert.LossRefIdeal.nD Cert.LossRefIdeal.τ).loc Cert.LossRefIdeal.main_arg1)) (m' ((c.tc : Thread Cert.LossRefIdeal.nD Cert.LossRefIdeal.τ).loc Cert.LossRefIdeal.main_arg2)) := by
  unfold oDhb; rw [gradOf_width]
  funext i
  pointwise [chainOf, Cert.LossRefIdeal.Value.res_main_v54, meanGrad, cotOf, errOf, normOf, rstd, msq, rowOf, half, width, eps]
  simp only [Fin.sum_univ_one, cot_chain]

set_option maxHeartbeats 4000000 in
/-- The reference's run ends with the same four results. -/
theorem reference (m : (ℓ : Loc nD τ sig) → Buf (Elt Ideal) ℓ) (m' : (ℓ : Loc Cert.LossRefIdeal.nD Cert.LossRefIdeal.τ Cert.LossRefIdeal.sig) → Buf (Elt Ideal) ℓ)
    (g : Dev Cert.LossRefIdeal.nD → PrngReg)
    (hag : ∀ c : Dev nD, m' ((c.tc : Thread Cert.LossRefIdeal.nD Cert.LossRefIdeal.τ).loc Cert.LossRefIdeal.main_arg0) = m ((c.tc : Thread nD τ).loc main_arg0)
      ∧ m' ((c.tc : Thread Cert.LossRefIdeal.nD Cert.LossRefIdeal.τ).loc Cert.LossRefIdeal.main_arg1) = m ((c.tc : Thread nD τ).loc main_arg1)
      ∧ m' ((c.tc : Thread Cert.LossRefIdeal.nD Cert.LossRefIdeal.τ).loc Cert.LossRefIdeal.main_arg2) = m ((c.tc : Thread nD τ).loc main_arg2)) :
    θ_run (Cert.LossRefIdeal.defs (F := Ideal)) (onTc (τ := Cert.LossRefIdeal.τ) (Cert.LossRefIdeal.main (F := Ideal))) ⟨m', fun _ => 0, g⟩
      (fun r => ∀ c : Dev Cert.LossRefIdeal.nD,
        r.2.mem ((c.tc : Thread Cert.LossRefIdeal.nD Cert.LossRefIdeal.τ).loc Cert.LossRefIdeal.main_v25) = oLoss (aX m c) (aG m c) (aT m c)
        ∧ r.2.mem ((c.tc : Thread Cert.LossRefIdeal.nD Cert.LossRefIdeal.τ).loc Cert.LossRefIdeal.main_v51) = oDh (aX m c) (aG m c) (aT m c)
        ∧ r.2.mem ((c.tc : Thread Cert.LossRefIdeal.nD Cert.LossRefIdeal.τ).loc Cert.LossRefIdeal.main_v54) = oDhb (aX m c) (aG m c) (aT m c)
        ∧ r.2.mem ((c.tc : Thread Cert.LossRefIdeal.nD Cert.LossRefIdeal.τ).loc Cert.LossRefIdeal.main_v55) = oDg (aX m c) (aG m c) (aT m c)
        ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
        ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
        ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)) := by
  refine (θ_run _ _ _).mono (fun r h c => ?_) (Cert.LossRefIdeal.Value.run m' g)
  obtain ⟨h0, h1, h2, h3, hargs⟩ := h c
  obtain ⟨e0, e1, e2⟩ := hag c
  rw [e0, e1, e2] at h0 h3
  rw [ref_Dh, e0, e1, e2] at h1
  rw [ref_Dhb, e0, e1, e2] at h2
  refine ⟨h0.trans ?_, h1, h2, h3.trans ?_, hargs⟩ <;> clear h h0 h1 h2 h3 hargs hag e0 e1 e2
  · funext i
    unfold oLoss
    rw [half_sum]
    pointwise [rowLoss, errOf, normOf, rstd, msq, rowOf, half, width, eps]
  · funext i
    obtain ⟨j, rfl⟩ : ∃ j : Fin 2048, i = ix2 0 j := ⟨i 1, idx_row i⟩
    pointwise [oDg, gainOf, cotOf, errOf, normOf, rstd, msq, rowOf, width, eps]
    refine (Fin.sum_univ_one _).trans ?_
    exact Finset.sum_congr rfl fun k _ => (mul_comm (_ : EReal) _).trans (congrArg (· * _) (cot_chain _))

end Cert.LossIdeal.Value
end
-- ==== Proof.lean ====
module

public import proofs.«01_k».proof.Defs
public import proofs.«01_k».proof.Proof.Body
public import proofs.«01_k».proof.Proof.AttnValue
public import proofs.«01_k».proof.Proof.FfnValue
public import proofs.«01_k».proof.Proof.MixValue
public import proofs.«01_k».proof.Proof.HalfValue
public import proofs.«01_k».proof.Proof.NormValue
public import proofs.«01_k».proof.Proof.LossValue
public import proofs.«01_k».proof.Proof.Gen.Kernel
public import proofs.«01_k».proof.Proof.Gen.ReferenceIdeal
public import proofs.«01_k».proof.Proof.Gen.ReferenceIdeal.Run
public import proofs.«01_k».proof.Proof.Gen.Ffn
public import proofs.«01_k».proof.Proof.Gen.Ffn.Frame
public import proofs.«01_k».proof.Proof.Gen.FfnIdeal.Frame
public import proofs.«01_k».proof.Proof.Gen.FfnRefIdeal.Run
public import proofs.«01_k».proof.Proof.Gen.Pre_finite
public import proofs.«01_k».proof.Proof.Gen.Pre_finite_scores
public import proofs.«01_k».proof.Proof.Gen.Mix
public import proofs.«01_k».proof.Proof.Gen.Mix.Frame
public import proofs.«01_k».proof.Proof.Gen.MixIdeal.Frame
public import proofs.«01_k».proof.Proof.Gen.MixRefIdeal.Run
public import proofs.«01_k».proof.Proof.Gen.Half
public import proofs.«01_k».proof.Proof.Gen.Half.Frame
public import proofs.«01_k».proof.Proof.Gen.HalfIdeal.Frame
public import proofs.«01_k».proof.Proof.Gen.HalfRefIdeal.Run
public import proofs.«01_k».proof.Proof.Gen.Norm
public import proofs.«01_k».proof.Proof.Gen.Norm.Frame
public import proofs.«01_k».proof.Proof.Gen.NormIdeal.Frame
public import proofs.«01_k».proof.Proof.Gen.NormRefIdeal.Run
public import proofs.«01_k».proof.Proof.Gen.Loss
public import proofs.«01_k».proof.Proof.Gen.Loss.Frame
public import proofs.«01_k».proof.Proof.Gen.LossIdeal.Frame
public import proofs.«01_k».proof.Proof.Gen.LossRefIdeal.Run
public import Idealize.ShloMosaic.Adequacy
public import Idealize.ShloMosaic.Init

@[expose] public section

noncomputable section

namespace Cert.Proof

open Idealize.ShloMosaic Idealize.SL.Sem Cert.Kernel

/-! ## The attention's backward call -/

/-- The kernel's procedures are the idealized program's, read at the compiled floats. -/
theorem defs_eq : Cert.Kernel.defs (F := Bits) = Cert.KernelIdeal.defs (F := Bits) := by sl_kernel_rfl

/-- The kernel's entry is the idealized program's, read at the compiled floats. -/
theorem main_eq : Cert.Kernel.main (F := Bits) = Cert.KernelIdeal.main (F := Bits) := by sl_kernel_rfl

/-- The kernel's frame at the compiled floats: the idealized program has the same text, and its run is over any floats. -/
theorem frame_kernel : Cert.quiescent_Kernel (hKernel := Cert.Kernel.Gen.facts) := fun m g _ => by
  rw [defs_eq, main_eq]
  exact Cert.KernelIdeal.Body.frame (F := Bits) m g

/-- The reference's frame: its host operations leave every argument as it was, and it has no semaphores. -/
theorem frame_reference : Cert.quiescent_ReferenceIdeal (hReferenceIdeal := Cert.ReferenceIdeal.Gen.facts) := fun m g _ => by
  hlo_run
  all_goals first | exact fun _ => ⟨trivial, trivial, trivial⟩ | exact sem_eq_zero_of_no_sems (sig := Cert.ReferenceIdeal.sig) (by decide) _

/-- The attention's backward call and its reference end with the same gradients of the queries, the keys and the values, and
    the same transposed gradients. -/
theorem attention : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := fun m g m' g' hp hag =>
  ⟨_, _, _, _, Cert.KernelIdeal.Value.run m g (Cert.KernelIdeal.Value.finite m hp),
    Cert.KernelIdeal.Value.reference m m' g' (Cert.KernelIdeal.Value.finite m hp) hag⟩

/-! ## The feed-forward layer -/

/-- The frame of the layer's reference: its host operations leave every argument as it was, and it has no semaphores. -/
theorem frame_layer_reference : Cert.quiescent_FfnRefIdeal (hFfnRefIdeal := Cert.FfnRefIdeal.Gen.facts) := fun m g _ => by
  hlo_run
  all_goals first | exact fun _ => ⟨trivial, trivial, trivial, trivial, trivial⟩ | exact sem_eq_zero_of_no_sems (sig := Cert.FfnRefIdeal.sig) (by decide) _

/-- The layer's five calls and its reference end with the same output and the same three gradients. -/
theorem layer : Cert.algebraic_FfnIdeal_FfnRefIdeal_pre_finite (hFfnIdeal := Cert.FfnIdeal.Gen.facts)
    (hFfnRefIdeal := Cert.FfnRefIdeal.Gen.facts) (hPre_finite := Cert.Pre_finite.Gen.facts) := fun m g m' g' hp hag =>
  ⟨Cert.FfnIdeal.Value.resOut m, Cert.FfnIdeal.Value.resDx m, Cert.FfnIdeal.Value.resDi m, Cert.FfnIdeal.Value.resDo m,
    Cert.FfnIdeal.Value.run m g, Cert.FfnIdeal.Value.reference m m' g' (Cert.FfnIdeal.Value.realArgs m hp) hag⟩

/-! ## The mixer's two projections -/

/-- The frame of the projections' reference: its host operations leave every argument as it was, and it has no semaphores. -/
theorem frame_mix_reference : Cert.quiescent_MixRefIdeal (hMixRefIdeal := Cert.MixRefIdeal.Gen.facts) := fun m g _ => by
  hlo_run
  all_goals first
    | exact fun _ => ⟨trivial, trivial, trivial, trivial, trivial, trivial, trivial⟩
    | exact sem_eq_zero_of_no_sems (sig := Cert.MixRefIdeal.sig) (by decide) _

/-- The seven calls of the projections and their reference end with the same two products and the same four gradients. -/
theorem mix : Cert.algebraic_MixIdeal_MixRefIdeal (hMixIdeal := Cert.MixIdeal.Gen.facts)
    (hMixRefIdeal := Cert.MixRefIdeal.Gen.facts) := fun m g m' g' _ hag =>
  ⟨Cert.MixIdeal.Value.resProj m, Cert.MixIdeal.Value.resH m, Cert.MixIdeal.Value.resDo m, Cert.MixIdeal.Value.resDy m,
    Cert.MixIdeal.Value.resDi m, Cert.MixIdeal.Value.resDu m,
    Cert.MixIdeal.Value.run m g, Cert.MixIdeal.Value.reference m m' g' hag⟩

/-! ## The gradient of the first layer's input weights, in two halves -/

/-- The frame of its reference: its host operations leave every argument as it was, and it has no semaphores. -/
theorem frame_half_reference : Cert.quiescent_HalfRefIdeal (hHalfRefIdeal := Cert.HalfRefIdeal.Gen.facts) := fun m g _ => by
  hlo_run
  all_goals first | exact fun _ => ⟨trivial, trivial⟩ | exact sem_eq_zero_of_no_sems (sig := Cert.HalfRefIdeal.sig) (by decide) _

/-- The two calls and their reference end with the same two halves. -/
theorem halves : Cert.algebraic_HalfIdeal_HalfRefIdeal (hHalfIdeal := Cert.HalfIdeal.Gen.facts)
    (hHalfRefIdeal := Cert.HalfRefIdeal.Gen.facts) := fun m g m' g' _ hag =>
  ⟨fun c => Cert.HalfIdeal.Value.halfOf 0 (Cert.HalfIdeal.Value.argDa m c) (Cert.HalfIdeal.Value.argU m c),
    fun c => Cert.HalfIdeal.Value.halfOf 1 (Cert.HalfIdeal.Value.argDa m c) (Cert.HalfIdeal.Value.argU m c),
    Cert.HalfIdeal.Value.run m g, Cert.HalfIdeal.Value.reference m m' g' hag⟩

/-! ## The normalisations -/

/-- The frame of their reference: its host operations leave every argument as it was, and it has no semaphores. -/
theorem frame_norm_reference : Cert.quiescent_NormRefIdeal (hNormRefIdeal := Cert.NormRefIdeal.Gen.facts) := fun m g _ => by
  hlo_run
  all_goals first
    | exact fun _ => ⟨trivial, trivial, trivial, trivial, trivial, trivial, trivial, trivial, trivial⟩
    | exact sem_eq_zero_of_no_sems (sig := Cert.NormRefIdeal.sig) (by decide) _

/-- The four calls of the normalisations and their reference end with the same rows and the same gradients. -/
theorem norms : Cert.algebraic_NormIdeal_NormRefIdeal (hNormIdeal := Cert.NormIdeal.Gen.facts)
    (hNormRefIdeal := Cert.NormRefIdeal.Gen.facts) := fun m g m' g' _ hag =>
  ⟨Cert.NormIdeal.Value.resDh m, Cert.NormIdeal.Value.resDhb m, Cert.NormIdeal.Value.resDg m,
    Cert.NormIdeal.Value.resDya m, Cert.NormIdeal.Value.resDyb m,
    Cert.NormIdeal.Value.resDga m, Cert.NormIdeal.Value.resDgb m, Cert.NormIdeal.Value.resU m,
    Cert.NormIdeal.Value.resY m, Cert.NormIdeal.Value.resYt m,
    Cert.NormIdeal.Value.run m g, Cert.NormIdeal.Value.reference m m' g' hag⟩

/-! ## The loss -/

/-- The frame of its reference: its host operations leave every argument as it was, and it has no semaphores. -/
theorem frame_loss_reference : Cert.quiescent_LossRefIdeal (hLossRefIdeal := Cert.LossRefIdeal.Gen.facts) := fun m g _ => by
  hlo_run
  all_goals first
    | exact fun _ => ⟨trivial, trivial, trivial⟩
    | exact sem_eq_zero_of_no_sems (sig := Cert.LossRefIdeal.sig) (by decide) _

/-- The call of the loss and its reference end with the same loss and the same gradients. -/
theorem loss_head : Cert.algebraic_LossIdeal_LossRefIdeal (hLossIdeal := Cert.LossIdeal.Gen.facts)
    (hLossRefIdeal := Cert.LossRefIdeal.Gen.facts) := fun m g m' g' _ hag =>
  ⟨fun c => Cert.LossIdeal.Value.oLoss (Cert.LossIdeal.Value.aX m c) (Cert.LossIdeal.Value.aG m c) (Cert.LossIdeal.Value.aT m c),
    fun c => Cert.LossIdeal.Value.oDh (Cert.LossIdeal.Value.aX m c) (Cert.LossIdeal.Value.aG m c) (Cert.LossIdeal.Value.aT m c),
    fun c => Cert.LossIdeal.Value.oDhb (Cert.LossIdeal.Value.aX m c) (Cert.LossIdeal.Value.aG m c) (Cert.LossIdeal.Value.aT m c),
    fun c => Cert.LossIdeal.Value.oDg (Cert.LossIdeal.Value.aX m c) (Cert.LossIdeal.Value.aG m c) (Cert.LossIdeal.Value.aT m c),
    Cert.LossIdeal.Value.run m g, Cert.LossIdeal.Value.reference m m' g' hag⟩

/-- Every claim of the certificate. -/
theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts,
  Cert.Mix.Gen.facts, Cert.MixIdeal.Gen.facts, Cert.MixRefIdeal.Gen.facts,
  Cert.Half.Gen.facts, Cert.HalfIdeal.Gen.facts, Cert.HalfRefIdeal.Gen.facts,
  Cert.Norm.Gen.facts, Cert.NormIdeal.Gen.facts, Cert.NormRefIdeal.Gen.facts,
  Cert.Loss.Gen.facts, Cert.LossIdeal.Gen.facts, Cert.LossRefIdeal.Gen.facts, Cert.Pre_finite_scores.Gen.facts, Cert.Pre_finite.Gen.facts,
  frame_kernel, fun m g _ => Cert.KernelIdeal.Body.frame m g, fun m g _ => Cert.KernelIdeal.Body.frame m g,
  frame_reference, fun m g _ => frame_reference m g trivial,
  fun m g _ => Cert.Ffn.Gen.frame m g, fun m g _ => Cert.FfnIdeal.Gen.frame m g, fun m g _ => Cert.FfnIdeal.Gen.frame m g,
  frame_layer_reference, fun m g _ => frame_layer_reference m g trivial,
  fun m g _ => Cert.Mix.Gen.frame m g, fun m g _ => Cert.MixIdeal.Gen.frame m g, frame_mix_reference,
  fun m g _ => Cert.Half.Gen.frame m g, fun m g _ => Cert.HalfIdeal.Gen.frame m g, frame_half_reference,
  fun m g _ => Cert.Norm.Gen.frame m g, fun m g _ => Cert.NormIdeal.Gen.frame m g, frame_norm_reference,
  fun m g _ => Cert.Loss.Gen.frame m g, fun m g _ => Cert.LossIdeal.Gen.frame m g, frame_loss_reference,
  trivial, attention, trivial, layer, trivial, mix, trivial, halves, trivial, norms, trivial, loss_head⟩

end Cert.Proof

end
